-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_router [hPre_finite_router : Cert.Pre_finite_router.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_router [hPre_finite_router : Cert.Pre_finite_router.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_compress [hPre_finite_compress : Cert.Pre_finite_compress.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_compress.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_compress [hPre_finite_compress : Cert.Pre_finite_compress.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_compress.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite_router [hKernel4Ideal : Cert.Kernel4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_router m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite_router [hReference4Ideal : Cert.Reference4Ideal.Facts] [hPre_finite_router : Cert.Pre_finite_router.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_router m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_compress [hKernel5Ideal : Cert.Kernel5Ideal.Facts] [hPre_finite_compress : Cert.Pre_finite_compress.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_compress m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_compress [hReference5Ideal : Cert.Reference5Ideal.Facts] [hPre_finite_compress : Cert.Pre_finite_compress.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_compress m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "masked" .f32 0xF1C9F2CA#32 ⊥

def algebraic_Kernel4Ideal_Reference4Ideal_pre_finite_router [hKernel4Ideal : Cert.Kernel4Ideal.Facts] [hReference4Ideal : Cert.Reference4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_router m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v116) = v1 c
          ∧ r.2.mem ((c.tc : Thread Cert.Reference4Ideal.nD Cert.Reference4Ideal.τ).loc Cert.Reference4Ideal.main_v121) = v2 c
          ∧ r.2.mem ((c.tc : Thread Cert.Reference4Ideal.nD Cert.Reference4Ideal.τ).loc Cert.Reference4Ideal.main_v125) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite_compress [hKernel5Ideal : Cert.Kernel5Ideal.Facts] [hReference5Ideal : Cert.Reference5Ideal.Facts] [hPre_finite_compress : Cert.Pre_finite_compress.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_compress m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_range : Cert.Pre_in_range.Facts) (hPre_finite_router : Cert.Pre_finite_router.Facts) (hPre_finite_compress : Cert.Pre_finite_compress.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_router (hKernel4Ideal := hKernel4Ideal) (hPre_finite_router := hPre_finite_router)
    ∧ quiescent_Reference4Ideal (hReference4Ideal := hReference4Ideal)
    ∧ quiescent_Reference4Ideal_pre_finite_router (hReference4Ideal := hReference4Ideal) (hPre_finite_router := hPre_finite_router)
    ∧ quiescent_Kernel5 (hKernel5 := hKernel5)
    ∧ quiescent_Kernel5Ideal (hKernel5Ideal := hKernel5Ideal)
    ∧ quiescent_Kernel5Ideal_pre_finite_compress (hKernel5Ideal := hKernel5Ideal) (hPre_finite_compress := hPre_finite_compress)
    ∧ quiescent_Reference5Ideal (hReference5Ideal := hReference5Ideal)
    ∧ quiescent_Reference5Ideal_pre_finite_compress (hReference5Ideal := hReference5Ideal) (hPre_finite_compress := hPre_finite_compress)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_router (hKernel4Ideal := hKernel4Ideal) (hReference4Ideal := hReference4Ideal) (hPre_finite_router := hPre_finite_router)
    ∧ preserves_Kernel5_Kernel5Ideal
    ∧ algebraic_Kernel5Ideal_Reference5Ideal_pre_finite_compress (hKernel5Ideal := hKernel5Ideal) (hReference5Ideal := hReference5Ideal) (hPre_finite_compress := hPre_finite_compress)
-- ==== Pre_finite_compress.lean ====
abbrev S4x4096x64 : Shape := ⟨3, ![4, 4096, 64]⟩
abbrev S2x32x64 : Shape := ⟨3, ![2, 32, 64]⟩
abbrev S2x2048x64 : Shape := ⟨3, ![2, 2048, 64]⟩
abbrev S2x64x64 : Shape := ⟨3, ![2, 64, 64]⟩
abbrev S3x64 : Shape := ⟨2, ![3, 64]⟩
abbrev S_ : Shape := ⟨0, ![]⟩

class Facts : Prop where
  bcast_S_S2x32x64 : S_.BroadcastsInDim S2x32x64 (![] : Fin 0 → Fin S2x32x64.rank)
  reducesTo_S2x32x64_S_d0_1_2 : S2x32x64.ReducesTo [0, 1, 2] S_
  h_S_ : 0 < S_.numel
  bcast_S_S2x2048x64 : S_.BroadcastsInDim S2x2048x64 (![] : Fin 0 → Fin S2x2048x64.rank)
  reducesTo_S2x2048x64_S_d0_1_2 : S2x2048x64.ReducesTo [0, 1, 2] S_

variable [Facts]

def fn {F : FTy → Type} [FloatOps F] (main_arg0 : FVec F S4x4096x64 .f32) (main_arg1 : FVec F S4x4096x64 .f32) (main_arg2 : FVec F S2x32x64 .f32) (main_arg3 : FVec F S2x2048x64 .f32) (main_arg4 : FVec F S2x64x64 .f32) (main_arg5 : FVec F S3x64 .f32) : IVec S_ 1 :=
  let main_v0 : FVec F S2x32x64 .f32 := Host.absf main_arg2
  let main_cst : FVec F S_ .f32 := constant S_ .f32 0x7F800000#32
  let main_v1 : FVec F S2x32x64 .f32 := broadcastInDim S2x32x64 ![] bcast_S_S2x32x64 main_cst
  let main_v2 : IVec S2x32x64 1 := cmpf .olt main_v0 main_v1
  let main_c : IVec S_ 1 := constantI S_ 1 1#1
  let main_v3 : IVec S_ 1 := (fun x v => Host.reduce IntOp.andi x v reducesTo_S2x32x64_S_d0_1_2 h_S_) main_v2 main_c
  let main_v4 : FVec F S2x2048x64 .f32 := Host.absf main_arg3
  let main_cst_0 : FVec F S_ .f32 := constant S_ .f32 0x7F800000#32
  let main_v5 : FVec F S2x2048x64 .f32 := broadcastInDim S2x2048x64 ![] bcast_S_S2x2048x64 main_cst_0
  let main_v6 : IVec S2x2048x64 1 := cmpf .olt main_v4 main_v5
  let main_c_1 : IVec S_ 1 := constantI S_ 1 1#1
  let main_v7 : IVec S_ 1 := (fun x v => Host.reduce IntOp.andi x v reducesTo_S2x2048x64_S_d0_1_2 h_S_) main_v6 main_c_1
  let main_v8 : IVec S_ 1 := andi main_v3 main_v7
  main_v8
-- ==== Pre_finite_router.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg10 : FVec F S32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S32 .f32 := Host.absf main_arg10
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S16384x1024 .f32) (main_arg1 : FVec F S16384x256 .f32) (main_arg2 : FVec F S16384x256 .f32) (main_arg3 : FVec F S16384x256 .f32) (main_arg4 : FVec F S16384x256 .f32) (main_arg5 : FVec F S1024x1024 .f32) (main_arg6 : FVec F S1024 .f32) (main_arg7 : FVec F S1024x4 .f32) (main_arg8 : FVec F S4 .f32) (main_arg9 : FVec F S1024x32 .f32) (main_arg10 : FVec F S32 .f32) : IVec S_ 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4 .f32 := Host.absf main_arg7
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg8
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x32 .f32 := Host.absf main_arg9
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg10 main_v13 main_v16
-- ==== Pre_in_range.lean ====
abbrev S20 : Shape := ⟨1, ![20]⟩
abbrev S20480x1152 : Shape := ⟨2, ![20480, 1152]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S20 : S_.BroadcastsInDim S20 (![] : Fin 0 → Fin S20.rank)
  reducesTo_S20_S_d0 : S20.ReducesTo [0] S_
  h_S_ : 0 < S_.numel

variable [Facts]

def fn {F : FTy → Type} [FloatOps F] (main_arg0 : IVec S20 32) (main_arg1 : IVec S20 32) (main_arg2 : FVec F S20480x1152 .f32) (main_arg3 : FVec F S4x8x1024x256 .f32) (main_arg4 : FVec F S4x8x1024x256 .f32) (main_arg5 : FVec F S4x8x256x1024 .f32) : IVec S_ 1 :=
  let main_c : IVec S_ 32 := constantI S_ 32 0#32
  let main_v0 : IVec S20 32 := broadcastInDim S20 ![] bcast_S_S20 main_c
  let main_v1 : IVec S20 1 := cmpi .sge main_arg0 main_v0
  let main_c_0 : IVec S_ 32 := constantI S_ 32 4#32
  let main_v2 : IVec S20 32 := broadcastInDim S20 ![] bcast_S_S20 main_c_0
  let main_v3 : IVec S20 1 := cmpi .slt main_arg0 main_v2
  let main_v4 : IVec S20 1 := andi main_v1 main_v3
  let main_c_1 : IVec S_ 1 := constantI S_ 1 1#1
  let main_v5 : IVec S_ 1 := (fun x v => Host.reduce IntOp.andi x v reducesTo_S20_S_d0 h_S_) main_v4 main_c_1
  main_v5
-- ==== Kernel.lean ====
abbrev S20 : Shape := ⟨1, ![20]⟩
abbrev S20480x1152 : Shape := ⟨2, ![20480, 1152]⟩
abbrev S4x8x1024x256 : Shape := ⟨4, ![4, 8, 1024, 256]⟩
abbrev S4x8x256x1024 : Shape := ⟨4, ![4, 8, 256, 1024]⟩
abbrev S8x4x1024x256 : Shape := ⟨4, ![8, 4, 1024, 256]⟩
abbrev S8x4x256x1024 : Shape := ⟨4, ![8, 4, 256, 1024]⟩
abbrev S20480x1024 : Shape := ⟨2, ![20480, 1024]⟩
abbrev S1024x1152 : Shape := ⟨2, ![1024, 1152]⟩
abbrev S1x4x1024x256 : Shape := ⟨4, ![1, 4, 1024, 256]⟩
abbrev S1 : Shape := ⟨1, ![1]⟩
abbrev S1x4x256x1024 : Shape := ⟨4, ![1, 4, 256, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 8
  | .vmem => 11
  | .smem => 2
  | _ => 0

abbrev bufTy : (tb : Table) → Fin (tcTables nBuf tb) → BufTy
  | .hbm, ⟨0, _⟩ => ⟨S20480x1152, .f32⟩
  | .hbm, ⟨1, _⟩ => ⟨S4x8x1024x256, .f32⟩
  | .hbm, ⟨2, _⟩ => ⟨S4x8x1024x256, .f32⟩
  | .hbm, ⟨3, _⟩ => ⟨S4x8x256x1024, .f32⟩
  | .hbm, ⟨4, _⟩ => ⟨S8x4x1024x256, .f32⟩
  | .hbm, ⟨5, _⟩ => ⟨S8x4x1024x256, .f32⟩
  | .hbm, ⟨6, _⟩ => ⟨S8x4x256x1024, .f32⟩
  | .hbm, ⟨7, _⟩ => ⟨S20480x1024, .f32⟩
  | .local _ .vmem, ⟨0, _⟩ => ⟨S1024x1152, .f32⟩
  | .local _ .vmem, ⟨1, _⟩ => ⟨S1024x1152, .f32⟩
  | .local _ .vmem, ⟨2, _⟩ => ⟨S1x4x1024x256, .f32⟩
  | .local _ .vmem, ⟨3, _⟩ => ⟨S1x4x1024x256, .f32⟩
  | .local _ .vmem, ⟨4, _⟩ => ⟨S1x4x1024x256, .f32⟩
  | .local _ .vmem, ⟨5, _⟩ => ⟨S1x4x1024x256, .f32⟩
  | .local _ .vmem, ⟨6, _⟩ => ⟨S1x4x256x1024, .f32⟩
  | .local _ .vmem, ⟨7, _⟩ => ⟨S1x4x256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S20, .i32⟩
  | .local _ .smem, ⟨1, _⟩ => ⟨S20, .i32⟩
  | _, _ => ⟨S20480x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v15 : Index := Scalar.indexCast arg0
  ![v15.toNat]
def k0_cond3 (i : grid0.Coords) : BitVec 1 :=
  let arg1 : BitVec 32 := BitVec.ofNat 32 (i 1).val
  let c1_i32_2 : BitVec 32 := 1#32
  let v8 : BitVec 1 := Scalar.cmpi .eq arg1 c1_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c2_i32 : BitVec 32 := 2#32
  let v2 : BitVec 32 := Scalar.muli v1 c2_i32
  let v3 : BitVec 32 := Scalar.addi v2 arg1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (k0_off1_inb : ∀ i : grid0.Coords, ∀ a, (k0_off1 i) a + S1.size a ≤ S20.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c2_i32 : BitVec 32 := 2#32
  let v2 : BitVec 32 := Scalar.muli v1 c2_i32
  let v3 : BitVec 32 := Scalar.addi v2 arg1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (k0_off1_inb : ∀ i : grid0.Coords, ∀ a, (k0_off1 i) a + S1.size a ≤ S20.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S20) ![v0.toNat] S1.size (k0_off1_inb i)) numel1_S1
  let c2_i32 : BitVec 32 := 2#32
  let v2 : BitVec 32 := Scalar.muli v1 c2_i32
  let v3 : BitVec 32 := Scalar.addi v2 arg1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S20 : Shape := ⟨1, ![20]⟩
abbrev S20480x1152 : Shape := ⟨2, ![20480, 1152]⟩
abbrev S4x8x1024x256 : Shape := ⟨4, ![4, 8, 1024, 256]⟩
abbrev S4x8x256x1024 : Shape := ⟨4, ![4, 8, 256, 1024]⟩
abbrev S20480x1024 : Shape := ⟨2, ![20480, 1024]⟩
abbrev S20480x32 : Shape := ⟨2, ![20480, 32]⟩
abbrev S20480x4x8 : Shape := ⟨3, ![20480, 4, 8]⟩
abbrev S20x1 : Shape := ⟨2, ![20, 1]⟩
abbrev S20x1024 : Shape := ⟨2, ![20, 1024]⟩
abbrev S20480 : Shape := ⟨1, ![20480]⟩
abbrev S_ : Shape := ⟨0, ![]⟩
abbrev S20480x1 : Shape := ⟨2, ![20480, 1]⟩
abbrev S4 : Shape := ⟨1, ![4]⟩
abbrev S1x4 : Shape := ⟨2, ![1, 4]⟩
abbrev S20480x4 : Shape := ⟨2, ![20480, 4]⟩
abbrev S20480x4x1 : Shape := ⟨3, ![20480, 4, 1]⟩
abbrev S1x8x1024x256 : Shape := ⟨4, ![1, 8, 1024, 256]⟩
abbrev S8x1024x256 : Shape := ⟨3, ![8, 1024, 256]⟩
abbrev S20480x8x256 : Shape := ⟨3, ![20480, 8, 256]⟩
abbrev S20480x1x8 : Shape := ⟨3, ![20480, 1, 8]⟩
abbrev S20480x8 : Shape := ⟨2, ![20480, 8]⟩
abbrev S20480x8x1 : Shape := ⟨3, ![20480, 8, 1]⟩
abbrev S1x8x256x1024 : Shape := ⟨4, ![1, 8, 256, 1024]⟩
abbrev S8x256x1024 : Shape := ⟨3, ![8, 256, 1024]⟩

abbrev nBuf : Space → Nat
  | .hbm => 135
  | .vmem => 0
  | .smem => 0
  | _ => 0

abbrev hbmTy0_0 (i : Nat) : BufTy := match i % 128 with
  | 0 => ⟨S20, .i32⟩
  | 1 => ⟨S20, .i32⟩
  | 2 => ⟨S20480x1152, .f32⟩
  | 3 => ⟨S4x8x1024x256, .f32⟩
  | 4 => ⟨S4x8x1024x256, .f32⟩
  | 5 => ⟨S4x8x256x1024, .f32⟩
  | 6 => ⟨S20480x1024, .f32⟩
  | 7 => ⟨S20480x32, .f32⟩
  | 8 => ⟨S20480x4x8, .f32⟩
  | 9 => ⟨S20x1, .i32⟩
  | 10 => ⟨S20x1024, .i32⟩
  | 11 => ⟨S20480, .i32⟩
  | 12 => ⟨S20x1, .i32⟩
  | 13 => ⟨S20x1024, .i32⟩
  | 14 => ⟨S20480, .i32⟩
  | 15 => ⟨S_, .i32⟩
  | 16 => ⟨S20480, .i32⟩
  | 17 => ⟨S20480, .i1⟩
  | 18 => ⟨S20480x1, .i32⟩
  | 19 => ⟨S4, .i32⟩
  | 20 => ⟨S1x4, .i32⟩
  | 21 => ⟨S20480x4, .i32⟩
  | 22 => ⟨S20480x4, .i32⟩
  | 23 => ⟨S20480x4, .i1⟩
  | 24 => ⟨S20480x1, .i1⟩
  | 25 => ⟨S20480x4, .i1⟩
  | 26 => ⟨S20480x4, .i1⟩
  | 27 => ⟨S20480x4x1, .i1⟩
  | 28 => ⟨S_, .f32⟩
  | 29 => ⟨S_, .f32⟩
  | 30 => ⟨S20480x4x8, .i1⟩
  | 31 => ⟨S20480x4x8, .f32⟩
  | 32 => ⟨S20480x4x8, .f32⟩
  | 33 => ⟨S_, .f32⟩
  | 34 => ⟨S20480x1024, .f32⟩
  | 35 => ⟨S1x8x1024x256, .f32⟩
  | 36 => ⟨S8x1024x256, .f32⟩
  | 37 => ⟨S20480x8x256, .f32⟩
  | 38 => ⟨S1x8x1024x256, .f32⟩
  | 39 => ⟨S8x1024x256, .f32⟩
  | 40 => ⟨S20480x8x256, .f32⟩
  | 41 => ⟨S20480x8x256, .f32⟩
  | 42 => ⟨S20480x8x256, .f32⟩
  | 43 => ⟨S_, .f32⟩
  | 44 => ⟨S20480x8x256, .f32⟩
  | 45 => ⟨S20480x8x256, .f32⟩
  | 46 => ⟨S_, .f32⟩
  | 47 => ⟨S20480x8x256, .f32⟩
  | 48 => ⟨S20480x8x256, .f32⟩
  | 49 => ⟨S20480x8x256, .f32⟩
  | 50 => ⟨S20480x8x256, .f32⟩
  | 51 => ⟨S20480x1x8, .f32⟩
  | 52 => ⟨S20480x8, .f32⟩
  | 53 => ⟨S20480x8x1, .f32⟩
  | 54 => ⟨S20480x8x256, .f32⟩
  | 55 => ⟨S20480x8x256, .f32⟩
  | 56 => ⟨S1x8x256x1024, .f32⟩
  | 57 => ⟨S8x256x1024, .f32⟩
  | 58 => ⟨S20480x1024, .f32⟩
  | 59 => ⟨S20480x1024, .f32⟩
  | 60 => ⟨S1x8x1024x256, .f32⟩
  | 61 => ⟨S8x1024x256, .f32⟩
  | 62 => ⟨S20480x8x256, .f32⟩
  | 63 => ⟨S1x8x1024x256, .f32⟩
  | 64 => ⟨S8x1024x256, .f32⟩
  | 65 => ⟨S20480x8x256, .f32⟩
  | 66 => ⟨S20480x8x256, .f32⟩
  | 67 => ⟨S20480x8x256, .f32⟩
  | 68 => ⟨S_, .f32⟩
  | 69 => ⟨S20480x8x256, .f32⟩
  | 70 => ⟨S20480x8x256, .f32⟩
  | 71 => ⟨S_, .f32⟩
  | 72 => ⟨S20480x8x256, .f32⟩
  | 73 => ⟨S20480x8x256, .f32⟩
  | 74 => ⟨S20480x8x256, .f32⟩
  | 75 => ⟨S20480x8x256, .f32⟩
  | 76 => ⟨S20480x1x8, .f32⟩
  | 77 => ⟨S20480x8, .f32⟩
  | 78 => ⟨S20480x8x1, .f32⟩
  | 79 => ⟨S20480x8x256, .f32⟩
  | 80 => ⟨S20480x8x256, .f32⟩
  | 81 => ⟨S1x8x256x1024, .f32⟩
  | 82 => ⟨S8x256x1024, .f32⟩
  | 83 => ⟨S20480x1024, .f32⟩
  | 84 => ⟨S20480x1024, .f32⟩
  | 85 => ⟨S1x8x1024x256, .f32⟩
  | 86 => ⟨S8x1024x256, .f32⟩
  | 87 => ⟨S20480x8x256, .f32⟩
  | 88 => ⟨S1x8x1024x256, .f32⟩
  | 89 => ⟨S8x1024x256, .f32⟩
  | 90 => ⟨S20480x8x256, .f32⟩
  | 91 => ⟨S20480x8x256, .f32⟩
  | 92 => ⟨S20480x8x256, .f32⟩
  | 93 => ⟨S_, .f32⟩
  | 94 => ⟨S20480x8x256, .f32⟩
  | 95 => ⟨S20480x8x256, .f32⟩
  | 96 => ⟨S_, .f32⟩
  | 97 => ⟨S20480x8x256, .f32⟩
  | 98 => ⟨S20480x8x256, .f32⟩
  | 99 => ⟨S20480x8x256, .f32⟩
  | 100 => ⟨S20480x8x256, .f32⟩
  | 101 => ⟨S20480x1x8, .f32⟩
  | 102 => ⟨S20480x8, .f32⟩
  | 103 => ⟨S20480x8x1, .f32⟩
  | 104 => ⟨S20480x8x256, .f32⟩
  | 105 => ⟨S20480x8x256, .f32⟩
  | 106 => ⟨S1x8x256x1024, .f32⟩
  | 107 => ⟨S8x256x1024, .f32⟩
  | 108 => ⟨S20480x1024, .f32⟩
  | 109 => ⟨S20480x1024, .f32⟩
  | 110 => ⟨S1x8x1024x256, .f32⟩
  | 111 => ⟨S8x1024x256, .f32⟩
  | 112 => ⟨S20480x8x256, .f32⟩
  | 113 => ⟨S1x8x1024x256, .f32⟩
  | 114 => ⟨S8x1024x256, .f32⟩
  | 115 => ⟨S20480x8x256, .f32⟩
  | 116 => ⟨S20480x8x256, .f32⟩
  | 117 => ⟨S20480x8x256, .f32⟩
  | 118 => ⟨S_, .f32⟩
  | 119 => ⟨S20480x8x256, .f32⟩
  | 120 => ⟨S20480x8x256, .f32⟩
  | 121 => ⟨S_, .f32⟩
  | 122 => ⟨S20480x8x256, .f32⟩
  | 123 => ⟨S20480x8x256, .f32⟩
  | 124 => ⟨S20480x8x256, .f32⟩
  | 125 => ⟨S20480x8x256, .f32⟩
  | 126 => ⟨S20480x1x8, .f32⟩
  | 127 => ⟨S20480x8, .f32⟩
  | _ => ⟨S20, .i32⟩

abbrev hbmTy0_1 (i : Nat) : BufTy := match i % 128 with
  | 0 => ⟨S20480x8x1, .f32⟩
  | 1 => ⟨S20480x8x256, .f32⟩
  | 2 => ⟨S20480x8x256, .f32⟩
  | 3 => ⟨S1x8x256x1024, .f32⟩
  | 4 => ⟨S8x256x1024, .f32⟩
  | 5 => ⟨S20480x1024, .f32⟩
  | 6 => ⟨S20480x1024, .f32⟩
  | _ => ⟨S20, .i32⟩

abbrev hbmTy (i : Nat) : BufTy := match i / 128 with
  | 0 => hbmTy0_0 i
  | 1 => hbmTy0_1 i
  | _ => ⟨S20, .i32⟩

abbrev bufTy : (tb : Table) → Fin (tcTables nBuf tb) → BufTy
  | .hbm, ⟨i, _⟩ => hbmTy i
  | _, _ => ⟨S20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call4_v0 : Ref sig .tc := ⟨.hbm, 116, rfl⟩
abbrev main_call4_v1 : Ref sig .tc := ⟨.hbm, 117, rfl⟩
abbrev main_call4_cst : Ref sig .tc := ⟨.hbm, 118, rfl⟩
abbrev main_call4_v2 : Ref sig .tc := ⟨.hbm, 119, rfl⟩
abbrev main_call4_v3 : Ref sig .tc := ⟨.hbm, 120, rfl⟩
abbrev main_call4_cst_0 : Ref sig .tc := ⟨.hbm, 121, rfl⟩
abbrev main_call4_v4 : Ref sig .tc := ⟨.hbm, 122, rfl⟩
abbrev main_call4_v5 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]
-- ==== Kernel2.lean ====
abbrev S1024x3476 : Shape := ⟨2, ![1024, 3476]⟩
abbrev S1024x3584 : Shape := ⟨2, ![1024, 3584]⟩
abbrev S128x3476 : Shape := ⟨2, ![128, 3476]⟩
abbrev S128x3584 : Shape := ⟨2, ![128, 3584]⟩
abbrev S128x1536 : Shape := ⟨2, ![128, 1536]⟩
abbrev S128x8 : Shape := ⟨2, ![128, 8]⟩
abbrev S128x1920 : Shape := ⟨2, ![128, 1920]⟩
abbrev S128x12 : Shape := ⟨2, ![128, 12]⟩
abbrev S128x108 : Shape := ⟨2, ![128, 108]⟩

abbrev nBuf : Space → Nat
  | .hbm => 2
  | .vmem => 4
  | .smem => 0
  | _ => 0

abbrev bufTy : (tb : Table) → Fin (tcTables nBuf tb) → BufTy
  | .hbm, ⟨0, _⟩ => ⟨S1024x3476, .f32⟩
  | .hbm, ⟨1, _⟩ => ⟨S1024x3584, .bf16⟩
  | .local _ .vmem, ⟨0, _⟩ => ⟨S128x3476, .f32⟩
  | .local _ .vmem, ⟨1, _⟩ => ⟨S128x3476, .f32⟩
  | .local _ .vmem, ⟨2, _⟩ => ⟨S128x3584, .bf16⟩
  | .local _ .vmem, ⟨3, _⟩ => ⟨S128x3584, .bf16⟩
  | _, _ => ⟨S1024x3476, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3476 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S1024x3476 : Shape := ⟨2, ![1024, 3476]⟩
abbrev S1024x8 : Shape := ⟨2, ![1024, 8]⟩
abbrev S1024x12 : Shape := ⟨2, ![1024, 12]⟩
abbrev S1024x1536 : Shape := ⟨2, ![1024, 1536]⟩
abbrev S1024x1920 : Shape := ⟨2, ![1024, 1920]⟩
abbrev S_ : Shape := ⟨0, ![]⟩
abbrev S1024x108 : Shape := ⟨2, ![1024, 108]⟩
abbrev S1024x3584 : Shape := ⟨2, ![1024, 3584]⟩

abbrev nBuf : Space → Nat
  | .hbm => 9
  | .vmem => 0
  | .smem => 0
  | _ => 0

abbrev bufTy : (tb : Table) → Fin (tcTables nBuf tb) → BufTy
  | .hbm, ⟨0, _⟩ => ⟨S1024x3476, .f32⟩
  | .hbm, ⟨1, _⟩ => ⟨S1024x8, .f32⟩
  | .hbm, ⟨2, _⟩ => ⟨S1024x12, .f32⟩
  | .hbm, ⟨3, _⟩ => ⟨S1024x1536, .f32⟩
  | .hbm, ⟨4, _⟩ => ⟨S1024x1920, .f32⟩
  | .hbm, ⟨5, _⟩ => ⟨S_, .f32⟩
  | .hbm, ⟨6, _⟩ => ⟨S1024x108, .f32⟩
  | .hbm, ⟨7, _⟩ => ⟨S1024x3584, .f32⟩
  | .hbm, ⟨8, _⟩ => ⟨S1024x3584, .bf16⟩
  | _, _ => ⟨S1024x3476, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3584 : Shape := ⟨2, ![1024, 3584]⟩
abbrev S1x1024 : Shape := ⟨2, ![1, 1024]⟩
abbrev S16384x3584 : Shape := ⟨2, ![16384, 3584]⟩
abbrev S256x1024 : Shape := ⟨2, ![256, 1024]⟩
abbrev S256x3584 : Shape := ⟨2, ![256, 3584]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .bf16⟩
  | .hbm, ⟨3, _⟩ => ⟨S1x1024, .f32⟩
  | .hbm, ⟨4, _⟩ => ⟨S16384x3584, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S256x3584, .f32⟩
  | .local _ .vmem, ⟨5, _⟩ => ⟨S256x3584, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1024 : Shape := ⟨2, ![16384, 1024]⟩
abbrev S1024 : Shape := ⟨1, ![1024]⟩
abbrev S1024x3584 : Shape := ⟨2, ![1024, 3584]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x3584, .f32⟩
  | .hbm, ⟨20, _⟩ => ⟨S16384x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16384x1152 : Shape := ⟨2, ![16384, 1152]⟩
abbrev S16384x128 : Shape := ⟨2, ![16384, 128]⟩
abbrev S256x1024 : Shape := ⟨2, ![256, 1024]⟩
abbrev S256x256 : Shape := ⟨2, ![256, 256]⟩
abbrev S256x1152 : Shape := ⟨2, ![256, 1152]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 43
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S1024x1024, .bf16⟩
  | .hbm, ⟨38, _⟩ => ⟨S1x1024, .f32⟩
  | .hbm, ⟨39, _⟩ => ⟨S16384x1024, .f32⟩
  | .hbm, ⟨40, _⟩ => ⟨S16384x1152, .f32⟩
  | .hbm, ⟨41, _⟩ => ⟨S16384x128, .f32⟩
  | .hbm, ⟨42, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S256x1024, .f32⟩
  | .local _ .vmem, ⟨16, _⟩ => ⟨S256x1024, .f32⟩
  | .local _ .vmem, ⟨17, _⟩ => ⟨S256x1152, .f32⟩
  | .local _ .vmem, ⟨18, _⟩ => ⟨S256x1152, .f32⟩
  | .local _ .vmem, ⟨19, _⟩ => ⟨S256x128, .f32⟩
  | .local _ .vmem, ⟨20, _⟩ => ⟨S256x128, .f32⟩
  | .local _ .vmem, ⟨21, _⟩ => ⟨S1x128, .f32⟩
  | .local _ .vmem, ⟨22, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel4Ideal.lean ====
variable {F : FTy → Type} [FloatOps F] [Named F]
def κ : String → Option EReal := fun
  | "masked" => some ⊥
  | _ => none
-- ==== Reference4Ideal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x4x8 : Shape := ⟨3, ![16384, 4, 8]⟩
abbrev S16384x4x1 : Shape := ⟨3, ![16384, 4, 1]⟩
abbrev S16384x8 : Shape := ⟨2, ![16384, 8]⟩
abbrev S8 : Shape := ⟨1, ![8]⟩
abbrev S1x8 : Shape := ⟨2, ![1, 8]⟩
abbrev S16384x1x8 : Shape := ⟨3, ![16384, 1, 8]⟩
abbrev S1x16384 : Shape := ⟨2, ![1, 16384]⟩
abbrev S16384x16384 : Shape := ⟨2, ![16384, 16384]⟩
abbrev S16384x92 : Shape := ⟨2, ![16384, 92]⟩
abbrev S16384x1152 : Shape := ⟨2, ![16384, 1152]⟩
abbrev S16384x126 : Shape := ⟨2, ![16384, 126]⟩
abbrev S16384x128 : Shape := ⟨2, ![16384, 128]⟩
abbrev S124 : Shape := ⟨1, ![124]⟩
abbrev S128 : Shape := ⟨1, ![128]⟩
abbrev S1x128 : Shape := ⟨2, ![1, 128]⟩

abbrev nBuf : Space → Nat
  | .hbm => 193
  | .vmem => 0
  | .smem => 0
  | _ => 0

abbrev hbmTy0_0 (i : Nat) : BufTy := match i % 128 with
  | 0 => ⟨S16384x1024, .f32⟩
  | 1 => ⟨S16384x256, .f32⟩
  | 2 => ⟨S16384x256, .f32⟩
  | 3 => ⟨S16384x256, .f32⟩
  | 4 => ⟨S16384x256, .f32⟩
  | 5 => ⟨S1024x1024, .f32⟩
  | 6 => ⟨S1024, .f32⟩
  | 7 => ⟨S1024x4, .f32⟩
  | 8 => ⟨S4, .f32⟩
  | 9 => ⟨S1024x32, .f32⟩
  | 10 => ⟨S32, .f32⟩
  | 11 => ⟨S16384x1024, .f32⟩
  | 12 => ⟨S16384x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x1024, .f32⟩
  | 26 => ⟨S16384x1024, .f32⟩
  | 27 => ⟨S1x1024, .f32⟩
  | 28 => ⟨S16384x1024, .f32⟩
  | 29 => ⟨S16384x1024, .f32⟩
  | 30 => ⟨S16384x4, .f32⟩
  | 31 => ⟨S1x4, .f32⟩
  | 32 => ⟨S16384x4, .f32⟩
  | 33 => ⟨S16384x4, .f32⟩
  | 34 => ⟨S_, .f32⟩
  | 35 => ⟨S16384, .f32⟩
  | 36 => ⟨S_, .f32⟩
  | 37 => ⟨S16384, .f32⟩
  | 38 => ⟨S16384, .f32⟩
  | 39 => ⟨S16384x1, .f32⟩
  | 40 => ⟨S16384x4, .f32⟩
  | 41 => ⟨S16384x4, .f32⟩
  | 42 => ⟨S16384x4, .f32⟩
  | 43 => ⟨S_, .f32⟩
  | 44 => ⟨S16384, .f32⟩
  | 45 => ⟨S16384x1, .f32⟩
  | 46 => ⟨S16384x4, .f32⟩
  | 47 => ⟨S16384x4, .f32⟩
  | 48 => ⟨S_, .f32⟩
  | 49 => ⟨S16384, .f32⟩
  | 50 => ⟨S16384x1, .f32⟩
  | 51 => ⟨S16384x4, .f32⟩
  | 52 => ⟨S16384x4, .i1⟩
  | 53 => ⟨S4, .i32⟩
  | 54 => ⟨S_, .i32⟩
  | 55 => ⟨S_, .i32⟩
  | 56 => ⟨S16384x4, .i32⟩
  | 57 => ⟨S16384x4, .i32⟩
  | 58 => ⟨S16384x4, .i32⟩
  | 59 => ⟨S_, .i32⟩
  | 60 => ⟨S16384, .i32⟩
  | 61 => ⟨S_, .f32⟩
  | 62 => ⟨S16384, .f32⟩
  | 63 => ⟨S16384x1, .i32⟩
  | 64 => ⟨S1x4, .i32⟩
  | 65 => ⟨S16384x4, .i32⟩
  | 66 => ⟨S16384x4, .i32⟩
  | 67 => ⟨S16384x4, .i1⟩
  | 68 => ⟨S16384x4, .f32⟩
  | 69 => ⟨S16384x32, .f32⟩
  | 70 => ⟨S1x32, .f32⟩
  | 71 => ⟨S16384x32, .f32⟩
  | 72 => ⟨S16384x32, .f32⟩
  | 73 => ⟨S16384x4x8, .f32⟩
  | 74 => ⟨S16384x4x1, .f32⟩
  | 75 => ⟨S16384x4x8, .f32⟩
  | 76 => ⟨S16384x4x8, .f32⟩
  | 77 => ⟨S_, .f32⟩
  | 78 => ⟨S16384x8, .f32⟩
  | 79 => ⟨S_, .f32⟩
  | 80 => ⟨S16384, .f32⟩
  | 81 => ⟨S_, .f32⟩
  | 82 => ⟨S16384, .f32⟩
  | 83 => ⟨S16384, .f32⟩
  | 84 => ⟨S16384x1, .f32⟩
  | 85 => ⟨S16384x8, .f32⟩
  | 86 => ⟨S16384x8, .f32⟩
  | 87 => ⟨S16384x8, .f32⟩
  | 88 => ⟨S_, .f32⟩
  | 89 => ⟨S16384, .f32⟩
  | 90 => ⟨S16384x1, .f32⟩
  | 91 => ⟨S16384x8, .f32⟩
  | 92 => ⟨S16384x8, .f32⟩
  | 93 => ⟨S_, .f32⟩
  | 94 => ⟨S16384, .f32⟩
  | 95 => ⟨S16384x1, .f32⟩
  | 96 => ⟨S16384x8, .f32⟩
  | 97 => ⟨S16384x8, .i1⟩
  | 98 => ⟨S8, .i32⟩
  | 99 => ⟨S_, .i32⟩
  | 100 => ⟨S_, .i32⟩
  | 101 => ⟨S16384x8, .i32⟩
  | 102 => ⟨S16384x8, .i32⟩
  | 103 => ⟨S16384x8, .i32⟩
  | 104 => ⟨S_, .i32⟩
  | 105 => ⟨S16384, .i32⟩
  | 106 => ⟨S16384x1, .i32⟩
  | 107 => ⟨S1x8, .i32⟩
  | 108 => ⟨S16384x8, .i32⟩
  | 109 => ⟨S16384x8, .i32⟩
  | 110 => ⟨S16384x8, .i1⟩
  | 111 => ⟨S16384x8, .f32⟩
  | 112 => ⟨S_, .f32⟩
  | 113 => ⟨S16384x8, .f32⟩
  | 114 => ⟨S16384x8, .i1⟩
  | 115 => ⟨S_, .f32⟩
  | 116 => ⟨S_, .f32⟩
  | 117 => ⟨S16384x8, .f32⟩
  | 118 => ⟨S16384x8, .f32⟩
  | 119 => ⟨S_, .f32⟩
  | 120 => ⟨S16384, .f32⟩
  | 121 => ⟨S16384x1, .f32⟩
  | 122 => ⟨S16384x8, .f32⟩
  | 123 => ⟨S16384x8, .i1⟩
  | 124 => ⟨S8, .i32⟩
  | 125 => ⟨S_, .i32⟩
  | 126 => ⟨S_, .i32⟩
  | 127 => ⟨S16384x8, .i32⟩
  | _ => ⟨S16384x1024, .f32⟩

abbrev hbmTy0_1 (i : Nat) : BufTy := match i % 128 with
  | 0 => ⟨S16384x8, .i32⟩
  | 1 => ⟨S16384x8, .i32⟩
  | 2 => ⟨S_, .i32⟩
  | 3 => ⟨S16384, .i32⟩
  | 4 => ⟨S16384x1, .i32⟩
  | 5 => ⟨S1x8, .i32⟩
  | 6 => ⟨S16384x8, .i32⟩
  | 7 => ⟨S16384x8, .i32⟩
  | 8 => ⟨S16384x8, .i1⟩
  | 9 => ⟨S16384x8, .f32⟩
  | 10 => ⟨S_, .f32⟩
  | 11 => ⟨S16384, .f32⟩
  | 12 => ⟨S_, .f32⟩
  | 13 => ⟨S16384, .f32⟩
  | 14 => ⟨S16384, .f32⟩
  | 15 => ⟨S16384, .f32⟩
  | 16 => ⟨S16384, .f32⟩
  | 17 => ⟨S16384, .f32⟩
  | 18 => ⟨S16384, .f32⟩
  | 19 => ⟨S16384, .f32⟩
  | 20 => ⟨S16384x1, .f32⟩
  | 21 => ⟨S16384x8, .f32⟩
  | 22 => ⟨S16384x8, .f32⟩
  | 23 => ⟨S16384x1, .f32⟩
  | 24 => ⟨S16384x8, .f32⟩
  | 25 => ⟨S16384x8, .f32⟩
  | 26 => ⟨S16384x8, .f32⟩
  | 27 => ⟨S16384x4x1, .f32⟩
  | 28 => ⟨S16384x1x8, .f32⟩
  | 29 => ⟨S16384x4x8, .f32⟩
  | 30 => ⟨S16384x4x8, .f32⟩
  | 31 => ⟨S16384x4x8, .f32⟩
  | 32 => ⟨S16384, .i32⟩
  | 33 => ⟨S1x16384, .i32⟩
  | 34 => ⟨S16384x1, .i32⟩
  | 35 => ⟨S16384x16384, .i32⟩
  | 36 => ⟨S16384x16384, .i32⟩
  | 37 => ⟨S16384x16384, .i1⟩
  | 38 => ⟨S1x16384, .i32⟩
  | 39 => ⟨S16384x1, .i32⟩
  | 40 => ⟨S16384x16384, .i32⟩
  | 41 => ⟨S16384x16384, .i32⟩
  | 42 => ⟨S16384x16384, .i1⟩
  | 43 => ⟨S16384x16384, .i1⟩
  | 44 => ⟨S16384x16384, .f32⟩
  | 45 => ⟨S_, .f32⟩
  | 46 => ⟨S16384, .f32⟩
  | 47 => ⟨S_, .f32⟩
  | 48 => ⟨S16384x4, .f32⟩
  | 49 => ⟨S16384x32, .f32⟩
  | 50 => ⟨S_, .f32⟩
  | 51 => ⟨S16384x92, .f32⟩
  | 52 => ⟨S16384x1152, .f32⟩
  | 53 => ⟨S16384x1, .i32⟩
  | 54 => ⟨S16384x1, .f32⟩
  | 55 => ⟨S16384x1, .f32⟩
  | 56 => ⟨S_, .f32⟩
  | 57 => ⟨S16384x126, .f32⟩
  | 58 => ⟨S16384x128, .f32⟩
  | 59 => ⟨S_, .f32⟩
  | 60 => ⟨S4, .f32⟩
  | 61 => ⟨S_, .f32⟩
  | 62 => ⟨S124, .f32⟩
  | 63 => ⟨S128, .f32⟩
  | 64 => ⟨S1x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v65 : Ref sig .tc := ⟨.hbm, 103, rfl⟩
abbrev main_c_14 : Ref sig .tc := ⟨.hbm, 104, rfl⟩
abbrev main_v66 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v67 : Ref sig .tc := ⟨.hbm, 111, rfl⟩
abbrev main_cst_15 : Ref sig .tc := ⟨.hbm, 112, rfl⟩
abbrev main_v68 : Ref sig .tc := ⟨.hbm, 113, rfl⟩
abbrev main_v69 : Ref sig .tc := ⟨.hbm, 114, rfl⟩
abbrev main_cst_16 : Ref sig .tc := ⟨.hbm, 115, rfl⟩
abbrev main_call4_v0 : Ref sig .tc := ⟨.hbm, 116, rfl⟩
abbrev main_call4_v1 : Ref sig .tc := ⟨.hbm, 117, rfl⟩
abbrev main_v70 : Ref sig .tc := ⟨.hbm, 118, rfl⟩
abbrev main_cst_17 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_18 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v76 : Ref sig .tc := ⟨.hbm, 129, rfl⟩
abbrev main_c_19 : Ref sig .tc := ⟨.hbm, 130, rfl⟩
abbrev main_v77 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v78 : Ref sig .tc := ⟨.hbm, 137, rfl⟩
abbrev main_cst_20 : Ref sig .tc := ⟨.hbm, 138, rfl⟩
abbrev main_v79 : Ref sig .tc := ⟨.hbm, 139, rfl⟩
abbrev main_cst_21 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_cst_22 : Ref sig .tc := ⟨.hbm, 173, rfl⟩
abbrev main_v112 : Ref sig .tc := ⟨.hbm, 174, rfl⟩
abbrev main_cst_23 : Ref sig .tc := ⟨.hbm, 175, rfl⟩
abbrev main_v113 : Ref sig .tc := ⟨.hbm, 176, rfl⟩
abbrev main_v114 : Ref sig .tc := ⟨.hbm, 177, rfl⟩
abbrev main_cst_24 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_25 : Ref sig .tc := ⟨.hbm, 184, rfl⟩
abbrev main_v120 : Ref sig .tc := ⟨.hbm, 185, rfl⟩
abbrev main_v121 : Ref sig .tc := ⟨.hbm, 186, rfl⟩
abbrev main_cst_26 : Ref sig .tc := ⟨.hbm, 187, rfl⟩
abbrev main_v122 : Ref sig .tc := ⟨.hbm, 188, rfl⟩
abbrev main_cst_27 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩

abbrev nD : Nat := 1
abbrev τ : Topo := Topo.v7x

variable {F : FTy → Type} [FloatOps F]
-- ==== Kernel5.lean ====
abbrev S4x4096x64 : Shape := ⟨3, ![4, 4096, 64]⟩
abbrev S2x32x64 : Shape := ⟨3, ![2, 32, 64]⟩
abbrev S2x2048x64 : Shape := ⟨3, ![2, 2048, 64]⟩
abbrev S2x64x64 : Shape := ⟨3, ![2, 64, 64]⟩
abbrev S3x64 : Shape := ⟨2, ![3, 64]⟩
abbrev S4x256x1024 : Shape := ⟨3, ![4, 256, 1024]⟩
abbrev S2x1x2048 : Shape := ⟨3, ![2, 1, 2048]⟩
abbrev S4x256x64 : Shape := ⟨3, ![4, 256, 64]⟩
abbrev S4x64x256 : Shape := ⟨3, ![4, 64, 256]⟩
abbrev S1x256x1024 : Shape := ⟨3, ![1, 256, 1024]⟩
abbrev S1x256x64 : Shape := ⟨3, ![1, 256, 64]⟩
abbrev S1x64x256 : Shape := ⟨3, ![1, 64, 256]⟩
abbrev S264x64 : Shape := ⟨2, ![264, 64]⟩
abbrev S8x64 : Shape := ⟨2, ![8, 64]⟩
abbrev S256x1024 : Shape := ⟨2, ![256, 1024]⟩
abbrev S1x2048x64 : Shape := ⟨3, ![1, 2048, 64]⟩
abbrev S2048x64 : Shape := ⟨2, ![2048, 64]⟩
abbrev S1024x64 : Shape := ⟨2, ![1024, 64]⟩
abbrev S256x64 : Shape := ⟨2, ![256, 64]⟩
abbrev S1x1x2048 : Shape := ⟨3, ![1, 1, 2048]⟩
abbrev S1x2048 : Shape := ⟨2, ![1, 2048]⟩
abbrev S8x2048 : Shape := ⟨2, ![8, 2048]⟩
abbrev S1x64 : Shape := ⟨2, ![1, 64]⟩
abbrev S1x64x64 : Shape := ⟨3, ![1, 64, 64]⟩
abbrev S64x64 : Shape := ⟨2, ![64, 64]⟩
abbrev S256 : Shape := ⟨1, ![256]⟩
abbrev S256x1 : Shape := ⟨2, ![256, 1]⟩
abbrev S64x256 : Shape := ⟨2, ![64, 256]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S2x32x64, .f32⟩
  | .hbm, ⟨3, _⟩ => ⟨S2x2048x64, .f32⟩
  | .hbm, ⟨4, _⟩ => ⟨S2x64x64, .f32⟩
  | .hbm, ⟨5, _⟩ => ⟨S3x64, .f32⟩
  | .hbm, ⟨6, _⟩ => ⟨S4x256x1024, .f32⟩
  | .hbm, ⟨7, _⟩ => ⟨S4x256x1024, .f32⟩
  | .hbm, ⟨8, _⟩ => ⟨S2x2048x64, .bf16⟩
  | .hbm, ⟨9, _⟩ => ⟨S2x64x64, .bf16⟩
  | .hbm, ⟨10, _⟩ => ⟨S2x1x2048, .f32⟩
  | .hbm, ⟨11, _⟩ => ⟨S4x256x64, .bf16⟩
  | .hbm, ⟨12, _⟩ => ⟨S4x64x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S2x2048x64, .bf16⟩
  | .local _ .vmem, ⟨5, _⟩ => ⟨S2x64x64, .bf16⟩
  | .local _ .vmem, ⟨6, _⟩ => ⟨S2x1x2048, .f32⟩
  | .local _ .vmem, ⟨7, _⟩ => ⟨S3x64, .f32⟩
  | .local _ .vmem, ⟨8, _⟩ => ⟨S1x256x64, .bf16⟩
  | .local _ .vmem, ⟨9, _⟩ => ⟨S1x256x64, .bf16⟩
  | .local _ .vmem, ⟨10, _⟩ => ⟨S1x64x256, .bf16⟩
  | .local _ .vmem, ⟨11, _⟩ => ⟨S1x64x256, .bf16⟩
  | .local _ .vmem, ⟨12, _⟩ => ⟨S264x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x4096x64 : Shape := ⟨3, ![4, 4096, 64]⟩
abbrev S2x32x64 : Shape := ⟨3, ![2, 32, 64]⟩
abbrev S2x2048x64 : Shape := ⟨3, ![2, 2048, 64]⟩
abbrev S2x64x64 : Shape := ⟨3, ![2, 64, 64]⟩
abbrev S3x64 : Shape := ⟨2, ![3, 64]⟩
abbrev S256 : Shape := ⟨1, ![256]⟩
abbrev S_ : Shape := ⟨0, ![]⟩
abbrev S256x1 : Shape := ⟨2, ![256, 1]⟩
abbrev S32 : Shape := ⟨1, ![32]⟩
abbrev S1x32 : Shape := ⟨2, ![1, 32]⟩
abbrev S256x32 : Shape := ⟨2, ![256, 32]⟩
abbrev S4x4112x64 : Shape := ⟨3, ![4, 4112, 64]⟩
abbrev S256x32x1 : Shape := ⟨3, ![256, 32, 1]⟩
abbrev S4x256x32x64 : Shape := ⟨4, ![4, 256, 32, 64]⟩
abbrev S1x32x64 : Shape := ⟨3, ![1, 32, 64]⟩
abbrev S32x64 : Shape := ⟨2, ![32, 64]⟩
abbrev S1x1x32x64 : Shape := ⟨4, ![1, 1, 32, 64]⟩
abbrev S4x256x2048 : Shape := ⟨3, ![4, 256, 2048]⟩
abbrev S1x2048x64 : Shape := ⟨3, ![1, 2048, 64]⟩
abbrev S2048x64 : Shape := ⟨2, ![2048, 64]⟩
abbrev S4x256x64 : Shape := ⟨3, ![4, 256, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S4x256 : Shape := ⟨2, ![4, 256]⟩
abbrev S4x256x1 : Shape := ⟨3, ![4, 256, 1]⟩
abbrev S1x1x64 : Shape := ⟨3, ![1, 1, 64]⟩
abbrev S4x64x256 : Shape := ⟨3, ![4, 64, 256]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S2x32x64, .f32⟩
  | .hbm, ⟨3, _⟩ => ⟨S2x2048x64, .f32⟩
  | .hbm, ⟨4, _⟩ => ⟨S2x64x64, .f32⟩
  | .hbm, ⟨5, _⟩ => ⟨S3x64, .f32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S32, .i32⟩
  | .hbm, ⟨12, _⟩ => ⟨S1x32, .i32⟩
  | .hbm, ⟨13, _⟩ => ⟨S256x32, .i32⟩
  | .hbm, ⟨14, _⟩ => ⟨S256x32, .i32⟩
  | .hbm, ⟨15, _⟩ => ⟨S256x32, .i32⟩
  | .hbm, ⟨16, _⟩ => ⟨S_, .i32⟩
  | .hbm, ⟨17, _⟩ => ⟨S_, .f32⟩
  | .hbm, ⟨18, _⟩ => ⟨S4x4112x64, .f32⟩
  | .hbm, ⟨19, _⟩ => ⟨S_, .i32⟩
  | .hbm, ⟨20, _⟩ => ⟨S256x32, .i32⟩
  | .hbm, ⟨21, _⟩ => ⟨S256x32, .i1⟩
  | .hbm, ⟨22, _⟩ => ⟨S_, .i32⟩
  | .hbm, ⟨23, _⟩ => ⟨S256x32, .i32⟩
  | .hbm, ⟨24, _⟩ => ⟨S256x32, .i32⟩
  | .hbm, ⟨25, _⟩ => ⟨S256x32, .i32⟩
  | .hbm, ⟨26, _⟩ => ⟨S256x32x1, .i32⟩
  | .hbm, ⟨27, _⟩ => ⟨S4x256x32x64, .f32⟩
  | .hbm, ⟨28, _⟩ => ⟨S1x32x64, .f32⟩
  | .hbm, ⟨29, _⟩ => ⟨S32x64, .f32⟩
  | .hbm, ⟨30, _⟩ => ⟨S1x1x32x64, .f32⟩
  | .hbm, ⟨31, _⟩ => ⟨S4x256x32x64, .f32⟩
  | .hbm, ⟨32, _⟩ => ⟨S4x256x32x64, .f32⟩
  | .hbm, ⟨33, _⟩ => ⟨S4x256x2048, .f32⟩
  | .hbm, ⟨34, _⟩ => ⟨S1x2048x64, .f32⟩
  | .hbm, ⟨35, _⟩ => ⟨S2048x64, .f32⟩
  | .hbm, ⟨36, _⟩ => ⟨S4x256x64, .f32⟩
  | .hbm, ⟨37, _⟩ => ⟨S4x256x64, .f32⟩
  | .hbm, ⟨38, _⟩ => ⟨S4x256x64, .f32⟩
  | .hbm, ⟨39, _⟩ => ⟨S_, .f32⟩
  | .hbm, ⟨40, _⟩ => ⟨S4x256x64, .f32⟩
  | .hbm, ⟨41, _⟩ => ⟨S4x256x64, .f32⟩
  | .hbm, ⟨42, _⟩ => ⟨S4x256x64, .f32⟩
  | .hbm, ⟨43, _⟩ => ⟨S_, .f32⟩
  | .hbm, ⟨44, _⟩ => ⟨S4x256x64, .f32⟩
  | .hbm, ⟨45, _⟩ => ⟨S4x256x64, .f32⟩
  | .hbm, ⟨46, _⟩ => ⟨S4x256x64, .f32⟩
  | .hbm, ⟨47, _⟩ => ⟨S_, .f32⟩
  | .hbm, ⟨48, _⟩ => ⟨S4x256x64, .f32⟩
  | .hbm, ⟨49, _⟩ => ⟨S4x256x64, .f32⟩
  | .hbm, ⟨50, _⟩ => ⟨S_, .f32⟩
  | .hbm, ⟨51, _⟩ => ⟨S4x256x64, .f32⟩
  | .hbm, ⟨52, _⟩ => ⟨S4x256x64, .f32⟩
  | .hbm, ⟨53, _⟩ => ⟨S4x256x64, .f32⟩
  | .hbm, ⟨54, _⟩ => ⟨S1x64x64, .f32⟩
  | .hbm, ⟨55, _⟩ => ⟨S64x64, .f32⟩
  | .hbm, ⟨56, _⟩ => ⟨S4x256x64, .f32⟩
  | .hbm, ⟨57, _⟩ => ⟨S1x64, .f32⟩
  | .hbm, ⟨58, _⟩ => ⟨S64, .f32⟩
  | .hbm, ⟨59, _⟩ => ⟨S4x256x64, .f32⟩
  | .hbm, ⟨60, _⟩ => ⟨S_, .f32⟩
  | .hbm, ⟨61, _⟩ => ⟨S4x256, .f32⟩
  | .hbm, ⟨62, _⟩ => ⟨S4x256x1, .f32⟩
  | .hbm, ⟨63, _⟩ => ⟨S_, .f32⟩
  | .hbm, ⟨64, _⟩ => ⟨S4x256x1, .f32⟩
  | .hbm, ⟨65, _⟩ => ⟨S4x256x1, .f32⟩
  | .hbm, ⟨66, _⟩ => ⟨S_, .f32⟩
  | .hbm, ⟨67, _⟩ => ⟨S4x256x1, .f32⟩
  | .hbm, ⟨68, _⟩ => ⟨S4x256x1, .f32⟩
  | .hbm, ⟨69, _⟩ => ⟨S4x256x1, .f32⟩
  | .hbm, ⟨70, _⟩ => ⟨S4x256x64, .f32⟩
  | .hbm, ⟨71, _⟩ => ⟨S4x256x64, .f32⟩
  | .hbm, ⟨72, _⟩ => ⟨S1x1x64, .f32⟩
  | .hbm, ⟨73, _⟩ => ⟨S4x256x64, .f32⟩
  | .hbm, ⟨74, _⟩ => ⟨S4x256x64, .f32⟩
  | .hbm, ⟨75, _⟩ => ⟨S_, .i32⟩
  | .hbm, ⟨76, _⟩ => ⟨S_, .f32⟩
  | .hbm, ⟨77, _⟩ => ⟨S4x4112x64, .f32⟩
  | .hbm, ⟨78, _⟩ => ⟨S_, .i32⟩
  | .hbm, ⟨79, _⟩ => ⟨S256x32, .i32⟩
  | .hbm, ⟨80, _⟩ => ⟨S256x32, .i1⟩
  | .hbm, ⟨81, _⟩ => ⟨S_, .i32⟩
  | .hbm, ⟨82, _⟩ => ⟨S256x32, .i32⟩
  | .hbm, ⟨83, _⟩ => ⟨S256x32, .i32⟩
  | .hbm, ⟨84, _⟩ => ⟨S256x32, .i32⟩
  | .hbm, ⟨85, _⟩ => ⟨S256x32x1, .i32⟩
  | .hbm, ⟨86, _⟩ => ⟨S4x256x32x64, .f32⟩
  | .hbm, ⟨87, _⟩ => ⟨S1x32x64, .f32⟩
  | .hbm, ⟨88, _⟩ => ⟨S32x64, .f32⟩
  | .hbm, ⟨89, _⟩ => ⟨S1x1x32x64, .f32⟩
  | .hbm, ⟨90, _⟩ => ⟨S4x256x32x64, .f32⟩
  | .hbm, ⟨91, _⟩ => ⟨S4x256x32x64, .f32⟩
  | .hbm, ⟨92, _⟩ => ⟨S4x256x2048, .f32⟩
  | .hbm, ⟨93, _⟩ => ⟨S1x2048x64, .f32⟩
  | .hbm, ⟨94, _⟩ => ⟨S2048x64, .f32⟩
  | .hbm, ⟨95, _⟩ => ⟨S4x256x64, .f32⟩
  | .hbm, ⟨96, _⟩ => ⟨S4x256x64, .f32⟩
  | .hbm, ⟨97, _⟩ => ⟨S4x256x64, .f32⟩
  | .hbm, ⟨98, _⟩ => ⟨S_, .f32⟩
  | .hbm, ⟨99, _⟩ => ⟨S4x256x64, .f32⟩
  | .hbm, ⟨100, _⟩ => ⟨S4x256x64, .f32⟩
  | .hbm, ⟨101, _⟩ => ⟨S4x256x64, .f32⟩
  | .hbm, ⟨102, _⟩ => ⟨S_, .f32⟩
  | .hbm, ⟨103, _⟩ => ⟨S4x256x64, .f32⟩
  | .hbm, ⟨104, _⟩ => ⟨S4x256x64, .f32⟩
  | .hbm, ⟨105, _⟩ => ⟨S4x256x64, .f32⟩
  | .hbm, ⟨106, _⟩ => ⟨S_, .f32⟩
  | .hbm, ⟨107, _⟩ => ⟨S4x256x64, .f32⟩
  | .hbm, ⟨108, _⟩ => ⟨S4x256x64, .f32⟩
  | .hbm, ⟨109, _⟩ => ⟨S_, .f32⟩
  | .hbm, ⟨110, _⟩ => ⟨S4x256x64, .f32⟩
  | .hbm, ⟨111, _⟩ => ⟨S4x256x64, .f32⟩
  | .hbm, ⟨112, _⟩ => ⟨S4x256x64, .f32⟩
  | .hbm, ⟨113, _⟩ => ⟨S1x64x64, .f32⟩
  | .hbm, ⟨114, _⟩ => ⟨S64x64, .f32⟩
  | .hbm, ⟨115, _⟩ => ⟨S4x256x64, .f32⟩
  | .hbm, ⟨116, _⟩ => ⟨S4x256x64, .bf16⟩
  | .hbm, ⟨117, _⟩ => ⟨S4x64x256, .f32⟩
  | .hbm, ⟨118, _⟩ => ⟨S4x64x256, .bf16⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call0_v0 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_9 : Ref sig .tc := ⟨.hbm, 75, rfl⟩
abbrev main_call1_v0 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_cst_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Proof.Words.lean ====
/- What the precondition says of the table of tile groups: every word of it is one of the four groups. -/
module

public import proofs.«01_k».proof.Proof.Gen.Pre_in_range
public import Idealize.ShloMosaic.Lib.ReduceAll
public import Idealize.ShloMosaic.Lib.WordArith

@[expose] public section

namespace Cert.Experts

open Idealize.ShloMosaic Idealize.ShloMosaic.WordArith

/-- The printed predicate is `(g ≥ 0) ∧ (g < 4)` of every entry `g` of the first table: where it is set, every entry
    is below 4. -/
theorem word_lt_four {F : FTy → Type} [FloatOps F] {g v : IVec Pre_in_range.S20 32}
    {xs : FVec F Pre_in_range.S20480x1152 .f32} {wg wu : FVec F Pre_in_range.S4x8x1024x256 .f32}
    {wd : FVec F Pre_in_range.S4x8x256x1024 .f32} (h : Pre_in_range.fn g v xs wg wu wd = fun _ => 1#1)
    (i : Pre_in_range.S20.Idx) : (g i).toNat < 4 := by
  have e := congrFun h (Shape.Idx.first Pre_in_range.Facts.h_S_)
  dsimp only [Pre_in_range.fn] at e
  have ei := Host.reduce_andi_all _ _ _ _ _ e i
  simp only [andi, cmpi, broadcastInDim, constantI, IntOp.cmpi, andi_ofBool, ofBool_eq_one_iff, Bool.and_eq_true] at ei
  exact toNat_lt_of_zero_sle_of_slt_ofNat _ _ (by decide) ei.1 ei.2

/-- Twice a word below 4, plus a word below 2, is below 8 and does not wrap. -/
theorem word_step {g e : BitVec 32} (hg : g.toNat < 4) (he : e.toNat < 2) :
    (Scalar.addi (Scalar.muli g 2#32) e).toNat = 2 * g.toNat + e.toNat := by
  show (g * 2#32 + e).toNat = _
  rw [BitVec.toNat_add, BitVec.toNat_mul]
  simp only [BitVec.toNat_ofNat]
  omega

end Cert.Experts
-- ==== Proof.Mix.lean ====
module
public import Idealize.ShloMosaic.Lib.Pointwise
@[expose] public section
noncomputable section

/-! One expert's part of one token's result, as sums over the extended reals. -/

namespace Cert.Experts

open Idealize.ShloMosaic

/-- `a · σ(a)`, the logistic function written with its exponential. -/
def silu (a : EReal) : EReal := a * Ideal.div 1 (1 + Ideal.exp (-a))

/-- What one expert adds to one column of one token's result: the token's row `x` goes through the gate matrix `G` and
    the up matrix `U` to the hidden row, which is scaled by the token's weight `w` and contracted with the column `D`
    of the down matrix. -/
def expert (x : Fin 1024 → EReal) (w : EReal) (G U : Fin 1024 → Fin 256 → EReal) (D : Fin 256 → EReal) : EReal :=
  ∑ f, silu (∑ k, x k * G k f) * (∑ k, x k * U k f) * w * D f

/-- A token lane as a lane of the wider row that holds the gates too. -/
def wide (k : Fin 1024) : Fin 1152 := ⟨k.val, by omega⟩

/-- The lane of the row that holds the gate of expert `e` of group `g`. -/
def laneOf (g : Fin 4) (e : Fin 8) : Fin 1152 := ⟨1028 + (g.val * 8 + e.val), by omega⟩

/-- The expert that a grid step `s` visits as its `k`-th. -/
def stepExpert (s : Fin 2) (k : Fin 4) : Fin 8 := ⟨4 * s.val + k.val, by omega⟩

/-- The logistic function with its argument negated by a subtraction from zero. -/
theorem silu_zero_sub (a : EReal) : a * Ideal.div 1 (1 + Ideal.exp (0 - a)) = silu a := by
  rw [zero_sub, silu]

/-- An expert whose weight for the token is zero adds nothing. -/
theorem expert_zero (x : Fin 1024 → EReal) (G U : Fin 1024 → Fin 256 → EReal) (D : Fin 256 → EReal) :
    expert x 0 G U D = 0 := by
  simp [expert]

/-- A sum over eight experts is the sum over the first four and the sum over the last four. -/
theorem sum_eight (t : Fin 8 → EReal) :
    ∑ e, t e = (t 0 + t 1 + t 2 + t 3) + (t 4 + t 5 + t 6 + t 7) := by
  simp only [Fin.sum_univ_eight, add_assoc]

/-- The same sum by the two grid steps. -/
theorem sum_steps (t : Fin 8 → EReal) :
    ∑ e, t e = (t (stepExpert 0 0) + t (stepExpert 0 1) + t (stepExpert 0 2) + t (stepExpert 0 3))
      + (t (stepExpert 1 0) + t (stepExpert 1 1) + t (stepExpert 1 2) + t (stepExpert 1 3)) := sum_eight t

/-- The tile of a row: rows are grouped by 1024. -/
def tileOf (R : Fin 20480) : Fin 20 := ⟨R.val / 1024, by omega⟩

/-- What expert `e` of group `g` adds at row `R`, column `n`, the row's own gate for it the weight. -/
def share (xs : Fin 20480 → Fin 1152 → EReal) (wg wu : Fin 4 → Fin 8 → Fin 1024 → Fin 256 → EReal)
    (wd : Fin 4 → Fin 8 → Fin 256 → Fin 1024 → EReal) (R : Fin 20480) (n : Fin 1024) (g : Fin 4) (e : Fin 8) : EReal :=
  expert (fun k => xs R (wide k)) (xs R (laneOf g e)) (wg g e) (wu g e) (fun f => wd g e f n)

/-- The routed experts: a row of a tile in use gets its group's eight experts, any other row gets zero. -/
def routed (grp vld : Fin 20 → BitVec 32) (xs : Fin 20480 → Fin 1152 → EReal)
    (wg wu : Fin 4 → Fin 8 → Fin 1024 → Fin 256 → EReal) (wd : Fin 4 → Fin 8 → Fin 256 → Fin 1024 → EReal)
    (R : Fin 20480) (n : Fin 1024) : EReal :=
  if vld (tileOf R) = 1#32 then ∑ e, share xs wg wu wd R n (Fin.ofNat 4 (grp (tileOf R)).toNat) e else 0

/-- Of four groups only the token's own adds anything. -/
theorem sum_four_one (g : Fin 4) (t : Fin 4 → EReal) (h : ∀ j, j ≠ g → t j = 0) :
    0 + t 0 + t 1 + t 2 + t 3 = t g := by
  fin_cases g <;> simp [h]

end Cert.Experts
-- ==== Proof.Block.lean ====
module
public import proofs.«01_k».proof.Proof.Gen.KernelIdeal.Frame
public import proofs.«01_k».proof.Proof.Mix
public import Idealize.ShloMosaic.Lib.Pipeline.ValueKit
@[expose] public section
set_option maxRecDepth 16384
noncomputable section

/-! What one grid step of the kernel adds to its accumulator, at an index. -/

namespace Cert.KernelIdeal.Experts

open Cert.KernelIdeal Cert.KernelIdeal.Gen Cert.Experts
open Idealize.ShloMosaic Idealize.ShloMosaic.TcCoe

section
variable {F : FTy → Type} [FloatOps F]

/-- The first 1024 lanes of a tile of rows: the tokens. -/
def tokens (x0 : Vec F S1024x1152 .f32) : Vec F S1024x1024 .f32 :=
  View.ld x0 (Rect.unit ![0, 0] ![1024, 1024] inb_S1024x1152_S1024x1024_0_0)

/-- The last 128 lanes of a tile of rows: the gates among them. -/
def lanes (x0 : Vec F S1024x1152 .f32) : Vec F S1024x128 .f32 :=
  View.ld x0 (Rect.unit ![0, 1024] ![1024, 128] inb_S1024x1152_S1024x128_0_1024)

/-- The accumulator after a grid step in use, from the step's number, the tile's group, the staged blocks and the
    accumulator before. -/
def step (s g : BitVec 32) (x0 : Vec F S1024x1152 .f32) (x1 x2 : Vec F S1x4x1024x256 .f32) (x3 : Vec F S1x4x256x1024 .f32)
    (acc : Vec F S1024x1024 .f32) : Vec F S1024x1024 .f32 :=
  k0_pay2
    (k0_pay10
      (k0_pay7
        (k0_pay5
          (k0_pay4 s (tokens x0) (lanes x0) g
            (View.ld x1 (Rect.unit ![0, 0, 0, 0] ![1, 1, 1024, 256] inb_S1x4x1024x256_S1x1x1024x256_0_0_0_0))
            (View.ld x2 (Rect.unit ![0, 0, 0, 0] ![1, 1, 1024, 256] inb_S1x4x1024x256_S1x1x1024x256_0_0_0_0)))
          (View.ld x3 (Rect.unit ![0, 0, 0, 0] ![1, 1, 256, 1024] inb_S1x4x256x1024_S1x1x256x1024_0_0_0_0)))
        (k0_pay6 s (k0_pay3 (tokens x0)) (lanes x0) (iota Kind.tc S1024x128 32 [1] iota_S1024x128_d1_w32) g
          (View.ld x1 (Rect.unit ![0, 1, 0, 0] ![1, 1, 1024, 256] inb_S1x4x1024x256_S1x1x1024x256_0_1_0_0))
          (View.ld x2 (Rect.unit ![0, 1, 0, 0] ![1, 1, 1024, 256] inb_S1x4x1024x256_S1x1x1024x256_0_1_0_0)))
        (View.ld x3 (Rect.unit ![0, 1, 0, 0] ![1, 1, 256, 1024] inb_S1x4x256x1024_S1x1x256x1024_0_1_0_0)))
      (k0_pay8 s (lanes x0) (iota Kind.tc S1024x128 32 [1] iota_S1024x128_d1_w32) g)
      (k0_pay9 (k0_pay3 (tokens x0))
        (View.ld x1 (Rect.unit ![0, 2, 0, 0] ![1, 1, 1024, 256] inb_S1x4x1024x256_S1x1x1024x256_0_2_0_0))
        (View.ld x2 (Rect.unit ![0, 2, 0, 0] ![1, 1, 1024, 256] inb_S1x4x1024x256_S1x1x1024x256_0_2_0_0)))
      (View.ld x3 (Rect.unit ![0, 2, 0, 0] ![1, 1, 256, 1024] inb_S1x4x256x1024_S1x1x256x1024_0_2_0_0)))
    (k0_pay11 s (lanes x0) (iota Kind.tc S1024x128 32 [1] iota_S1024x128_d1_w32) g)
    (k0_pay12 (k0_pay3 (tokens x0))
      (View.ld x1 (Rect.unit ![0, 3, 0, 0] ![1, 1, 1024, 256] inb_S1x4x1024x256_S1x1x1024x256_0_3_0_0)))
    (k0_pay13 (k0_pay3 (tokens x0))
      (View.ld x2 (Rect.unit ![0, 3, 0, 0] ![1, 1, 1024, 256] inb_S1x4x1024x256_S1x1x1024x256_0_3_0_0)))
    (k0_pay14 (k0_pay3 (tokens x0))
      (View.ld x1 (Rect.unit ![0, 3, 0, 0] ![1, 1, 1024, 256] inb_S1x4x1024x256_S1x1x1024x256_0_3_0_0)))
    (View.ld x3 (Rect.unit ![0, 3, 0, 0] ![1, 1, 256, 1024] inb_S1x4x256x1024_S1x1x256x1024_0_3_0_0))
    acc

end

/-- The gate lane that the kernel sums out of the last 128 lanes. -/
theorem lane_sum (v : Fin 128 → EReal) (w : BitVec 32) (j : Fin 128) (h : w.toNat = j.val) :
    ∑ l : Fin 128, Scalar.select (IntOp.cmpi CmpIPredicate.eq (BitVec.ofNat 32 l.val) w) (v l) 0 = v j := by
  rw [Finset.sum_eq_single j]
  · have : BitVec.ofNat 32 j.val = w := by
      apply BitVec.eq_of_toNat_eq; rw [BitVec.toNat_ofNat, h]; omega
    simp [Scalar.select, IntOp.cmpi, this]
  · intro l _ hl
    have : BitVec.ofNat 32 l.val ≠ w := by
      intro e
      apply hl
      have := congrArg BitVec.toNat e
      rw [BitVec.toNat_ofNat, h] at this
      exact Fin.ext (by omega)
    simp [Scalar.select, IntOp.cmpi, beq_eq_false_iff_ne.mpr this]
  · simp

/-- What the `k`-th expert of a grid step adds at row `r`, column `n` of the tile. -/
def part (g : Fin 4) (s : Fin 2) (x0 : Vec Ideal S1024x1152 .f32) (x1 x2 : Vec Ideal S1x4x1024x256 .f32)
    (x3 : Vec Ideal S1x4x256x1024 .f32) (r n : Fin 1024) (k : Fin 4) : EReal :=
  expert (fun j => x0 (ix2 r (wide j))) (x0 (ix2 r (laneOf g (stepExpert s k))))
    (fun j f => x1 (ix4 0 k j f)) (fun j f => x2 (ix4 0 k j f)) (fun f => x3 (ix4 0 k f n))

/-- The word the kernel compares the lanes' numbers with, as a number. -/
theorem gate_word (g s : BitVec 32) (gF : Fin 4) (sF : Fin 2) (hg : g.toNat = gF.val) (hs : s.toNat = sF.val) (k : Fin 4) :
    (Scalar.addi (Scalar.addi (Scalar.addi (4#32) (Scalar.muli g 8#32)) (Scalar.muli s 4#32)) (BitVec.ofNat 32 k.val)).toNat
    = 4 + gF.val * 8 + 4 * sF.val + k.val := by
  simp only [Scalar.addi, Scalar.muli, IntOp.addi, IntOp.muli, BitVec.toNat_add, BitVec.toNat_mul, BitVec.toNat_ofNat, hg, hs]
  omega

/-- The gate that the kernel sums out of the lanes for its `k`-th expert. -/
theorem gate_sum (g s : BitVec 32) (gF : Fin 4) (sF : Fin 2) (hg : g.toNat = gF.val) (hs : s.toNat = sF.val)
    (x0 : Vec Ideal S1024x1152 .f32) (r : Fin 1024) (k : Fin 4) :
    ∑ l : Fin 128, Scalar.select (IntOp.cmpi CmpIPredicate.eq (BitVec.ofNat 32 l.val)
        (Scalar.addi (Scalar.addi (Scalar.addi (4#32) (Scalar.muli g 8#32)) (Scalar.muli s 4#32)) (BitVec.ofNat 32 k.val)))
        (lanes x0 (ix2 r l)) 0
    = x0 (ix2 r (laneOf gF (stepExpert sF k))) := by
  rw [lane_sum (fun l => lanes x0 (ix2 r l)) _ ⟨4 + gF.val * 8 + 4 * sF.val + k.val, by omega⟩
    (gate_word g s gF sF hg hs k)]
  pointwise [lanes]
  congr 2
  apply Fin.ext
  simp only [laneOf, stepExpert]
  omega

/-- A token's lane read through the tile. -/
theorem token_apply (x0 : Vec Ideal S1024x1152 .f32) (r k : Fin 1024) : tokens x0 (ix2 r k) = x0 (ix2 r (wide k)) := by
  pointwise [tokens]
  rfl

/-- The accumulator after a grid step in use: the four experts' parts added up, then added to the accumulator before. -/
theorem step_apply (s g : BitVec 32) (gF : Fin 4) (sF : Fin 2) (hg : g.toNat = gF.val) (hs : s.toNat = sF.val)
    (x0 : Vec Ideal S1024x1152 .f32) (x1 x2 : Vec Ideal S1x4x1024x256 .f32)
    (x3 : Vec Ideal S1x4x256x1024 .f32) (acc : Vec Ideal S1024x1024 .f32) (r n : Fin 1024) :
    step s g x0 x1 x2 x3 acc (ix2 r n)
    = acc (ix2 r n) + (part gF sF x0 x1 x2 x3 r n 0 + part gF sF x0 x1 x2 x3 r n 1 + part gF sF x0 x1 x2 x3 r n 2
        + part gF sF x0 x1 x2 x3 r n 3) := by
  pointwise [step, k0_pay2, k0_pay3, k0_pay4, k0_pay5, k0_pay6, k0_pay7, k0_pay8, k0_pay9, k0_pay10, k0_pay11, k0_pay12,
    k0_pay13, k0_pay14]
  have g0 := gate_sum g s gF sF hg hs x0 r 0
  have g1 := gate_sum g s gF sF hg hs x0 r 1
  have g2 := gate_sum g s gF sF hg hs x0 r 2
  have g3 := gate_sum g s gF sF hg hs x0 r 3
  rw [show (BitVec.ofNat 32 (0 : Fin 4).val) = 0#32 from rfl] at g0
  rw [show (BitVec.ofNat 32 (1 : Fin 4).val) = 1#32 from rfl] at g1
  rw [show (BitVec.ofNat 32 (2 : Fin 4).val) = 2#32 from rfl] at g2
  rw [show (BitVec.ofNat 32 (3 : Fin 4).val) = 3#32 from rfl] at g3
  rw [g0, g1, g2, g3]
  simp only [token_apply, silu_zero_sub]
  rfl

/-- The accumulator starts at zero. -/
theorem zeros_apply (r n : Fin 1024) : (k0_pay1 : FVec Ideal S1024x1024 .f32) (ix2 r n) = 0 := by
  pointwise [k0_pay1]

end Cert.KernelIdeal.Experts
-- ==== Proof.TablesKernelIdeal.lean ====
/- The side condition of the pipeline of `KernelIdeal`: the weight blocks that the table of tile groups names lie inside the
   weight arrays. It follows from the precondition. -/
module

public import proofs.«01_k».proof.Defs
public import proofs.«01_k».proof.Proof.Gen.KernelIdeal.Frame
public import proofs.«01_k».proof.Proof.Words

@[expose] public section

namespace Cert.KernelIdeal.Experts

open Cert.KernelIdeal Cert.KernelIdeal.Gen
open Idealize.ShloMosaic Idealize.ShloMosaic.TcCoe

attribute [local instance] Cert.Pre_in_range.Gen.facts

section
variable {F : FTy → Type} [FloatOps F] (m : (ℓ : Loc nD τ sig) → Buf (Elt F) ℓ)

/-- The word of the table of tile groups at grid point `i`: the group of the tile. -/
abbrev grpWord (i : grid0.Coords) : BitVec 32 :=
  (tbl m).at 0 (Rect.unit (s := S20) (k0_off1 i) S1.size (k0_off1_inb i)) numel1_S1

/-- The three weight windows' block indices at a point: twice the tile's group plus the step. -/
theorem weight_index (h : ∀ x, (m (((0 : Dev nD) : Thread nD τ).loc main_arg0) x).toNat < 4) (i : grid0.Coords) :
    cc0_transform_1 k0_off1_inb numel1_S1 (tbl m) i = ![2 * (grpWord m i).toNat + (i 1).val, 0, 0, 0]
    ∧ cc0_transform_2 k0_off1_inb numel1_S1 (tbl m) i = ![2 * (grpWord m i).toNat + (i 1).val, 0, 0, 0]
    ∧ cc0_transform_3 k0_off1_inb numel1_S1 (tbl m) i = ![2 * (grpWord m i).toNat + (i 1).val, 0, 0, 0]
    ∧ (grpWord m i).toNat < 4 := by
  have h1 : (i 1).val < 2 := (i 1).isLt
  have hw : (grpWord m i).toNat < 4 := by
    show (V m (0 : Dev nD) main_arg0 _).toNat < 4
    rw [V_main_arg0]
    exact h _
  have he : (BitVec.ofNat 32 (i 1).val).toNat = (i 1).val := by
    rw [BitVec.toNat_ofNat]; omega
  have key : (Scalar.addi (Scalar.muli (grpWord m i) 2#32) (BitVec.ofNat 32 (i 1).val)).toNat
      = 2 * (grpWord m i).toNat + (i 1).val := by
    rw [Cert.Experts.word_step hw (by omega), he]
  refine ⟨?_, ?_, ?_, hw⟩ <;>
  · funext a
    fin_cases a
    · exact key
    · rfl
    · rfl
    · rfl

/-- Every table whose words are below 4 names blocks inside the weight arrays. -/
theorem ok_of_lt (h : ∀ x, (m (((0 : Dev nD) : Thread nD τ).loc main_arg0) x).toNat < 4) : Ok m := by
  have hb : ∀ (i : grid0.Coords) (f : Fin 4 → Nat) (S B : Fin 4 → Nat)
      (_ : f = ![2 * (grpWord m i).toNat + (i 1).val, 0, 0, 0]) (_ : (grpWord m i).toNat < 4) (_ : (i 1).val < 2)
      (_ : B 0 = 8) (_ : S 0 = 1) (_ : S 1 = B 1) (_ : S 2 = B 2) (_ : S 3 = B 3), ∀ a, (f a + 1) * S a ≤ B a := by
    intro i f S B hf hw h1 b0 s0 s1 s2 s3 a
    subst hf
    fin_cases a <;> simp only [Fin.zero_eta, Fin.mk_one, Fin.reduceFinMk, Matrix.cons_val_zero, Matrix.cons_val_one, Matrix.cons_val] <;> simp_all <;> omega
  have h1 : ∀ i : grid0.Coords, (i 1).val < 2 := fun i => (i 1).isLt
  refine ⟨fun i => ⟨?_, .inl rfl⟩, fun i => ⟨?_, .inl rfl⟩, fun i => ⟨?_, .inl rfl⟩⟩
  · exact hb i _ _ _ (weight_index m h i).1 (weight_index m h i).2.2.2 (h1 i) rfl rfl rfl rfl rfl
  · exact hb i _ _ _ (weight_index m h i).2.1 (weight_index m h i).2.2.2 (h1 i) rfl rfl rfl rfl rfl
  · exact hb i _ _ _ (weight_index m h i).2.2.1 (weight_index m h i).2.2.2 (h1 i) rfl rfl rfl rfl rfl

end

/-- Under the precondition every word of the table of tile groups is below 4. -/
theorem grp_lt_of_pre {m : (ℓ : Loc nD τ sig) → Buf (Elt Ideal) ℓ} (h : Cert.Pre_KernelIdeal m) (x : S20.Idx) :
    (m (((0 : Dev nD) : Thread nD τ).loc main_arg0) x).toNat < 4 :=
  Cert.Experts.word_lt_four (h 0) x

/-- The precondition implies the pipeline's side condition. -/
theorem ok_of_pre {m : (ℓ : Loc nD τ sig) → Buf (Elt Ideal) ℓ} (h : Cert.Pre_KernelIdeal m) : Ok m :=
  ok_of_lt m (grp_lt_of_pre h)

end Cert.KernelIdeal.Experts
-- ==== Proof.Cases.lean ====
module
public import proofs.«01_k».proof.Proof.Block
public import proofs.«01_k».proof.Proof.TablesKernelIdeal
public import Idealize.ShloMosaic.Lib.Pipeline.ReadBack
@[expose] public section
set_option maxRecDepth 16384
noncomputable section

/-! What the accumulator and the output block hold after each grid point, case by case. -/

namespace Cert.KernelIdeal.Experts

open Cert.KernelIdeal Cert.KernelIdeal.Gen
open Idealize.ShloMosaic Idealize.ShloMosaic.TcCoe

variable {F : FTy → Type} [FloatOps F]
variable (m : (ℓ : Loc nD τ sig) → Buf (Elt F) ℓ)

/-- The word of the table of tiles in use at a grid point. -/
abbrev vldWord (i : grid0.Coords) : BitVec 32 :=
  tbM0_1.view.readAt (Elt F) (Rect.unit (s := S20) (k0_off1 i) S1.size (k0_off1_inb i)).toLoadRect (tbl m 1)
    (Shape.Idx.first (numel1_S1.symm ▸ Nat.one_pos))

/-- The step's accumulator from the blocks staged at a point. -/
def stepAt (hO : Ok m) (c : Dev nD) (t : Fin (cfgM m hO).N) (acc : Vec F S1024x1024 .f32) : Vec F S1024x1024 .f32 :=
  step (BitVec.ofNat 32 (grid0.coords t 1).val) (grpWord m (grid0.coords t)) (iblk m hO c 0 t) (iblk m hO c 1 t)
    (iblk m hO c 2 t) (iblk m hO c 3 t) acc

/-- The even point of a tile in use leaves the first step's accumulator. -/
theorem acc_used (hO : Ok m) (c : Dev nD) (t : Fin (cfgM m hO).N) (h0 : t.val % 2 = 0)
    (h1 : cond0_1 (grid0.coords t) (vldWord m (grid0.coords t))) :
    (outsAt0 m hO c t.val t.isLt).2 = stepAt m hO c t k0_pay1 := by
  rw [outsAt0_A m hO c t h0 h1 (by omega)]
  unfold stepAt step tokens lanes
  dsimp only
  generalize iblk m hO c 0 t = x0
  generalize iblk m hO c 1 t = x1
  generalize iblk m hO c 2 t = x2
  generalize iblk m hO c 3 t = x3
  frame_out [sout0_A_0, VS0_0, kernelRun0_A]
  have e0 := (hs0_0 m hO t).read_unread x0
  have e1 := (hs0_1 m hO t).read_unread x1
  have e2 := (hs0_2 m hO t).read_unread x2
  have e3 := (hs0_3 m hO t).read_unread x3
  rw [e0, e1, e2, e3]
  rfl

/-- The even point of a tile not in use leaves zeros. -/
theorem acc_unused (hO : Ok m) (c : Dev nD) (t : Fin (cfgM m hO).N) (h0 : t.val % 2 = 0)
    (h1 : ¬cond0_1 (grid0.coords t) (vldWord m (grid0.coords t))) :
    (outsAt0 m hO c t.val t.isLt).2 = k0_pay1 := by
  rw [outsAt0_B m hO c t h0 h1 (by omega)]
  dsimp only
  frame_out [sout0_B_0, VS0_0, kernelRun0_B]

/-- The odd point of a tile in use leaves the second step's accumulator in the output block. -/
theorem out_used (hO : Ok m) (c : Dev nD) (t : Fin (cfgM m hO).N) (h0 : t.val % 2 = 1)
    (h1 : cond0_1 (grid0.coords t) (vldWord m (grid0.coords t))) :
    (outsAt0 m hO c t.val t.isLt).1
    = stepAt m hO c t (outsAt0 m hO c (t.val - 1) (lt_of_le_of_lt (Nat.sub_le _ _) t.isLt)).2 := by
  rw [outsAt0_C m hO c t (by omega) h1 h0]
  unfold stepAt step tokens lanes
  dsimp only
  generalize iblk m hO c 0 t = x0
  generalize iblk m hO c 1 t = x1
  generalize iblk m hO c 2 t = x2
  generalize iblk m hO c 3 t = x3
  frame_out [out0_C_4, VO0_4, kernelRun0_C]
  have e0 := (hs0_0 m hO t).read_unread x0
  have e1 := (hs0_1 m hO t).read_unread x1
  have e2 := (hs0_2 m hO t).read_unread x2
  have e3 := (hs0_3 m hO t).read_unread x3
  rw [e0, e1, e2, e3, read_unread_whole]
  rfl

/-- The odd point of a tile not in use leaves the accumulator before in the output block. -/
theorem out_unused (hO : Ok m) (c : Dev nD) (t : Fin (cfgM m hO).N) (h0 : t.val % 2 = 1)
    (h1 : ¬cond0_1 (grid0.coords t) (vldWord m (grid0.coords t))) :
    (outsAt0 m hO c t.val t.isLt).1
    = (outsAt0 m hO c (t.val - 1) (lt_of_le_of_lt (Nat.sub_le _ _) t.isLt)).2 := by
  rw [outsAt0_D m hO c t (by omega) h1 h0]
  dsimp only
  frame_out [out0_D_4, VO0_4, kernelRun0_D]
  simp only [read_unread_whole]
end Cert.KernelIdeal.Experts
-- ==== Proof.Blocks.lean ====
module
public import proofs.«01_k».proof.Proof.Cases
public import Idealize.ShloMosaic.Lib.Tactic.CleanTypes
@[expose] public section
set_option maxRecDepth 16384
noncomputable section

/-! The blocks staged at a grid point, as entries of the argument arrays. -/

namespace Cert.KernelIdeal.Experts

open Cert.KernelIdeal Cert.KernelIdeal.Gen Cert.Experts
open Idealize.ShloMosaic Idealize.ShloMosaic.TcCoe

variable (m : (ℓ : Loc nD τ sig) → Buf (Elt Ideal) ℓ)

/-- There are forty grid points. -/
theorem point_lt (t : Fin grid0.N) : t.val < 40 := lt_of_lt_of_eq t.isLt (show grid0.N = 40 from N_0)

/-- The grid's first coordinate is the tile. -/
theorem coord_tile (t : Fin grid0.N) : (grid0.coords t 0).val = t.val / 2 := by
  have h := point_lt t
  rw [grid0.coords_val t 0 (S := 2) (B := 20) (by rfl) (by rfl)]
  omega

/-- The grid's second coordinate is the step. -/
theorem coord_step (t : Fin grid0.N) : (grid0.coords t 1).val = t.val % 2 := by
  rw [grid0.coords_val t 1 (S := 1) (B := 2) (by rfl) (by rfl), Nat.div_one]

/-- The tile of a grid point. -/
def tile (t : Fin grid0.N) : Fin 20 := ⟨t.val / 2, by have := point_lt t; omega⟩

/-- The row of the array that is row `p` of the point's tile. -/
def row (t : Fin grid0.N) (p : Fin 1024) : Fin 20480 := ⟨t.val / 2 * 1024 + p.val, by have := point_lt t; omega⟩

theorem tileOf_row (t : Fin grid0.N) (p : Fin 1024) : tileOf (row t p) = tile t := by
  apply Fin.ext
  show (t.val / 2 * 1024 + p.val) / 1024 = t.val / 2
  omega

/-- The offset of the tables' word at a point is the tile. -/
theorem word_offset (t : Fin grid0.N) : k0_off1 (grid0.coords t) 0 = t.val / 2 := by
  have h := point_lt t
  show (BitVec.ofNat 32 (grid0.coords t 0).val).toNat = _
  rw [BitVec.toNat_ofNat, coord_tile]
  omega

/-- The table of tile groups at a point's tile. -/
theorem grp_word (t : Fin grid0.N) (c : Dev nD) :
    grpWord m (grid0.coords t) = (m ((c : Thread nD τ).loc main_arg0) : Vec Ideal S20 .i32) (ix1 (tile t)) := by
  obtain rfl : c = 0 := Subsingleton.elim _ _
  show V m (0 : Dev nD) main_arg0 _ = _
  rw [V_main_arg0]
  congr 1
  funext a
  apply Fin.ext
  fin_cases a
  show k0_off1 (grid0.coords t) 0 + 1 * 0 = t.val / 2
  rw [word_offset]
  rfl

/-- The table of tiles in use at a point's tile. -/
theorem vld_word (t : Fin grid0.N) (c : Dev nD) :
    vldWord m (grid0.coords t) = (m ((c : Thread nD τ).loc main_arg1) : Vec Ideal S20 .i32) (ix1 (tile t)) := by
  obtain rfl : c = 0 := Subsingleton.elim _ _
  show V m (0 : Dev nD) main_arg1 _ = _
  rw [V_main_arg1]
  congr 1
  funext a
  apply Fin.ext
  fin_cases a
  show k0_off1 (grid0.coords t) 0 + 1 * 0 = t.val / 2
  rw [word_offset]
  rfl

/-- The kernel's condition on the word of a tile in use. -/
theorem used_iff (i : grid0.Coords) (w : BitVec 32) : cond0_1 i w ↔ w = 1#32 := by
  unfold cond0_1
  by_cases h : w = 1#32
  · simp [h, Scalar.cmpi, IntOp.cmpi, Scalar.extui]
  · simp [h, Scalar.cmpi, IntOp.cmpi, Scalar.extui, beq_eq_false_iff_ne.mpr h]

/-- The rows' window reads the tile's rows. -/
theorem row_index (t : Fin grid0.N) : cc0_transform_0 (grid0.coords t) = ![t.val / 2, 0] := by
  have h := point_lt t
  funext a
  fin_cases a
  · show (BitVec.ofNat 32 (grid0.coords t 0).val).toNat = t.val / 2
    rw [BitVec.toNat_ofNat, coord_tile]
    omega
  · rfl

/-- The rows staged at a point are the tile's rows. -/
theorem rows_apply (hO : Ok m) (c : Dev nD) (t : Fin (cfgM m hO).N) (p : Fin 1024) (l : Fin 1152) :
    (iblk m hO c 0 t : Vec Ideal S1024x1152 .f32) (ix2 p l)
    = (m ((c : Thread nD τ).loc main_arg2) : Vec Ideal S20480x1152 .f32) (ix2 (row t p) l) := by
  show V m c main_arg2 _ = _
  rw [V_main_arg2]
  congr 1
  funext a
  apply Fin.ext
  fin_cases a
  · show cc0_transform_0 (grid0.coords t) 0 * 1024 + 1 * p.val = t.val / 2 * 1024 + p.val
    rw [row_index]; simp
  · show cc0_transform_0 (grid0.coords t) 1 * 1152 + 1 * l.val = l.val
    rw [row_index]; simp

/-- The gate matrices regrouped by fours. -/
theorem gates_entry (c : Dev nD) (b : Fin 8) (k : Fin 4) (p : Fin 1024) (l : Fin 256) (g : Fin 4) (e : Fin 8)
    (h : b.val * 4 + k.val = g.val * 8 + e.val) :
    V m c main_v0 (ix4 b k p l) = (m ((c : Thread nD τ).loc main_arg3) : Vec Ideal S4x8x1024x256 .f32) (ix4 g e p l) := by
  entry_read
  clean_types
  pointwise
  congr 1
  funext a
  apply Fin.ext
  fin_cases a
  · show b.val / 2 = g.val
    omega
  · show b.val % 2 * 4 + k.val = e.val
    omega
  · rfl
  · rfl

/-- The up matrices regrouped by fours. -/
theorem ups_entry (c : Dev nD) (b : Fin 8) (k : Fin 4) (p : Fin 1024) (l : Fin 256) (g : Fin 4) (e : Fin 8)
    (h : b.val * 4 + k.val = g.val * 8 + e.val) :
    V m c main_v1 (ix4 b k p l) = (m ((c : Thread nD τ).loc main_arg4) : Vec Ideal S4x8x1024x256 .f32) (ix4 g e p l) := by
  entry_read
  clean_types
  pointwise
  congr 1
  funext a
  apply Fin.ext
  fin_cases a
  · show b.val / 2 = g.val
    omega
  · show b.val % 2 * 4 + k.val = e.val
    omega
  · rfl
  · rfl

/-- The down matrices regrouped by fours. -/
theorem downs_entry (c : Dev nD) (b : Fin 8) (k : Fin 4) (p : Fin 256) (l : Fin 1024) (g : Fin 4) (e : Fin 8)
    (h : b.val * 4 + k.val = g.val * 8 + e.val) :
    V m c main_v2 (ix4 b k p l) = (m ((c : Thread nD τ).loc main_arg5) : Vec Ideal S4x8x256x1024 .f32) (ix4 g e p l) := by
  entry_read
  clean_types
  pointwise
  congr 1
  funext a
  apply Fin.ext
  fin_cases a
  · show b.val / 2 = g.val
    omega
  · show b.val % 2 * 4 + k.val = e.val
    omega
  · rfl
  · rfl

variable (hlt : ∀ x, (m (((0 : Dev nD) : Thread nD τ).loc main_arg0) x).toNat < 4)
include hlt

/-- The gate matrices staged at a point. -/
theorem gates_apply (hO : Ok m) (c : Dev nD) (t : Fin (cfgM m hO).N) (k : Fin 4) (p : Fin 1024) (l : Fin 256)
    (g : Fin 4) (s : Fin 2) (hg : g.val = (grpWord m (grid0.coords t)).toNat) (hs : s.val = t.val % 2) :
    (iblk m hO c 1 t : Vec Ideal S1x4x1024x256 .f32) (ix4 0 k p l)
    = (m ((c : Thread nD τ).loc main_arg3) : Vec Ideal S4x8x1024x256 .f32) (ix4 g (stepExpert s k) p l) := by
  rw [← gates_entry m c ⟨2 * g.val + s.val, by omega⟩ k p l g (stepExpert s k)
    (by show (2 * g.val + s.val) * 4 + k.val = g.val * 8 + (4 * s.val + k.val); omega)]
  show V m c main_v0 _ = _
  congr 1
  have w := (weight_index m hlt (grid0.coords t)).1
  rw [coord_step, ← hs, ← hg] at w
  funext a
  apply Fin.ext
  fin_cases a
  · show cc0_transform_1 k0_off1_inb numel1_S1 (tbl m) (grid0.coords t) 0 * 1 + 1 * 0 = 2 * g.val + s.val
    rw [w]; simp
  · show cc0_transform_1 k0_off1_inb numel1_S1 (tbl m) (grid0.coords t) 1 * 4 + 1 * k.val = k.val
    rw [w]; simp
  · show cc0_transform_1 k0_off1_inb numel1_S1 (tbl m) (grid0.coords t) 2 * 1024 + 1 * p.val = p.val
    rw [w]; simp
  · show cc0_transform_1 k0_off1_inb numel1_S1 (tbl m) (grid0.coords t) 3 * 256 + 1 * l.val = l.val
    rw [w]; simp

/-- The up matrices staged at a point. -/
theorem ups_apply (hO : Ok m) (c : Dev nD) (t : Fin (cfgM m hO).N) (k : Fin 4) (p : Fin 1024) (l : Fin 256)
    (g : Fin 4) (s : Fin 2) (hg : g.val = (grpWord m (grid0.coords t)).toNat) (hs : s.val = t.val % 2) :
    (iblk m hO c 2 t : Vec Ideal S1x4x1024x256 .f32) (ix4 0 k p l)
    = (m ((c : Thread nD τ).loc main_arg4) : Vec Ideal S4x8x1024x256 .f32) (ix4 g (stepExpert s k) p l) := by
  rw [← ups_entry m c ⟨2 * g.val + s.val, by omega⟩ k p l g (stepExpert s k)
    (by show (2 * g.val + s.val) * 4 + k.val = g.val * 8 + (4 * s.val + k.val); omega)]
  show V m c main_v1 _ = _
  congr 1
  have w := (weight_index m hlt (grid0.coords t)).2.1
  rw [coord_step, ← hs, ← hg] at w
  funext a
  apply Fin.ext
  fin_cases a
  · show cc0_transform_2 k0_off1_inb numel1_S1 (tbl m) (grid0.coords t) 0 * 1 + 1 * 0 = 2 * g.val + s.val
    rw [w]; simp
  · show cc0_transform_2 k0_off1_inb numel1_S1 (tbl m) (grid0.coords t) 1 * 4 + 1 * k.val = k.val
    rw [w]; simp
  · show cc0_transform_2 k0_off1_inb numel1_S1 (tbl m) (grid0.coords t) 2 * 1024 + 1 * p.val = p.val
    rw [w]; simp
  · show cc0_transform_2 k0_off1_inb numel1_S1 (tbl m) (grid0.coords t) 3 * 256 + 1 * l.val = l.val
    rw [w]; simp

/-- The down matrices staged at a point. -/
theorem downs_apply (hO : Ok m) (c : Dev nD) (t : Fin (cfgM m hO).N) (k : Fin 4) (p : Fin 256) (l : Fin 1024)
    (g : Fin 4) (s : Fin 2) (hg : g.val = (grpWord m (grid0.coords t)).toNat) (hs : s.val = t.val % 2) :
    (iblk m hO c 3 t : Vec Ideal S1x4x256x1024 .f32) (ix4 0 k p l)
    = (m ((c : Thread nD τ).loc main_arg5) : Vec Ideal S4x8x256x1024 .f32) (ix4 g (stepExpert s k) p l) := by
  rw [← downs_entry m c ⟨2 * g.val + s.val, by omega⟩ k p l g (stepExpert s k)
    (by show (2 * g.val + s.val) * 4 + k.val = g.val * 8 + (4 * s.val + k.val); omega)]
  show V m c main_v2 _ = _
  congr 1
  have w := (weight_index m hlt (grid0.coords t)).2.2.1
  rw [coord_step, ← hs, ← hg] at w
  funext a
  apply Fin.ext
  fin_cases a
  · show cc0_transform_3 k0_off1_inb numel1_S1 (tbl m) (grid0.coords t) 0 * 1 + 1 * 0 = 2 * g.val + s.val
    rw [w]; simp
  · show cc0_transform_3 k0_off1_inb numel1_S1 (tbl m) (grid0.coords t) 1 * 4 + 1 * k.val = k.val
    rw [w]; simp
  · show cc0_transform_3 k0_off1_inb numel1_S1 (tbl m) (grid0.coords t) 2 * 256 + 1 * p.val = p.val
    rw [w]; simp
  · show cc0_transform_3 k0_off1_inb numel1_S1 (tbl m) (grid0.coords t) 3 * 1024 + 1 * l.val = l.val
    rw [w]; simp

end Cert.KernelIdeal.Experts
-- ==== Proof.Array.lean ====
module
public import proofs.«01_k».proof.Proof.Blocks
public import Idealize.ShloMosaic.Lib.Pipeline.Covers
@[expose] public section
set_option maxRecDepth 16384
noncomputable section

/-! What the result array holds after the run: the routed experts. -/

namespace Cert.KernelIdeal.Experts

open Cert.KernelIdeal Cert.KernelIdeal.Gen Cert.Experts
open Idealize.ShloMosaic Idealize.ShloMosaic.TcCoe

variable (m : (ℓ : Loc nD τ sig) → Buf (Elt Ideal) ℓ)

/-- The routed experts of the argument arrays, at row `R` and column `n`. -/
def result (c : Dev nD) (R : Fin 20480) (n : Fin 1024) : EReal :=
  routed (fun i => (m ((c : Thread nD τ).loc main_arg0) : Vec Ideal S20 .i32) (ix1 i))
    (fun i => (m ((c : Thread nD τ).loc main_arg1) : Vec Ideal S20 .i32) (ix1 i))
    (fun R l => (m ((c : Thread nD τ).loc main_arg2) : Vec Ideal S20480x1152 .f32) (ix2 R l))
    (fun g e k f => (m ((c : Thread nD τ).loc main_arg3) : Vec Ideal S4x8x1024x256 .f32) (ix4 g e k f))
    (fun g e k f => (m ((c : Thread nD τ).loc main_arg4) : Vec Ideal S4x8x1024x256 .f32) (ix4 g e k f))
    (fun g e f j => (m ((c : Thread nD τ).loc main_arg5) : Vec Ideal S4x8x256x1024 .f32) (ix4 g e f j)) R n

/-- What expert `e` of group `g` adds, over the argument arrays. -/
def shareOf (c : Dev nD) (R : Fin 20480) (n : Fin 1024) (g : Fin 4) (e : Fin 8) : EReal :=
  share (fun R l => (m ((c : Thread nD τ).loc main_arg2) : Vec Ideal S20480x1152 .f32) (ix2 R l))
    (fun g e k f => (m ((c : Thread nD τ).loc main_arg3) : Vec Ideal S4x8x1024x256 .f32) (ix4 g e k f))
    (fun g e k f => (m ((c : Thread nD τ).loc main_arg4) : Vec Ideal S4x8x1024x256 .f32) (ix4 g e k f))
    (fun g e f j => (m ((c : Thread nD τ).loc main_arg5) : Vec Ideal S4x8x256x1024 .f32) (ix4 g e f j)) R n g e

variable (hlt : ∀ x, (m (((0 : Dev nD) : Thread nD τ).loc main_arg0) x).toNat < 4)
include hlt

/-- The `k`-th expert's part at a point is its share. -/
theorem part_eq (hO : Ok m) (c : Dev nD) (t : Fin (cfgM m hO).N) (p n : Fin 1024) (g : Fin 4) (s : Fin 2) (k : Fin 4)
    (hg : g.val = (grpWord m (grid0.coords t)).toNat) (hs : s.val = t.val % 2) :
    part g s (iblk m hO c 0 t) (iblk m hO c 1 t) (iblk m hO c 2 t) (iblk m hO c 3 t) p n k
    = shareOf m c (row t p) n g (stepExpert s k) := by
  unfold part shareOf share
  congr 1
  · funext j
    exact rows_apply m hO c t p (wide j)
  · exact rows_apply m hO c t p _
  · funext j f
    exact gates_apply m hlt hO c t k j f g s hg hs
  · funext j f
    exact ups_apply m hlt hO c t k j f g s hg hs
  · funext f
    exact downs_apply m hlt hO c t k f n g s hg hs

/-- The accumulator after a step in use, at an index. -/
theorem stepAt_apply (hO : Ok m) (c : Dev nD) (t : Fin (cfgM m hO).N) (acc : Vec Ideal S1024x1024 .f32) (p n : Fin 1024)
    (g : Fin 4) (s : Fin 2) (hg : g.val = (grpWord m (grid0.coords t)).toNat) (hs : s.val = t.val % 2) :
    stepAt m hO c t acc (ix2 p n)
    = acc (ix2 p n) + (shareOf m c (row t p) n g (stepExpert s 0) + shareOf m c (row t p) n g (stepExpert s 1)
        + shareOf m c (row t p) n g (stepExpert s 2) + shareOf m c (row t p) n g (stepExpert s 3)) := by
  rw [← part_eq m hlt hO c t p n g s 0 hg hs, ← part_eq m hlt hO c t p n g s 1 hg hs,
    ← part_eq m hlt hO c t p n g s 2 hg hs, ← part_eq m hlt hO c t p n g s 3 hg hs]
  exact step_apply _ _ g s hg.symm (by rw [BitVec.toNat_ofNat, coord_step, hs]; omega) _ _ _ _ acc p n

/-- The output block after the odd point of a tile. -/
theorem out_apply (hO : Ok m) (c : Dev nD) (t : Fin (cfgM m hO).N) (h1 : t.val % 2 = 1) (p n : Fin 1024) :
    (outsAt0 m hO c t.val t.isLt).1 (ix2 p n) = result m c (row t p) n := by
  have h40 := point_lt t
  obtain ⟨u, hu⟩ : ∃ u : Fin (cfgM m hO).N, u.val = t.val - 1 := ⟨⟨t.val - 1, by have := t.isLt; omega⟩, rfl⟩
  have hu0 : u.val % 2 = 0 := by omega
  have htile : tile u = tile t := Fin.ext (by show u.val / 2 = t.val / 2; omega)
  have hrow : row u p = row t p := Fin.ext (by show u.val / 2 * 1024 + p.val = t.val / 2 * 1024 + p.val; omega)
  have hacc : outsAt0 m hO c (t.val - 1) (lt_of_le_of_lt (Nat.sub_le _ _) t.isLt) = outsAt0 m hO c u.val u.isLt := by
    congr 1; exact hu.symm
  have hgt := grp_word m t c
  have hgu := grp_word m u c
  have hvt := vld_word m t c
  have hvu := vld_word m u c
  rw [htile] at hgu hvu
  have hw : (grpWord m (grid0.coords t)).toNat < 4 := (weight_index m hlt (grid0.coords t)).2.2.2
  unfold result routed
  rw [tileOf_row]
  beta_reduce
  rw [← hvt, ← hgt]
  by_cases hv : vldWord m (grid0.coords t) = 1#32
  · rw [if_pos hv, out_used m hO c t h1 ((used_iff _ _).mpr hv), hacc,
      acc_used m hO c u hu0 ((used_iff _ _).mpr (by rw [hvu, ← hvt]; exact hv))]
    have hgF : (Fin.ofNat 4 (grpWord m (grid0.coords t)).toNat).val = (grpWord m (grid0.coords t)).toNat := by
      simp only [Fin.ofNat]; omega
    rw [stepAt_apply m hlt hO c t _ p n _ 1 hgF h1.symm,
      stepAt_apply m hlt hO c u _ p n (Fin.ofNat 4 (grpWord m (grid0.coords t)).toNat) 0 (by rw [hgF, hgu, hgt]) hu0.symm,
      zeros_apply, zero_add, hrow]
    exact (sum_steps (shareOf m c (row t p) n (Fin.ofNat 4 (grpWord m (grid0.coords t)).toNat))).symm
  · rw [if_neg hv, out_unused m hO c t h1 (fun h => hv ((used_iff _ _).mp h)), hacc,
      acc_unused m hO c u hu0 (fun h => hv (by rw [hvt, ← hvu]; exact (used_iff _ _).mp h)), zeros_apply]

omit hlt in
/-- The result's window writes the tile's rows. -/
theorem out_index (t : Fin grid0.N) : cc0_transform_4 (grid0.coords t) = ![t.val / 2, 0] := row_index t

omit hlt in
/-- Every block of the result is written. -/
theorem out_covers (hO : Ok m) : ((cfgM m hO).win 4).Covers := by
  refine ((cfgM m hO).win 4).covers_of_index_surj rfl (fun a => ?_) ?_
  · revert a
    show ∀ a : Fin 2, 0 < S1024x1024.size a
    decide
  show ∀ β : (a : Fin 2) → Fin (((cfgM m hO).win 4).nblk a), ∃ t : Fin grid0.N, ∀ a : Fin 2,
    cc0_transform_4 (grid0.coords t) a = (β a).val
  intro β
  have h0 : (β 0).val < 20 := lt_of_lt_of_eq (β 0).isLt (show (20480 + 1024 - 1) / 1024 = 20 from rfl)
  have h1 : (β 1).val < 1 := lt_of_lt_of_eq (β 1).isLt (show (1024 + 1024 - 1) / 1024 = 1 from rfl)
  refine ⟨⟨2 * (β 0).val, by rw [show grid0.N = 40 from N_0]; omega⟩, fun a => ?_⟩
  rw [out_index]
  fin_cases a
  · show 2 * (β 0).val / 2 = (β 0).val
    omega
  · show 0 = (β 1).val
    omega

/-- The output block at any index. -/
theorem blockwise (hO : Ok m) (c : Dev nD) (t : Fin (cfgM m hO).N) (h1 : t.val % 2 = 1) (y : S1024x1024.Idx) :
    (outsAt0 m hO c t.val t.isLt).1 y = result m c (row t (y 0)) (y 1) := by
  have hy : y = ix2 (y 0) (y 1) := by
    funext a; fin_cases a <;> rfl
  rw [hy]
  exact out_apply m hlt hO c t h1 (y 0) (y 1)

omit hlt in
/-- Where an entry of the output block is written. -/
theorem out_emb (hO : Ok m) (t : Fin (cfgM m hO).N) (y : S1024x1024.Idx) :
    (((cfgM m hO).win 4).blk t).view.emb y = ix2 (row t (y 0)) (y 1) := by
  funext a
  apply Fin.ext
  fin_cases a
  · show cc0_transform_4 (grid0.coords t) 0 * 1024 + 1 * (y 0).val = t.val / 2 * 1024 + (y 0).val
    rw [out_index]
    show t.val / 2 * 1024 + 1 * (y 0).val = t.val / 2 * 1024 + (y 0).val
    omega
  · show cc0_transform_4 (grid0.coords t) 1 * 1024 + 1 * (y 1).val = (y 1).val
    rw [out_index]
    show 0 * 1024 + 1 * (y 1).val = (y 1).val
    omega

/-- The result array after the run. -/
theorem final (hO : Ok m) (c : Dev nD) :
    (dats m hO 0 c).arrAt 4 (cfgM m hO).N = fun i : S20480x1024.Idx => result m c (i 0) (i 1) := by
  refine (dats m hO 0 c).arrAt_eq_of_covers 4 _ (out_covers m hO) fun t hf y => ?_
  have h1 : t.val % 2 = 1 := (flush0_4 _ t).mp hf
  blk_simp
  rw [after0_4]
  exact (blockwise m hlt hO c t h1 y).trans
    (congrArg (fun i : S20480x1024.Idx => result m c (i 0) (i 1)) (out_emb m hO t y).symm)

end Cert.KernelIdeal.Experts
-- ==== Proof.Reference.lean ====
module
public import proofs.«01_k».proof.Proof.Gen.ReferenceIdeal.Run
public import proofs.«01_k».proof.Proof.Mix
public import Idealize.ShloMosaic.Lib.Tactic.CleanTypes
@[expose] public section
set_option maxRecDepth 16384
noncomputable section

/-! What the reference's result holds at an index: the four groups' dense mixtures, the gates masked to the tile's group. -/

namespace Cert.ReferenceIdeal.Experts

open Cert.ReferenceIdeal Cert.ReferenceIdeal.Gen Cert.Experts
open Idealize.ShloMosaic Idealize.ShloMosaic.TcCoe

/-- What group `g` adds at row `r`, column `n`: its eight experts, each weighted by its gate, or by zero when the row's
    tile is of another group or not in use. -/
def group (grp vld : Vec Ideal S20 .i32) (xs : FVec Ideal S20480x1152 .f32) (wg wu : FVec Ideal S4x8x1024x256 .f32)
    (wd : FVec Ideal S4x8x256x1024 .f32) (r : Fin 20480) (n : Fin 1024) (g : Fin 4) : EReal :=
  ∑ e : Fin 8, expert (fun k => xs (ix2 r (wide k)))
    (if grp (ix1 (tileOf r)) = BitVec.ofNat 32 g.val ∧ vld (ix1 (tileOf r)) = 1#32 then xs (ix2 r (laneOf g e)) else 0)
    (fun k f => wg (ix4 g e k f)) (fun k f => wu (ix4 g e k f)) (fun f => wd (ix4 g e f n))

/-- The mask of a gate is the conjunction of two comparisons of words. -/
theorem select_and (a b a' b' : BitVec 32) (x : EReal) :
    Scalar.select (IntOp.andi (IntOp.cmpi CmpIPredicate.eq a a') (IntOp.cmpi CmpIPredicate.eq b b')) x 0
    = if a = a' ∧ b = b' then x else (0 : EReal) := by
  by_cases h1 : a = a' <;> by_cases h2 : b = b' <;>
    simp [Scalar.select, IntOp.andi, IntOp.cmpi, h1, h2, beq_eq_false_iff_ne.mpr]

/-- The reference's result at row `r`, column `n`. -/
theorem value (m : (ℓ : Loc nD τ sig) → Buf (Elt Ideal) ℓ) (c : Dev nD) (r : Fin 20480) (n : Fin 1024)
    (grp vld : Vec Ideal S20 .i32) (xs : FVec Ideal S20480x1152 .f32) (wg wu : FVec Ideal S4x8x1024x256 .f32)
    (wd : FVec Ideal S4x8x256x1024 .f32)
    (h0 : m (c.tc.loc main_arg0) = grp) (h1 : m (c.tc.loc main_arg1) = vld) (h2 : m (c.tc.loc main_arg2) = xs)
    (h3 : m (c.tc.loc main_arg3) = wg) (h4 : m (c.tc.loc main_arg4) = wu) (h5 : m (c.tc.loc main_arg5) = wd) :
    Value.res_main_v90 m c (ix2 r n)
    = 0 + group grp vld xs wg wu wd r n 0 + group grp vld xs wg wu wd r n 1 + group grp vld xs wg wu wd r n 2
        + group grp vld xs wg wu wd r n 3 := by
  unfold Value.res_main_v90
  rw [h0, h1, h2, h3, h4, h5]
  clear h0 h1 h2 h3 h4 h5
  clean_types
  pointwise
  have hz : (id (constant S_ FTy.f32 0#32) : FVec Ideal S_ .f32) ix0 = 0 := by
    rw [id_eq]; exact Ideal.ofBits_zero_f32
  have l0 : ∀ e : Fin 8, (⟨1028 + e.val, by omega⟩ : Fin 1152) = laneOf 0 e := fun e => Fin.ext (by simp [laneOf])
  have l1 : ∀ e : Fin 8, (⟨1028 + (8 + e.val), by omega⟩ : Fin 1152) = laneOf 1 e := fun e => Fin.ext (by simp [laneOf])
  have l2 : ∀ e : Fin 8, (⟨1028 + (16 + e.val), by omega⟩ : Fin 1152) = laneOf 2 e := fun e => Fin.ext (by simp [laneOf])
  have l3 : ∀ e : Fin 8, (⟨1028 + (24 + e.val), by omega⟩ : Fin 1152) = laneOf 3 e := fun e => Fin.ext (by simp [laneOf])
  rw [hz]
  simp only [select_and, l0, l1, l2, l3]
  rfl

/-- Of the four groups only the tile's own adds anything. -/
theorem groups_routed (r : Fin 20480) (n : Fin 1024)
    (grp vld : Vec Ideal S20 .i32) (xs : FVec Ideal S20480x1152 .f32) (wg wu : FVec Ideal S4x8x1024x256 .f32)
    (wd : FVec Ideal S4x8x256x1024 .f32) (hlt : ∀ i : Fin 20, (grp (ix1 i)).toNat < 4) :
    0 + group grp vld xs wg wu wd r n 0 + group grp vld xs wg wu wd r n 1 + group grp vld xs wg wu wd r n 2
        + group grp vld xs wg wu wd r n 3
    = routed (fun i => grp (ix1 i)) (fun i => vld (ix1 i)) (fun R l => xs (ix2 R l)) (fun g e k f => wg (ix4 g e k f))
        (fun g e k f => wu (ix4 g e k f)) (fun g e f j => wd (ix4 g e f j)) r n := by
  have hw := hlt (tileOf r)
  unfold routed
  dsimp only
  generalize hA : grp (ix1 (tileOf r)) = a at hw
  by_cases hv : vld (ix1 (tileOf r)) = 1#32
  · rw [if_pos hv]
    have hne : ∀ j : Fin 4, j ≠ Fin.ofNat 4 a.toNat → group grp vld xs wg wu wd r n j = 0 := by
      intro j hj
      refine Finset.sum_eq_zero fun e _ => ?_
      rw [hA, if_neg, expert_zero]
      rintro ⟨e1, -⟩
      apply hj
      apply Fin.ext
      have := congrArg BitVec.toNat e1
      rw [BitVec.toNat_ofNat] at this
      simp only [Fin.ofNat]
      omega
    rw [sum_four_one (Fin.ofNat 4 a.toNat) (group grp vld xs wg wu wd r n) hne]
    refine Finset.sum_congr rfl fun e _ => ?_
    rw [hA, if_pos]
    · rfl
    · refine ⟨?_, hv⟩
      apply BitVec.eq_of_toNat_eq
      rw [BitVec.toNat_ofNat]
      simp only [Fin.ofNat]
      omega
  · rw [if_neg hv]
    have hz : ∀ j : Fin 4, group grp vld xs wg wu wd r n j = 0 := by
      intro j
      refine Finset.sum_eq_zero fun e _ => ?_
      rw [if_neg (fun h => hv h.2), expert_zero]
    simp only [hz, add_zero]

/-- The reference computes the routed experts. -/
theorem value_routed (m : (ℓ : Loc nD τ sig) → Buf (Elt Ideal) ℓ) (c : Dev nD) (r : Fin 20480) (n : Fin 1024)
    (grp vld : Vec Ideal S20 .i32) (xs : FVec Ideal S20480x1152 .f32) (wg wu : FVec Ideal S4x8x1024x256 .f32)
    (wd : FVec Ideal S4x8x256x1024 .f32)
    (h0 : m (c.tc.loc main_arg0) = grp) (h1 : m (c.tc.loc main_arg1) = vld) (h2 : m (c.tc.loc main_arg2) = xs)
    (h3 : m (c.tc.loc main_arg3) = wg) (h4 : m (c.tc.loc main_arg4) = wu) (h5 : m (c.tc.loc main_arg5) = wd)
    (hlt : ∀ i : Fin 20, (grp (ix1 i)).toNat < 4) :
    Value.res_main_v90 m c (ix2 r n)
    = routed (fun i => grp (ix1 i)) (fun i => vld (ix1 i)) (fun R l => xs (ix2 R l)) (fun g e k f => wg (ix4 g e k f))
        (fun g e k f => wu (ix4 g e k f)) (fun g e f j => wd (ix4 g e f j)) r n :=
  (value m c r n grp vld xs wg wu wd h0 h1 h2 h3 h4 h5).trans (groups_routed r n grp vld xs wg wu wd hlt)

end Cert.ReferenceIdeal.Experts
-- ==== Proof.Equation.lean ====
module
public import proofs.«01_k».proof.Defs
public import proofs.«01_k».proof.Proof.Array
public import proofs.«01_k».proof.Proof.Reference
public import Idealize.ShloMosaic.Adequacy
public import Idealize.ShloMosaic.Init
@[expose] public section
set_option maxRecDepth 16384
noncomputable section

/-! The kernel's result array is the reference's. -/

namespace Cert.Experts

open Idealize.ShloMosaic Idealize.ShloMosaic.TcCoe Idealize.SL.Sem

/-- From memories that agree on the arguments, the two results are the same array. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v90 m' c
    = (Cert.KernelIdeal.Gen.dats m (Cert.KernelIdeal.Experts.ok_of_pre hp) 0 c).arrAt 4
        (Cert.KernelIdeal.Gen.cfgM m (Cert.KernelIdeal.Experts.ok_of_pre hp)).N := by
  obtain rfl : c = 0 := Subsingleton.elim _ _
  have hlt := Cert.KernelIdeal.Experts.grp_lt_of_pre hp
  rw [Cert.KernelIdeal.Experts.final m hlt (Cert.KernelIdeal.Experts.ok_of_pre hp) 0]
  funext i
  have hi : i = ix2 (i 0) (i 1) := by
    funext a; fin_cases a <;> rfl
  refine (congrArg (Cert.ReferenceIdeal.Value.res_main_v90 m' 0) hi).trans ?_
  exact Cert.ReferenceIdeal.Experts.value_routed m' 0 (i 0) (i 1) _ _ _ _ _ _ h0 h1 h2 h3 h4 h5 fun x => hlt (ix1 x)

/-- The kernel and the reference, from memories that agree on the arguments, end with the same result. -/
theorem algebraic : Cert.algebraic_KernelIdeal_ReferenceIdeal := by
  intro m ρ m' ρ' hp hagree
  refine ⟨fun c => (Cert.KernelIdeal.Gen.dats m (Cert.KernelIdeal.Experts.ok_of_pre hp) 0 c).arrAt 4
        (Cert.KernelIdeal.Gen.cfgM m (Cert.KernelIdeal.Experts.ok_of_pre hp)).N, ?_, ?_⟩
  · exact (θ_run Cert.KernelIdeal.defs _ _).mono (fun _ h c => ⟨h.1.out_eq c 4, h.2 c⟩)
      (θ_run_and (Cert.KernelIdeal.Gen.run_main m ρ (Cert.KernelIdeal.Experts.ok_of_pre hp))
        (Cert.KernelIdeal.Gen.unchanged m ρ (Cert.KernelIdeal.Experts.ok_of_pre hp)))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    exact equal m m' hp c h0 h1 h2 h3 h4 h5

end Cert.Experts
-- ==== Proof.Packing.lean ====
module
public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Adequacy
public import Idealize.ShloMosaic.Init
@[expose] public section
set_option maxRecDepth 16384
noncomputable section

/-! The packed weights: the columns of the layer's input weights in another order, the last 108 zero. -/

namespace Cert.Packing

open Idealize.ShloMosaic Idealize.ShloMosaic.TcCoe Idealize.SL.Sem

/-- Column `n` of a packed row: the first 1536 columns stay, the eight gate columns after them move behind the 1920 columns
    that follow, the twelve gate columns at the end stay last, and zeros pad the row. -/
def packed (w : Fin 3476 → EReal) (n : Fin 3584) : EReal :=
  if h : n.val < 1536 then w ⟨n.val, by omega⟩
  else if h : n.val - 1536 < 1920 then w ⟨1544 + (n.val - 1536), by omega⟩
  else if h : n.val - 1536 - 1920 < 8 then w ⟨1536 + (n.val - 1536 - 1920), by omega⟩
  else if h : n.val - 1536 - 1920 - 8 < 12 then w ⟨3464 + (n.val - 1536 - 1920 - 8), by omega⟩ else 0

section
open Cert.Kernel2Ideal Cert.Kernel2Ideal.Gen

/-- A block of the kernel's result at row `r`, column `n`. -/
theorem block_apply (x0 : Vec Ideal S128x3476 .f32) (r : Fin 128) (n : Fin 3584) :
    out0_1 x0 (ix2 r n) = packed (fun j => x0 (ix2 r j)) n := by
  frame_out [out0_1]
  pointwise [k0_pay1]
  rfl

variable (m : (ℓ : Loc nD τ sig) → Buf (Elt Ideal) ℓ)

/-- There are eight grid points. -/
theorem point_lt (t : Fin grid0.N) : t.val < 8 := lt_of_lt_of_eq t.isLt (show grid0.N = 8 from N_0)

/-- The grid's coordinate is the point. -/
theorem coord (t : Fin grid0.N) : (grid0.coords t 0).val = t.val := by
  have h := point_lt t
  rw [grid0.coords_val t 0 (S := 1) (B := 8) (by rfl) (by rfl)]
  omega

/-- The row of the array that is row `p` of the point's block. -/
def row (t : Fin grid0.N) (p : Fin 128) : Fin 1024 := ⟨t.val * 128 + p.val, by have := point_lt t; omega⟩

/-- Both windows take the point's rows. -/
theorem in_index (t : Fin grid0.N) : cc0_transform_0 (grid0.coords t) = ![t.val, 0] := by
  have h := point_lt t
  funext a
  fin_cases a
  · show (BitVec.ofNat 32 (grid0.coords t 0).val).toNat = t.val
    rw [BitVec.toNat_ofNat, coord]
    omega
  · rfl

theorem out_index (t : Fin grid0.N) : cc0_transform_1 (grid0.coords t) = ![t.val, 0] := in_index t

/-- The weights staged at a point are the point's rows. -/
theorem rows_apply (c : Dev nD) (t : Fin cfg0.N) (p : Fin 128) (l : Fin 3476) :
    (iblk m c 0 t : Vec Ideal S128x3476 .f32) (ix2 p l)
    = (m ((c : Thread nD τ).loc main_arg0) : Vec Ideal S1024x3476 .f32) (ix2 (row t p) l) := by
  show V m c main_arg0 _ = _
  rw [V_main_arg0]
  congr 1
  funext a
  apply Fin.ext
  fin_cases a
  · show cc0_transform_0 (grid0.coords t) 0 * 128 + 1 * p.val = t.val * 128 + p.val
    rw [in_index]; simp
  · show cc0_transform_0 (grid0.coords t) 1 * 3476 + 1 * l.val = l.val
    rw [in_index]; simp

/-- The packed weights as a function of the argument. -/
def result (c : Dev nD) (r : Fin 1024) (n : Fin 3584) : EReal :=
  packed (fun j => (m ((c : Thread nD τ).loc main_arg0) : Vec Ideal S1024x3476 .f32) (ix2 r j)) n

/-- What the body leaves in the result's block at any index. -/
theorem blockwise (c : Dev nD) (t : Fin cfg0.N) (y : S128x3584.Idx) :
    out0_1 (iblk m c 0 t : Vec Ideal S128x3476 .f32) y = result m c (row t (y 0)) (y 1) := by
  have hy : y = ix2 (y 0) (y 1) := by
    funext a; fin_cases a <;> rfl
  rw [hy]
  refine (block_apply (iblk m c 0 t) (y 0) (y 1)).trans ?_
  show packed _ _ = packed _ _
  congr 1
  funext j
  exact rows_apply m c t (y 0) j

/-- Where an entry of the output block is written. -/
theorem out_emb (t : Fin cfg0.N) (y : S128x3584.Idx) :
    ((cfg0.win 1).blk t).view.emb y = ix2 (row t (y 0)) (y 1) := by
  funext a
  apply Fin.ext
  fin_cases a
  · show cc0_transform_1 (grid0.coords t) 0 * 128 + 1 * (y 0).val = t.val * 128 + (y 0).val
    rw [out_index]
    show t.val * 128 + 1 * (y 0).val = t.val * 128 + (y 0).val
    omega
  · show cc0_transform_1 (grid0.coords t) 1 * 3584 + 1 * (y 1).val = (y 1).val
    rw [out_index]
    show 0 * 3584 + 1 * (y 1).val = (y 1).val
    omega

/-- The result array after the run. -/
theorem final (c : Dev nD) :
    (dats m 0 c).arrAt 1 cfg0.N = fun i : S1024x3584.Idx => result m c (i 0) (i 1) := by
  refine (dats m 0 c).arrAt_eq_of_covers 1 _ (by decide +kernel) fun t hf y => ?_
  blk_simp
  rw [after0_1]
  exact (blockwise m c t y).trans
    (congrArg (fun i : S1024x3584.Idx => result m c (i 0) (i 1)) (out_emb t y).symm)

end

section
open Cert.Reference2Ideal Cert.Reference2Ideal.Gen

/-- The reference's result at row `r`, column `n`. -/
theorem reference_apply (w : Vec Ideal S1024x3476 .f32) (r : Fin 1024) (n : Fin 3584) :
    (truncf .bf16 ((concatenate S1024x3584 1 [⟨S1024x1536, ((extractStridedSlice S1024x1536 ![0, 0] w slices_S1024x3476_S1024x1536_0_0) : (⟨S1024x1536, .f32⟩ : BufTy).Contents (Elt Ideal))⟩,
      ⟨S1024x1920, ((extractStridedSlice S1024x1920 ![0, 1544] w slices_S1024x3476_S1024x1920_0_1544) : (⟨S1024x1920, .f32⟩ : BufTy).Contents (Elt Ideal))⟩,
      ⟨S1024x8, ((extractStridedSlice S1024x8 ![0, 1536] w slices_S1024x3476_S1024x8_0_1536) : (⟨S1024x8, .f32⟩ : BufTy).Contents (Elt Ideal))⟩,
      ⟨S1024x12, ((extractStridedSlice S1024x12 ![0, 3464] w slices_S1024x3476_S1024x12_0_3464) : (⟨S1024x12, .f32⟩ : BufTy).Contents (Elt Ideal))⟩,
      ⟨S1024x108, ((broadcastInDim S1024x108 ![] bcast_S_S1024x108 (constant S_ .f32 0x00000000#32 : FVec Ideal S_ .f32)) : (⟨S1024x108, .f32⟩ : BufTy).Contents (Elt Ideal))⟩]
      concatenates_S1024x1536_S1024x1920_S1024x8_S1024x12_S1024x108_S1024x3584_d1 : (⟨S1024x3584, .f32⟩ : BufTy).Contents (Elt Ideal))) bitsLt_bf16_f32
      : FVec Ideal S1024x3584 .bf16) (ix2 r n)
    = packed (fun j => w (ix2 r j)) n := by
  pointwise
  rfl

end

/-- The kernel and the reference, from memories that agree on the weights, end with the same packed weights. -/
theorem algebraic : Cert.algebraic_Kernel2Ideal_Reference2Ideal := by
  intro m ρ m' ρ' hp hagree
  refine ⟨fun c => (Cert.Kernel2Ideal.Gen.dats m 0 c).arrAt 1 Cert.Kernel2Ideal.cfg0.N, ?_, ?_⟩
  · exact (θ_run Cert.Kernel2Ideal.defs _ _).mono (fun _ h c => ⟨h.1.out_eq c 1, h.2 c⟩)
      (θ_run_and (Cert.Kernel2Ideal.Gen.run_main m ρ) (Cert.Kernel2Ideal.Gen.unchanged m ρ))
  · refine (θ_run Cert.Reference2Ideal.defs _ _).mono (fun _ h c => ⟨(h c).1.trans ?_, (h c).2⟩)
      (Cert.Reference2Ideal.Value.run (F := Ideal) m' ρ')
    refine Eq.trans ?_ (final m c).symm
    funext i
    have hi : i = ix2 (i 0) (i 1) := by
      funext a; fin_cases a <;> rfl
    refine (congrArg _ hi).trans ?_
    refine (reference_apply _ (i 0) (i 1)).trans ?_
    show packed _ _ = packed _ _
    rw [hagree c]

end Cert.Packing
-- ==== Proof.Projection.lean ====
module
public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Tactic.CleanTypes
public import Idealize.ShloMosaic.Adequacy
public import Idealize.ShloMosaic.Init
@[expose] public section
set_option maxRecDepth 16384
noncomputable section

/-! The input projection: every row divided by its root mean square, scaled by the gains, times the weights. -/

namespace Cert.Projection

open Idealize.ShloMosaic Idealize.ShloMosaic.TcCoe Idealize.SL.Sem

/-- One entry of the input projection, from a row, the gains and a column of the weights. The two words are the row's
    length 1024 and the constant added under the root. -/
def projected (x gain w : Fin 1024 → EReal) : EReal :=
  ∑ k : Fin 1024, x k * Ideal.rsqrt (Ideal.div (∑ j : Fin 1024, x j * x j) (Ideal.ofBits FTy.f32 0x44800000#32)
    + Ideal.ofBits FTy.f32 0x358637BD#32) * gain k * w k

section
open Cert.Kernel3Ideal Cert.Kernel3Ideal.Gen

/-- A block of the kernel's result at row `r`, column `n`. -/
theorem block_apply (x0 : Vec Ideal S256x1024 .f32) (x1 : Vec Ideal S1x1024 .f32) (x2 : Vec Ideal S1024x3584 .bf16)
    (r : Fin 256) (n : Fin 3584) :
    out0_3 x0 x1 x2 (ix2 r n)
    = projected (fun j => x0 (ix2 r j)) (fun j => x1 (ix2 (0 : Fin 1) j)) (fun j => x2 (ix2 j n)) := by
  frame_out [out0_3]
  pointwise [k0_pay1]
  rfl

variable (m : (ℓ : Loc nD τ sig) → Buf (Elt Ideal) ℓ)

/-- There are sixty-four grid points. -/
theorem point_lt (t : Fin grid0.N) : t.val < 64 := lt_of_lt_of_eq t.isLt (show grid0.N = 64 from N_0)

/-- The grid's coordinate is the point. -/
theorem coord (t : Fin grid0.N) : (grid0.coords t 0).val = t.val := by
  have h := point_lt t
  rw [grid0.coords_val t 0 (S := 1) (B := 64) (by rfl) (by rfl)]
  omega

/-- The row of the array that is row `p` of the point's block. -/
def row (t : Fin grid0.N) (p : Fin 256) : Fin 16384 := ⟨t.val * 256 + p.val, by have := point_lt t; omega⟩

/-- The rows' window takes the point's rows. -/
theorem in_index (t : Fin grid0.N) : cc0_transform_0 (grid0.coords t) = ![t.val, 0] := by
  have h := point_lt t
  funext a
  fin_cases a
  · show (BitVec.ofNat 32 (grid0.coords t 0).val).toNat = t.val
    rw [BitVec.toNat_ofNat, coord]
    omega
  · rfl

/-- So does the result's. -/
theorem out_index (t : Fin grid0.N) : cc0_transform_3 (grid0.coords t) = ![t.val, 0] := in_index t

/-- The rows staged at a point are the point's rows. -/
theorem rows_apply (c : Dev nD) (t : Fin cfg0.N) (p : Fin 256) (l : Fin 1024) :
    (iblk m c 0 t : Vec Ideal S256x1024 .f32) (ix2 p l)
    = (m ((c : Thread nD τ).loc main_arg0) : Vec Ideal S16384x1024 .f32) (ix2 (row t p) l) := by
  show V m c main_arg0 _ = _
  rw [V_main_arg0]
  congr 1
  funext a
  apply Fin.ext
  fin_cases a
  · show cc0_transform_0 (grid0.coords t) 0 * 256 + 1 * p.val = t.val * 256 + p.val
    rw [in_index]; simp
  · show cc0_transform_0 (grid0.coords t) 1 * 1024 + 1 * l.val = l.val
    rw [in_index]; simp

/-- The gains laid out as a row. -/
theorem gain_entry (c : Dev nD) (l : Fin 1024) :
    V m c main_v0 (ix2 (0 : Fin 1) l) = (m ((c : Thread nD τ).loc main_arg1) : Vec Ideal S1024 .f32) (ix1 l) := by
  entry_read
  clean_types
  pointwise

/-- The gains staged at a point are all of them. -/
theorem gain_apply (c : Dev nD) (t : Fin cfg0.N) (l : Fin 1024) :
    (iblk m c 1 t : Vec Ideal S1x1024 .f32) (ix2 (0 : Fin 1) l)
    = (m ((c : Thread nD τ).loc main_arg1) : Vec Ideal S1024 .f32) (ix1 l) := by
  refine Eq.trans ?_ (gain_entry m c l)
  show V m c main_v0 _ = V m c main_v0 _
  congr 1
  funext a
  apply Fin.ext
  fin_cases a
  · rfl
  · show 0 * 1024 + 1 * l.val = l.val
    omega

/-- The weights staged at a point are all of them. -/
theorem weights_apply (c : Dev nD) (t : Fin cfg0.N) (k : Fin 1024) (n : Fin 3584) :
    (iblk m c 2 t : Vec Ideal S1024x3584 .bf16) (ix2 k n)
    = (m ((c : Thread nD τ).loc main_arg2) : Vec Ideal S1024x3584 .bf16) (ix2 k n) := by
  show V m c main_arg2 _ = _
  rw [V_main_arg2]
  congr 1
  funext a
  apply Fin.ext
  fin_cases a
  · show 0 * 1024 + 1 * k.val = k.val
    omega
  · show 0 * 3584 + 1 * n.val = n.val
    omega

/-- The input projection as a function of the arguments. -/
def result (c : Dev nD) (r : Fin 16384) (n : Fin 3584) : EReal :=
  projected (fun j => (m ((c : Thread nD τ).loc main_arg0) : Vec Ideal S16384x1024 .f32) (ix2 r j))
    (fun j => (m ((c : Thread nD τ).loc main_arg1) : Vec Ideal S1024 .f32) (ix1 j))
    (fun j => (m ((c : Thread nD τ).loc main_arg2) : Vec Ideal S1024x3584 .bf16) (ix2 j n))

/-- What the body leaves in the result's block at any index. -/
theorem blockwise (c : Dev nD) (t : Fin cfg0.N) (y : S256x3584.Idx) :
    out0_3 (iblk m c 0 t : Vec Ideal S256x1024 .f32) (iblk m c 1 t : Vec Ideal S1x1024 .f32)
      (iblk m c 2 t : Vec Ideal S1024x3584 .bf16) y = result m c (row t (y 0)) (y 1) := by
  have hy : y = ix2 (y 0) (y 1) := by
    funext a; fin_cases a <;> rfl
  rw [hy]
  refine (block_apply (iblk m c 0 t) (iblk m c 1 t) (iblk m c 2 t) (y 0) (y 1)).trans ?_
  show projected _ _ _ = projected _ _ _
  congr 1
  · funext j
    exact rows_apply m c t (y 0) j
  · funext j
    exact gain_apply m c t j
  · funext j
    exact weights_apply m c t j (y 1)

/-- Where an entry of the output block is written. -/
theorem out_emb (t : Fin cfg0.N) (y : S256x3584.Idx) :
    ((cfg0.win 3).blk t).view.emb y = ix2 (row t (y 0)) (y 1) := by
  funext a
  apply Fin.ext
  fin_cases a
  · show cc0_transform_3 (grid0.coords t) 0 * 256 + 1 * (y 0).val = t.val * 256 + (y 0).val
    rw [out_index]
    show t.val * 256 + 1 * (y 0).val = t.val * 256 + (y 0).val
    omega
  · show cc0_transform_3 (grid0.coords t) 1 * 3584 + 1 * (y 1).val = (y 1).val
    rw [out_index]
    show 0 * 3584 + 1 * (y 1).val = (y 1).val
    omega

/-- The result array after the run. -/
theorem final (c : Dev nD) :
    (dats m 0 c).arrAt 3 cfg0.N = fun i : S16384x3584.Idx => result m c (i 0) (i 1) := by
  refine (dats m 0 c).arrAt_eq_of_covers 3 _ (by decide +kernel) fun t hf y => ?_
  blk_simp
  rw [after0_3]
  exact (blockwise m c t y).trans
    (congrArg (fun i : S16384x3584.Idx => result m c (i 0) (i 1)) (out_emb t y).symm)

end

section
open Cert.Reference3Ideal Cert.Reference3Ideal.Gen

/-- The reference's result at row `r`, column `n`. -/
theorem reference_apply (x : Vec Ideal S16384x1024 .f32) (g : Vec Ideal S1024 .f32) (w : Vec Ideal S1024x3584 .bf16)
    (r : Fin 16384) (n : Fin 3584) :
    (Host.dotGeneral (F := Ideal) dot_S16384x1024_S1024x3584_S16384x3584_1_0_0_1_n_n none
      (mulf (mulf x (broadcastInDim S16384x1024 ![0, 1] bcast_S16384x1_S16384x1024_0_1
          (Host.rsqrt (addf (Host.divf (broadcastInDim S16384x1 ![0] bcast_S16384_S16384x1_0
              (Host.reduceAdd (mulf x x) (constant S_ .f32 0x00000000#32) reducesTo_S16384x1024_S16384_d1 h_S_))
            (broadcastInDim S16384x1 ![] bcast_S_S16384x1 (constant S_ .f32 0x44800000#32)))
            (broadcastInDim S16384x1 ![] bcast_S_S16384x1 (constant S_ .f32 0x358637BD#32))))))
        (broadcastInDim S16384x1024 ![0, 1] bcast_S1x1024_S16384x1024_0_1 (broadcastInDim S1x1024 ![1] bcast_S1024_S1x1024_1 g)))
      (extf .f32 w bitsLt_bf16_f32)) (ix2 r n)
    = projected (fun k => x (ix2 r k)) (fun k => g (ix1 k)) (fun k => w (ix2 k n)) := by
  pointwise
  rfl

end

/-- The kernel and the reference, from memories that agree on the arguments, end with the same projection. -/
theorem algebraic : Cert.algebraic_Kernel3Ideal_Reference3Ideal := by
  intro m ρ m' ρ' hp hagree
  refine ⟨fun c => (Cert.Kernel3Ideal.Gen.dats m 0 c).arrAt 3 Cert.Kernel3Ideal.cfg0.N, ?_, ?_⟩
  · exact (θ_run Cert.Kernel3Ideal.defs _ _).mono (fun _ h c => ⟨h.1.out_eq c 3, h.2 c⟩)
      (θ_run_and (Cert.Kernel3Ideal.Gen.run_main m ρ) (Cert.Kernel3Ideal.Gen.unchanged m ρ))
  · refine (θ_run Cert.Reference3Ideal.defs _ _).mono (fun _ h c => ⟨(h c).1.trans ?_, (h c).2⟩)
      (Cert.Reference3Ideal.Value.run (F := Ideal) m' ρ')
    obtain ⟨h0, h1, h2⟩ := hagree c
    refine Eq.trans ?_ (final m c).symm
    funext i
    have hi : i = ix2 (i 0) (i 1) := by
      funext a; fin_cases a <;> rfl
    refine (congrArg _ hi).trans ?_
    refine (reference_apply _ _ _ (i 0) (i 1)).trans ?_
    show projected _ _ _ = projected _ _ _
    rw [h0, h1, h2]

end Cert.Projection
-- ==== Proof.RouterMath.lean ====
module
public import Idealize.ShloMosaic.Lib.Pipeline.ValueKit
@[expose] public section
noncomputable section

/-! The router's choices for one row: the first place at which a list is greatest, the chosen group, the two chosen
    experts of that group and their weights. -/

namespace Cert.Router

open Idealize.ShloMosaic

/-! ## The first place of a greatest value -/

/-- `i` is the first place, among those that satisfy `p`, at which `f` is greatest. -/
def IsFirst {n : ℕ} (p : Fin n → Prop) (f : Fin n → EReal) (i : Fin n) : Prop :=
  p i ∧ (∀ j, p j → f j ≤ f i) ∧ ∀ j, p j → f j = f i → i ≤ j

/-- There is a first place of a greatest value when some place is admitted. -/
theorem exists_isFirst {n : ℕ} (p : Fin n → Prop) (f : Fin n → EReal) (hp : ∃ i, p i) : ∃ i, IsFirst p f i := by
  classical
  obtain ⟨i₀, h₀⟩ := hp
  obtain ⟨m, hm, hmax⟩ := (Finset.univ.filter p).exists_max_image f ⟨i₀, by simpa using h₀⟩
  have hm' : p m := (Finset.mem_filter.1 hm).2
  have hne : ((Finset.univ.filter p).filter fun j => f j = f m).Nonempty := ⟨m, by simpa using hm'⟩
  have hmin := Finset.min'_mem _ hne
  refine ⟨Finset.min' _ hne, ?_, fun j hj => ?_, fun j hj e => ?_⟩
  · exact (Finset.mem_filter.1 (Finset.mem_filter.1 hmin).1).2
  · rw [(Finset.mem_filter.1 hmin).2]
    exact hmax j (by simpa using hj)
  · refine Finset.min'_le _ _ ?_
    rw [(Finset.mem_filter.1 hmin).2] at e
    simpa using ⟨hj, e⟩

/-- There is at most one first place. -/
theorem IsFirst.unique {n : ℕ} {p : Fin n → Prop} {f : Fin n → EReal} {i j : Fin n} (hi : IsFirst p f i) (hj : IsFirst p f j) :
    i = j := by
  have e : f i = f j := le_antisymm (hj.2.1 i hi.1) (hi.2.1 j hj.1)
  exact le_antisymm (hi.2.2 j hj.1 e.symm) (hj.2.2 i hi.1 e)

/-- A first place among a part of a longer list, the part given in order. -/
theorem IsFirst.map {m n : ℕ} {p : Fin m → Prop} {q : Fin n → Prop} {f : Fin n → EReal} {i : Fin m} (ι : Fin m → Fin n)
    (mono : ∀ a b, a ≤ b → ι a ≤ ι b) (hq : ∀ k, q k ↔ ∃ a, p a ∧ ι a = k) (h : IsFirst p (fun a => f (ι a)) i) :
    IsFirst q f (ι i) := by
  refine ⟨(hq _).2 ⟨i, h.1, rfl⟩, fun k hk => ?_, fun k hk e => ?_⟩
  · obtain ⟨a, ha, rfl⟩ := (hq k).1 hk
    exact h.2.1 a ha
  · obtain ⟨a, ha, rfl⟩ := (hq k).1 hk
    exact mono _ _ (h.2.2 a ha e)

/-- The first place is kept when the values change but not their order. -/
theorem IsFirst.congr {n : ℕ} {p : Fin n → Prop} {f h : Fin n → EReal} {i : Fin n} (hf : IsFirst p f i)
    (ho : ∀ a b, p a → p b → (h a ≤ h b ↔ f a ≤ f b)) : IsFirst p h i := by
  refine ⟨hf.1, fun j hj => (ho j i hj hf.1).2 (hf.2.1 j hj), fun j hj e => hf.2.2 j hj ?_⟩
  exact le_antisymm (hf.2.1 j hj) ((ho i j hf.1 hj).1 e.symm.le)

/-- The greatest value, folded over the whole list with the places left out at −∞. -/
theorem fold_max {n : ℕ} {p : Fin n → Prop} {f h : Fin n → EReal} {i : Fin n} (hf : IsFirst p f i)
    (hin : ∀ j, p j → h j = f j) (hout : ∀ j, ¬ p j → h j ≤ f i) : Finset.univ.fold max (⊥ : EReal) h = f i := by
  apply le_antisymm
  · refine Finset.fold_max_le _ |>.2 ⟨bot_le, fun j _ => ?_⟩
    by_cases hj : p j
    · rw [hin j hj]; exact hf.2.1 j hj
    · exact hout j hj
  · exact Finset.le_fold_max _ |>.2 (Or.inr ⟨i, Finset.mem_univ _, (hin i hf.1).ge⟩)

/-- The least number of a place of the greatest value. -/
theorem fold_min {β : Type} [LinearOrder β] {n : ℕ} {p : Fin n → Prop} {f : Fin n → EReal} {i : Fin n} (hf : IsFirst p f i)
    (c h : Fin n → β) (b : β) (hc : ∀ a b, a ≤ b → c a ≤ c b) (hb : c i ≤ b)
    (hin : ∀ j, p j → f j = f i → h j = c j) (hout : ∀ j, ¬ (p j ∧ f j = f i) → c i ≤ h j) :
    Finset.univ.fold min b h = c i := by
  apply le_antisymm
  · refine Finset.fold_min_le _ |>.2 (Or.inr ⟨i, Finset.mem_univ _, (hin i hf.1 rfl).le⟩)
  · refine Finset.le_fold_min _ |>.2 ⟨hb, fun j _ => ?_⟩
    by_cases hj : p j ∧ f j = f i
    · rw [hin j hj.1 hj.2]; exact hc _ _ (hf.2.2 j hj.1 hj.2)
    · exact hout j hj

/-- The lesser of two signed words, as numbers. -/
theorem toInt_minsi (a b : BitVec 32) : (IntOp.minsi a b).toInt = min a.toInt b.toInt := by
  unfold IntOp.minsi
  split_ifs with h
  · have := BitVec.slt_iff_toInt_lt.1 h
    exact (min_eq_left this.le).symm
  · have : ¬ a.toInt < b.toInt := fun q => h (BitVec.slt_iff_toInt_lt.2 q)
    exact (min_eq_right (not_lt.1 this)).symm

/-- A small number read from its word. -/
theorem toInt_small (k : ℕ) (hk : k < 2 ^ 31) : (BitVec.ofNat 32 k).toInt = (k : ℤ) := by
  rw [BitVec.toInt_eq_toNat_cond, BitVec.toNat_ofNat, Nat.mod_eq_of_lt (by omega), if_pos (by omega)]

/-- The least word of a place of the greatest value. -/
theorem fold_minsi {n : ℕ} (hn : n ≤ 128) {f : Fin n → EReal} {i : Fin n} (hf : IsFirst (fun _ => True) f i) (h : Fin n → BitVec 32)
    (hin : ∀ j, f j = f i → h j = BitVec.ofNat 32 j.val) (hout : ∀ j, f j ≠ f i → h j = BitVec.ofNat 32 n) :
    Finset.univ.fold IntOp.minsi 2147483647#32 h = BitVec.ofNat 32 i.val := by
  apply BitVec.eq_of_toInt_eq
  rw [← Finset.fold_hom (op' := min) (m := BitVec.toInt) toInt_minsi, toInt_small i.val (by have := i.isLt; omega)]
  refine fold_min hf (fun j => (j.val : ℤ)) _ _ (fun a b q => by exact_mod_cast q) ?_ (fun j _ e => ?_) fun j q => ?_
  · have := i.isLt
    show (i.val : ℤ) ≤ (2147483647#32).toInt
    have e : (2147483647#32).toInt = 2147483647 := by decide
    omega
  · rw [hin j e, toInt_small _ (by have := j.isLt; omega)]
  · rw [hout j fun e => q ⟨trivial, e⟩, toInt_small _ (by omega)]
    have := i.isLt
    omega

/-! ## Values that are real numbers -/

/-- The value is a real number. -/
def Real' (x : EReal) : Prop := ∃ r : ℝ, x = (r : EReal)

/-- The sum of two real numbers is real. -/
theorem Real'.add {x y : EReal} (hx : Real' x) (hy : Real' y) : Real' (x + y) := by
  obtain ⟨a, rfl⟩ := hx; obtain ⟨b, rfl⟩ := hy; exact ⟨a + b, (EReal.coe_add _ _).symm⟩

/-- The product of two real numbers is real. -/
theorem Real'.mul {x y : EReal} (hx : Real' x) (hy : Real' y) : Real' (x * y) := by
  obtain ⟨a, rfl⟩ := hx; obtain ⟨b, rfl⟩ := hy; exact ⟨a * b, (EReal.coe_mul _ _).symm⟩

/-- A finite sum of real numbers is real. -/
theorem Real'.sum {ι : Type} {s : Finset ι} {f : ι → EReal} (h : ∀ i ∈ s, Real' (f i)) : Real' (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

/-- A real value less itself is nothing. -/
theorem Real'.sub_self {x : EReal} (hx : Real' x) : x - x = 0 := by
  obtain ⟨a, rfl⟩ := hx; rw [← EReal.coe_sub, _root_.sub_self, EReal.coe_zero]

/-- A sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row's length as a word is 1024. -/
theorem length_word : Ideal.ofBits FTy.f32 0x44800000#32 = ((1024 : ℝ) : EReal) := by
  simp [Ideal.ofBits, Ideal.ieee]
  rw [← EReal.coe_mul]
  norm_num

/-- The constant added under the root is a positive real number. -/
theorem eps_word : ∃ e : ℝ, 0 < e ∧ Ideal.ofBits FTy.f32 0x358637BD#32 = (e : EReal) := by
  refine ⟨_, ?_, by simp [Ideal.ofBits, Ideal.ieee]; rfl⟩
  positivity

/-- The word of minus infinity. -/
theorem neg_inf_word : Ideal.ofBits FTy.f32 0xFF800000#32 = ⊥ := by
  simp [Ideal.ofBits, Ideal.ieee]

/-- The word of infinity. -/
theorem inf_word : Ideal.ofBits FTy.f32 0x7F800000#32 = ⊤ := by
  simp [Ideal.ofBits, Ideal.ieee]

/-- The word of 128. -/
theorem word_128 : Ideal.ofBits FTy.f32 0x43000000#32 = ((128 : ℝ) : EReal) := by
  simp [Ideal.ofBits, Ideal.ieee]
  rw [← EReal.coe_mul]
  norm_num

/-- The word of 8. -/
theorem word_8 : Ideal.ofBits FTy.f32 0x41000000#32 = ((8 : ℝ) : EReal) := by
  simp [Ideal.ofBits, Ideal.ieee]
  rw [← EReal.coe_mul]
  norm_num

/-- The word of 4. -/
theorem word_4 : Ideal.ofBits FTy.f32 0x40800000#32 = ((4 : ℝ) : EReal) := by
  simp [Ideal.ofBits, Ideal.ieee]
  rw [← EReal.coe_mul]
  norm_num

/-- One entry of a row divided by its root mean square and scaled by the gains. -/
def unit (x g : Fin 1024 → EReal) (k : Fin 1024) : EReal :=
  x k * Ideal.rsqrt (Ideal.div (∑ j : Fin 1024, x j * x j) (Ideal.ofBits FTy.f32 0x44800000#32)
    + Ideal.ofBits FTy.f32 0x358637BD#32) * g k

/-- The scaled row is made of real numbers whatever the row: an infinite entry makes the factor zero. -/
theorem unit_real (x g : Fin 1024 → EReal) (hg : ∀ k, Real' (g k)) (k : Fin 1024) : Real' (unit x g k) := by
  obtain ⟨e, he, hew⟩ := eps_word
  unfold unit
  rw [length_word, hew]
  refine Real'.mul ?_ (hg k)
  by_cases hx : ∀ j, Real' (x j)
  · choose a ha using hx
    have hs : ∑ j, x j * x j = ((∑ j, a j * a j : ℝ) : EReal) := by
      rw [coe_sum]; exact Finset.sum_congr rfl fun j _ => by rw [ha, EReal.coe_mul]
    have hn : 0 ≤ ∑ j, a j * a j := Finset.sum_nonneg fun j _ => mul_self_nonneg _
    have hpos : 0 < (∑ j, a j * a j) * (1 / 1024) + e := by positivity
    rw [hs, Ideal.div_coe (by norm_num), ← EReal.coe_mul, ← EReal.coe_add, Ideal.rsqrt_coe, if_neg (not_lt.2 hpos.le), if_neg hpos.ne', ha,
      ← EReal.coe_mul]
    exact ⟨_, rfl⟩
  · obtain ⟨j, hj⟩ := not_forall.1 hx
    have hnn : ∀ y : EReal, 0 ≤ y * y := fun y => by
      induction y using EReal.rec with
      | bot => simp
      | top => simp
      | coe r => rw [← EReal.coe_mul]; exact_mod_cast mul_self_nonneg r
    have htop : x j * x j = ⊤ := by
      generalize x j = y at hj
      induction y using EReal.rec with
      | bot => simp
      | top => simp
      | coe r => exact absurd ⟨r, rfl⟩ hj
    have hs : ∑ j, x j * x j = ⊤ :=
      top_le_iff.1 (htop ▸ Finset.single_le_sum (f := fun j => x j * x j) (fun j _ => hnn (x j)) (Finset.mem_univ j))
    rw [hs, Ideal.div_coe (by norm_num), EReal.top_mul_coe_of_pos (by norm_num), EReal.top_add_coe, Ideal.rsqrt_top, mul_zero]
    exact ⟨0, rfl⟩

/-! ## The two weights -/

/-- The first weight, from the two probabilities or from the ratio of the exponentials. -/
theorem weight_first (P S r : ℝ) (hS : 0 < S) (hr : 0 < r) :
    Ideal.div ((P : EReal) * Ideal.div 1 (S : EReal)) (Ideal.div 1 (S : EReal) + Ideal.div (r : EReal) (S : EReal))
      = Ideal.div (P : EReal) (1 + (r : EReal)) := by
  have h1 : (1 : EReal) = ((1 : ℝ) : EReal) := rfl
  rw [h1, Ideal.div_coe hS.ne', Ideal.div_coe hS.ne', ← EReal.coe_mul, ← EReal.coe_mul, ← EReal.coe_mul, ← EReal.coe_add, ← EReal.coe_add,
    Ideal.div_coe (by positivity), Ideal.div_coe (by positivity), ← EReal.coe_mul, ← EReal.coe_mul]
  congr 1
  field_simp

/-- The second weight, likewise. -/
theorem weight_second (P S r : ℝ) (hS : 0 < S) (hr : 0 < r) :
    Ideal.div ((P : EReal) * Ideal.div (r : EReal) (S : EReal)) (Ideal.div 1 (S : EReal) + Ideal.div (r : EReal) (S : EReal))
      = Ideal.div ((P : EReal) * (r : EReal)) (1 + (r : EReal)) := by
  have h1 : (1 : EReal) = ((1 : ℝ) : EReal) := rfl
  rw [h1, Ideal.div_coe hS.ne', Ideal.div_coe hS.ne', ← EReal.coe_mul, ← EReal.coe_mul, ← EReal.coe_mul, ← EReal.coe_mul, ← EReal.coe_add, ← EReal.coe_add,
    Ideal.div_coe (by positivity), Ideal.div_coe (by positivity), ← EReal.coe_mul, ← EReal.coe_mul]
  congr 1
  field_simp

/-! ## The choices -/

/-- The first place at which `f` is greatest among the admitted ones (any place when none is admitted). -/
def top {n : ℕ} [NeZero n] (p : Fin n → Prop) (f : Fin n → EReal) : Fin n :=
  open Classical in if h : ∃ i, p i then (exists_isFirst p f h).choose else 0

/-- The chosen place is the first of the greatest. -/
theorem top_spec {n : ℕ} [NeZero n] (p : Fin n → Prop) (f : Fin n → EReal) (h : ∃ i, p i) : IsFirst p f (top p f) := by
  unfold top
  rw [dif_pos h]
  exact (exists_isFirst p f h).choose_spec

/-- The chosen group. -/
def group (lg : Fin 4 → EReal) : Fin 4 := top (fun _ => True) lg

/-- The group's share: the greatest entry of the softmax of the groups' logits. -/
def share (lg : Fin 4 → EReal) : EReal := Ideal.div 1 (∑ j : Fin 4, Ideal.exp (lg j - lg (group lg)))

/-- The first chosen expert of a group. -/
def first (l : Fin 8 → EReal) : Fin 8 := top (fun _ => True) l

/-- The second chosen expert of a group: the first place of the greatest among the others. -/
def second (l : Fin 8 → EReal) : Fin 8 := top (fun e => e ≠ first l) l

/-- The second expert's weight as a part of the first's. -/
def ratio (l : Fin 8 → EReal) : EReal := Ideal.exp (l (second l) - l (first l))

/-- The weight of expert `e` of group `c`. -/
def gate (lg : Fin 4 → EReal) (lx : Fin 4 → Fin 8 → EReal) (c : Fin 4) (e : Fin 8) : EReal :=
  if c = group lg then
    (if e = first (lx c) then Ideal.div (share lg) (1 + ratio (lx c)) else 0)
      + (if e = second (lx c) then Ideal.div (share lg * ratio (lx c)) (1 + ratio (lx c)) else 0)
  else 0

/-- The group is the first of the greatest logit. -/
theorem group_spec (lg : Fin 4 → EReal) : IsFirst (fun _ => True) lg (group lg) := top_spec _ _ ⟨0, trivial⟩
/-- So is the first expert among its group's. -/
theorem first_spec (l : Fin 8 → EReal) : IsFirst (fun _ => True) l (first l) := top_spec _ _ ⟨0, trivial⟩
/-- The second expert is the first of the greatest among the others. -/
theorem second_spec (l : Fin 8 → EReal) : IsFirst (fun e => e ≠ first l) l (second l) :=
  top_spec _ _ (exists_ne (first l))

/-- The first chosen and the second chosen differ. -/
theorem second_ne (l : Fin 8 → EReal) : second l ≠ first l := (second_spec l).1

end Cert.Router
-- ==== Proof.RouterSpec.lean ====
module
public import proofs.«01_k».proof.Proof.RouterMath
@[expose] public section
noncomputable section

/-! The output projection and the router, entry by entry, from the arguments. -/

namespace Cert.Router

open Idealize.ShloMosaic

/-- The arguments: the layer's input, the four mixed parts, the output weights, the gains, the two routers' weights and biases. -/
structure Args where
  x : Fin 16384 → Fin 1024 → EReal
  ya : Fin 16384 → Fin 256 → EReal
  yb : Fin 16384 → Fin 256 → EReal
  yc : Fin 16384 → Fin 256 → EReal
  yd : Fin 16384 → Fin 256 → EReal
  w : Fin 1024 → Fin 1024 → EReal
  gain : Fin 1024 → EReal
  wg : Fin 1024 → Fin 4 → EReal
  bg : Fin 4 → EReal
  we : Fin 1024 → Fin 32 → EReal
  be : Fin 32 → EReal

namespace Args

variable (A : Args)

/-- The gains, the routers' weights and their biases are real numbers. -/
structure Finite : Prop where
  gain : ∀ k, Real' (A.gain k)
  wg : ∀ k c, Real' (A.wg k c)
  bg : ∀ c, Real' (A.bg c)
  we : ∀ k j, Real' (A.we k j)
  be : ∀ j, Real' (A.be j)

/-- The row of the weights that meets place `k` of part `p`. -/
def place (p : Fin 4) (k : Fin 256) : Fin 1024 := ⟨256 * p.val + k.val, by omega⟩

/-- The layer's input plus the projection of the four parts. -/
def res (r : Fin 16384) (n : Fin 1024) : EReal :=
  A.x r n + ∑ k : Fin 256, A.ya r k * A.w (place 0 k) n + ∑ k : Fin 256, A.yb r k * A.w (place 1 k) n
    + ∑ k : Fin 256, A.yc r k * A.w (place 2 k) n + ∑ k : Fin 256, A.yd r k * A.w (place 3 k) n

/-- The scaled row. -/
def t (r : Fin 16384) (k : Fin 1024) : EReal := unit (A.res r) A.gain k

/-- The groups' logits. -/
def lg (r : Fin 16384) (c : Fin 4) : EReal := ∑ k : Fin 1024, A.t r k * A.wg k c + A.bg c

/-- The place of expert `e` of group `c` among all experts. -/
def expert (c : Fin 4) (e : Fin 8) : Fin 32 := ⟨c.val * 8 + e.val, by omega⟩

/-- The experts' logits. -/
def lx (r : Fin 16384) (c : Fin 4) (e : Fin 8) : EReal := ∑ k : Fin 1024, A.t r k * A.we k (expert c e) + A.be (expert c e)

/-- The row's group. -/
def grp (r : Fin 16384) : Fin 4 := group (A.lg r)

/-- The number of earlier rows of the same group. -/
def rank (r : Fin 16384) : EReal := ∑ c : Fin 16384, if c < r ∧ A.grp c = A.grp r then 1 else 0

/-- The router's lanes of a row: the experts' weights from the fifth lane on, zero elsewhere. -/
def lanes (r : Fin 16384) (k : Fin 128) : EReal :=
  if h : 4 ≤ k.val ∧ k.val < 36 then
    gate (A.lg r) (A.lx r) ⟨(k.val - 4) / 8, by omega⟩ ⟨(k.val - 4) % 8, by omega⟩
  else 0

/-- The scaled row followed by the router's lanes. -/
def aug (r : Fin 16384) (n : Fin 1152) : EReal :=
  if h : n.val < 1024 then A.t r ⟨n.val, h⟩ else A.lanes r ⟨n.val - 1024, by omega⟩

/-- The row's group and its rank in the group. -/
def route (r : Fin 16384) (k : Fin 128) : EReal :=
  if k.val = 0 then (((A.grp r).val : ℝ) : EReal) else if k.val = 1 then A.rank r else 0

/-- The number of rows of each group. -/
def counts (k : Fin 128) : EReal := ∑ c : Fin 16384, if (A.grp c).val = k.val then 1 else 0

variable {A}

/-- The scaled rows are real when the gains are. -/
theorem t_real (h : A.Finite) (r : Fin 16384) (k : Fin 1024) : Real' (A.t r k) := unit_real _ _ h.gain k

/-- The groups' logits are real under the precondition. -/
theorem lg_real (h : A.Finite) (r : Fin 16384) (c : Fin 4) : Real' (A.lg r c) :=
  (Real'.sum fun k _ => (t_real h r k).mul (h.wg k c)).add (h.bg c)

/-- The experts' logits are real under the precondition. -/
theorem lx_real (h : A.Finite) (r : Fin 16384) (c : Fin 4) (e : Fin 8) : Real' (A.lx r c e) :=
  (Real'.sum fun k _ => (t_real h r k).mul (h.we k _)).add (h.be _)

end Args

/-- A sum over all rows of the weights, part by part. -/
theorem sum_parts (f : Fin 1024 → EReal) :
    ∑ k, f k = ∑ k, f (Args.place 0 k) + (∑ k, f (Args.place 1 k) + (∑ k, f (Args.place 2 k) + ∑ k, f (Args.place 3 k))) := by
  have e1 := Fin.sum_univ_add (a := 256) (b := 256 + (256 + 256)) f
  have e2 := Fin.sum_univ_add (a := 256) (b := 256 + 256) fun k => f (Fin.natAdd 256 k)
  have e3 := Fin.sum_univ_add (a := 256) (b := 256) fun k => f (Fin.natAdd 256 (Fin.natAdd 256 k))
  refine e1.trans ?_
  rw [e2, e3]
  have h0 : ∀ k : Fin 256, (Fin.castAdd (256 + (256 + 256)) k : Fin 1024) = Args.place 0 k := fun k => Fin.ext (by simp [Args.place])
  have h1 : ∀ k : Fin 256, (Fin.natAdd 256 (Fin.castAdd (256 + 256) k) : Fin 1024) = Args.place 1 k := fun k => Fin.ext (by simp [Args.place])
  have h2 : ∀ k : Fin 256, (Fin.natAdd 256 (Fin.natAdd 256 (Fin.castAdd 256 k)) : Fin 1024) = Args.place 2 k :=
    fun k => Fin.ext (by simp [Args.place]; omega)
  have h3 : ∀ k : Fin 256, (Fin.natAdd 256 (Fin.natAdd 256 (Fin.natAdd 256 k)) : Fin 1024) = Args.place 3 k :=
    fun k => Fin.ext (by simp [Args.place]; omega)
  refine congrArg₂ (· + ·) (Finset.sum_congr rfl fun k _ => congrArg f (h0 k)) (congrArg₂ (· + ·) (Finset.sum_congr rfl fun k _ => congrArg f (h1 k))
    (congrArg₂ (· + ·) (Finset.sum_congr rfl fun k _ => congrArg f (h2 k)) (Finset.sum_congr rfl fun k _ => congrArg f (h3 k))))

/-- A bit as a number: one when the two small numbers are equal. -/
theorem bit_eq (a b : ℕ) (ha : a < 2 ^ 31) (hb : b < 2 ^ 31) :
    (FloatOps.uitofp FTy.f32 (IntOp.cmpi CmpIPredicate.eq (BitVec.ofNat 32 a) (BitVec.ofNat 32 b)) : Ideal .f32) = (if a = b then 1 else 0 : EReal) := by
  by_cases h : a = b
  · subst h
    rw [if_pos rfl]
    have : IntOp.cmpi CmpIPredicate.eq (BitVec.ofNat 32 a) (BitVec.ofNat 32 a) = 1#1 := by simp [IntOp.cmpi]
    rw [this]
    show (((1#1 : BitVec 1).toNat : ℝ) : EReal) = 1
    simp
  · rw [if_neg h]
    have : IntOp.cmpi CmpIPredicate.eq (BitVec.ofNat 32 a) (BitVec.ofNat 32 b) = 0#1 := by
      have hne : BitVec.ofNat 32 a ≠ BitVec.ofNat 32 b := fun q => h (by
        have := congrArg BitVec.toNat q
        rw [BitVec.toNat_ofNat, BitVec.toNat_ofNat, Nat.mod_eq_of_lt (by omega), Nat.mod_eq_of_lt (by omega)] at this
        exact this)
      show BitVec.ofBool (BitVec.ofNat 32 a == BitVec.ofNat 32 b) = 0#1
      rw [beq_eq_false_iff_ne.2 hne]
      rfl
    rw [this]
    show (((0#1 : BitVec 1).toNat : ℝ) : EReal) = 0
    simp

/-- A small number's word as a number. -/
theorem number_word (a : ℕ) (ha : a < 2 ^ 31) : (FloatOps.sitofp FTy.f32 (BitVec.ofNat 32 a) : Ideal .f32) = (((a : ℕ) : ℝ) : EReal) := by
  show ((((BitVec.ofNat 32 a).toInt : ℤ) : ℝ) : EReal) = _
  rw [toInt_small a ha]
  simp

/-- Two conditions' bits together as a number. -/
theorem bit_before (a b c d : ℕ) (ha : a < 2 ^ 31) (hb : b < 2 ^ 31) (hc : c < 2 ^ 31) (hd : d < 2 ^ 31) :
    (FloatOps.uitofp FTy.f32 (IntOp.andi (IntOp.cmpi CmpIPredicate.slt (BitVec.ofNat 32 a) (BitVec.ofNat 32 b))
      (IntOp.cmpi CmpIPredicate.eq (BitVec.ofNat 32 c) (BitVec.ofNat 32 d))) : Ideal .f32) = (if a < b ∧ c = d then 1 else 0 : EReal) := by
  have h1 : IntOp.cmpi CmpIPredicate.slt (BitVec.ofNat 32 a) (BitVec.ofNat 32 b) = BitVec.ofBool (decide (a < b)) := by
    show BitVec.ofBool (decide ((BitVec.ofNat 32 a).toInt < (BitVec.ofNat 32 b).toInt)) = _
    rw [toInt_small a ha, toInt_small b hb]
    simp
  have h2 : IntOp.cmpi CmpIPredicate.eq (BitVec.ofNat 32 c) (BitVec.ofNat 32 d) = BitVec.ofBool (decide (c = d)) := by
    show BitVec.ofBool (BitVec.ofNat 32 c == BitVec.ofNat 32 d) = _
    congr 1
    rw [beq_eq_decide, decide_eq_decide]
    refine ⟨fun e => ?_, fun e => by rw [e]⟩
    have e' := congrArg BitVec.toInt e
    rw [toInt_small c hc, toInt_small d hd] at e'
    exact_mod_cast e'
  rw [h1, h2]
  by_cases p : a < b <;> by_cases q : c = d <;> simp only [p, q, and_self, and_false, false_and, if_true, if_false, decide_true, decide_false]
  · show (((1#1 : BitVec 1).toNat : ℝ) : EReal) = 1
    simp
  all_goals
    show (((0#1 : BitVec 1).toNat : ℝ) : EReal) = 0
    simp

/-- A softmax entry of real logits: a positive real number, ordered as the logits, greatest `1 / S`. -/
theorem softmax_entry {n : ℕ} (l : Fin n → EReal) (hl : ∀ j, Real' (l j)) (i : Fin n) (hi : IsFirst (fun _ => True) l i) :
    ∃ (S : ℝ) (v : Fin n → ℝ), 0 < S ∧ (∀ j, 0 < v j) ∧ (∀ j, Ideal.exp (l j - l i) = (v j : EReal)) ∧ v i = 1
      ∧ (∑ j, Ideal.exp (l j - l i)) = (S : EReal) ∧ ∀ a b, v a ≤ v b ↔ l a ≤ l b := by
  choose x hx using hl
  have hv : ∀ j, Ideal.exp (l j - l i) = ((Real.exp (x j - x i) : ℝ) : EReal) := fun j => by
    rw [hx, hx, ← EReal.coe_sub, Ideal.exp_coe]
  refine ⟨∑ j, Real.exp (x j - x i), fun j => Real.exp (x j - x i), ?_, fun j => Real.exp_pos _, hv, by simp, ?_, fun a b => ?_⟩
  · exact Finset.sum_pos (fun j _ => Real.exp_pos _) ⟨i, Finset.mem_univ _⟩
  · rw [coe_sum]; exact Finset.sum_congr rfl fun j _ => hv j
  · rw [Real.exp_le_exp, hx a, hx b, EReal.coe_le_coe_iff]
    constructor <;> intro h <;> linarith

/-- Division by a positive real keeps the order of real values. -/
theorem div_le_div {S : ℝ} (hS : 0 < S) (a b : ℝ) : Ideal.div (a : EReal) (S : EReal) ≤ Ideal.div (b : EReal) (S : EReal) ↔ a ≤ b := by
  rw [Ideal.div_coe hS.ne', Ideal.div_coe hS.ne', ← EReal.coe_mul, ← EReal.coe_mul, EReal.coe_le_coe_iff]
  exact mul_le_mul_iff_left₀ (by positivity)

end Cert.Router
-- ==== Proof.RouterRow.lean ====
module
public import proofs.«01_k».proof.Proof.Gen.Kernel4Ideal.Frame
public import proofs.«01_k».proof.Proof.RouterSpec
public import Idealize.ShloMosaic.Lib.Pipeline.ValueKit
@[expose] public section
set_option maxRecDepth 16384
noncomputable section

/-! The kernel's router on one row of a block: its lanes hold the groups' logits, then the experts' logits, group after group. -/

namespace Cert.Router.Kernel

open Cert.Kernel4Ideal Cert.Kernel4Ideal.Gen
open Idealize.ShloMosaic

/-- The lane of a group's logit. -/
def groupLane (c : Fin 4) : Fin 128 := ⟨c.val, by omega⟩

/-- The lane of an expert's logit. -/
def expertLane (c : Fin 4) (e : Fin 8) : Fin 128 := ⟨4 + 8 * c.val + e.val, by omega⟩

/-- A lane's number. -/
def num (k : Fin 128) : EReal := ((k.val : ℝ) : EReal)

/-- Lane numbers are in the lanes' order. -/
theorem num_le (a b : Fin 128) : num a ≤ num b ↔ a ≤ b := by
  unfold num
  rw [EReal.coe_le_coe_iff, Nat.cast_le, Fin.le_def]

/-- Different lanes have different numbers. -/
theorem num_inj (a b : Fin 128) : num a = num b ↔ a = b := by
  unfold num
  rw [EReal.coe_eq_coe_iff, Nat.cast_inj, Fin.ext_iff]

/-- Lane numbers are at most 128. -/
theorem num_le_128 (a : Fin 128) : num a ≤ Ideal.ofBits FTy.f32 0x43000000#32 := by
  rw [word_128]
  unfold num
  have : (a.val : ℝ) ≤ (128 : ℕ) := Nat.cast_le.2 a.isLt.le
  exact_mod_cast this

/-- A choice by a condition's bit. -/
theorem select_bit {α : Type} (q : Prop) [Decidable q] (x y : α) : Scalar.select (BitVec.ofBool (decide q)) x y = if q then x else y := by
  by_cases h : q
  · rw [if_pos h, decide_eq_true h]; rfl
  · rw [if_neg h, decide_eq_false h]; rfl

/-- Two conditions' bits together. -/
theorem and_bit (q r : Prop) [Decidable q] [Decidable r] :
    IntOp.andi (BitVec.ofBool (decide q)) (BitVec.ofBool (decide r)) = BitVec.ofBool (decide (q ∧ r)) := by
  by_cases h : q <;> by_cases k : r <;> simp [h, k, IntOp.andi]

/-- A lane's number where two conditions hold. -/
theorem choose_lane {q : Prop} [Decidable q] {a : BitVec 1} (ha : a = BitVec.ofBool (decide q)) {x y y' n n' : EReal} (hy : y = y') (hn : n = n') (z : EReal)
    {d : Decidable (x = y)} {d' : Decidable (x = y')} :
    Scalar.select (IntOp.andi a (BitVec.ofBool (@decide (x = y) d))) n z = if q ∧ x = y' then n' else z := by
  subst hy hn
  rw [ha, and_bit, select_bit]
  congr

/-- The least lane at which the greatest value stands. -/
theorem least_lane {q : Fin 128 → Prop} [DecidablePred q] {f : Fin 128 → EReal} {i : Fin 128} (h : IsFirst q f i) :
    Finset.univ.fold min (Ideal.ofBits FTy.f32 0x7F800000#32)
      (fun x => if q x ∧ f x = f i then num x else Ideal.ofBits FTy.f32 0x43000000#32) = num i := by
  rw [inf_word]
  exact fold_min h num _ _ (fun a b e => (num_le a b).2 e) le_top (fun j hq e => if_pos ⟨hq, e⟩)
    fun j hn => by rw [if_neg hn]; exact num_le_128 i

/-- The lanes' numbers. -/
theorem lane_apply (p : Fin 256) (k : Fin 128) : (k0_pay8 : FVec Ideal S256x128 .f32) (ix2 p k) = num k := by
  pointwise [k0_pay8]
  exact number_word _ (by omega)

/-- The bit of the groups' lanes. -/
theorem isGroup_apply (p : Fin 256) (k : Fin 128) : (k0_pay9 : IVec S256x128 1) (ix2 p k) = BitVec.ofBool (decide (k.val < 4)) := by
  pointwise [k0_pay9]
  show BitVec.ofBool (decide ((BitVec.ofNat 32 k.val).toInt < (BitVec.ofNat 32 4).toInt)) = _
  rw [toInt_small _ (by omega), toInt_small _ (by omega)]
  simp

variable (v27 v29 : FVec Ideal S256x1024 .f32) (v39 : FVec Ideal S1x1024 .f32) (v44 v46 : FVec Ideal S1024x128 .bf16) (v48 : FVec Ideal S1x128 .f32)
variable (p : Fin 256) (lg : Fin 4 → EReal) (lx : Fin 4 → Fin 8 → EReal)
variable (hg : ∀ c, k0_pay7 (F := Ideal) v27 v29 v39 v44 v46 v48 (ix2 p (groupLane c)) = lg c)
variable (hx : ∀ c e, k0_pay7 (F := Ideal) v27 v29 v39 v44 v46 v48 (ix2 p (expertLane c e)) = lx c e)

/-- The groups' logits, and minus infinity elsewhere. -/
theorem masked_apply (k : Fin 128) : k0_pay10 (F := Ideal) v27 v29 v39 v44 v46 v48 (ix2 p k)
    = if k.val < 4 then k0_pay7 (F := Ideal) v27 v29 v39 v44 v46 v48 (ix2 p k) else (⊥ : EReal) := by
  pointwise [k0_pay10]
  rw [isGroup_apply]
  by_cases h : k.val < 4
  · rw [if_pos h, decide_eq_true h]; rfl
  · rw [if_neg h, decide_eq_false h]; rfl

include hg in
/-- The masked logits are greatest first at the row's group. -/
theorem group_first : IsFirst (fun k : Fin 128 => k.val < 4) (fun k => k0_pay10 (F := Ideal) v27 v29 v39 v44 v46 v48 (ix2 p k)) (groupLane (group lg)) := by
  refine IsFirst.map (p := fun _ => True) groupLane (fun a b h => h) (fun k => ⟨fun h => ⟨⟨k.val, h⟩, trivial, rfl⟩, ?_⟩) ?_
  · rintro ⟨a, -, rfl⟩
    exact a.isLt
  · refine (group_spec lg).congr fun a b _ _ => ?_
    rw [masked_apply, masked_apply, if_pos (by exact a.isLt), if_pos (by exact b.isLt), hg, hg]

include hg in
/-- The greatest masked logit is that of the row's group. -/
theorem top_apply : k0_pay11 (F := Ideal) v27 v29 v39 v44 v46 v48 (ix2 p 0) = lg (group lg) := by
  pointwise [k0_pay11]
  rw [neg_inf_word, fold_max (group_first _ _ _ _ _ _ _ _ hg) (fun _ _ => rfl) fun j h => by rw [masked_apply, if_neg h]; exact bot_le]
  rw [masked_apply, if_pos (by exact (group lg).isLt), hg]

include hg in
/-- The group's share. -/
theorem share_apply : k0_pay13 (F := Ideal) k0_pay9 (k0_pay12 (F := Ideal) v27 v29 v39 v44 v46 v48) (ix2 p 0) = share lg := by
  pointwise [k0_pay13, k0_pay12]
  rw [top_apply _ _ _ _ _ _ _ _ hg]
  unfold share
  refine congrArg _ ((Fin.sum_univ_add (a := 4) (b := 124) _).trans ?_)
  refine (congrArg₂ (· + ·) (Finset.sum_congr rfl fun c _ => ?_) (Finset.sum_eq_zero fun k _ => ?_)).trans (add_zero _)
  · rw [isGroup_apply, select_bit, if_pos (by exact c.isLt), masked_apply, if_pos (by exact c.isLt)]
    exact congrArg (fun x => Ideal.exp (x - lg (group lg))) (hg c)
  · rw [isGroup_apply, select_bit, if_neg (by simp)]

include hg in
/-- The number of the row's group. -/
theorem number_apply : k0_pay14 (F := Ideal) k0_pay8 k0_pay9 (k0_pay10 (F := Ideal) v27 v29 v39 v44 v46 v48) (k0_pay11 (F := Ideal) v27 v29 v39 v44 v46 v48) (ix2 p 0)
    = num (groupLane (group lg)) := by
  pointwise [k0_pay14]
  have h := group_first _ _ _ _ _ _ _ _ hg
  have e : k0_pay11 (F := Ideal) v27 v29 v39 v44 v46 v48 (ix2 p 0) = k0_pay10 (F := Ideal) v27 v29 v39 v44 v46 v48 (ix2 p (groupLane (group lg))) := by
    rw [top_apply _ _ _ _ _ _ _ _ hg, masked_apply, if_pos (by exact (group lg).isLt), hg]
  refine (Finset.fold_congr fun x _ => ?_).trans (least_lane h)
  exact choose_lane (isGroup_apply p x) e (lane_apply p x) _

variable (v60 v66 : FVec Ideal S256x128 .f32) (v68 : FVec Ideal S256x1 .f32)
variable (g : Fin 4) (hn : k0_pay14 (F := Ideal) k0_pay8 k0_pay9 v66 v68 (ix2 p 0) = num (groupLane g))
variable (l : Fin 8 → EReal) (hl : ∀ e, v60 (ix2 p (expertLane g e)) = l e)

/-- The lane lies in the chosen group. -/
def Mine (g : Fin 4) (k : Fin 128) : Prop := 4 + 8 * g.val ≤ k.val ∧ k.val < 4 + 8 * g.val + 8

/-- Whether a lane is one of a group's experts is decided by its number. -/
instance (g : Fin 4) (k : Fin 128) : Decidable (Mine g k) := by unfold Mine; infer_instance

include hn in
/-- The bit of the lanes of the chosen group's experts. -/
theorem mine_apply (k : Fin 128) : k0_pay15 (F := Ideal) k0_pay8 k0_pay9 v66 v68 (ix2 p k) = BitVec.ofBool (decide (Mine g k)) := by
  pointwise [k0_pay15]
  rw [hn, lane_apply, and_bit, word_4, word_8]
  refine congrArg BitVec.ofBool (decide_eq_decide.2 ?_)
  unfold num Mine groupLane
  rw [← EReal.coe_mul, ← EReal.coe_add, ← EReal.coe_add, EReal.coe_le_coe_iff, EReal.coe_lt_coe_iff]
  exact and_congr (by exact_mod_cast Iff.rfl) (by exact_mod_cast Iff.rfl)

include hn in
/-- The logits of the chosen group's experts, and minus infinity elsewhere. -/
theorem mine_masked (k : Fin 128) : k0_pay16 (F := Ideal) v60 k0_pay8 k0_pay9 v66 v68 (ix2 p k) = if Mine g k then v60 (ix2 p k) else (⊥ : EReal) := by
  pointwise [k0_pay16]
  rw [mine_apply p v66 v68 g hn]
  by_cases h : Mine g k
  · rw [if_pos h, decide_eq_true h]; rfl
  · rw [if_neg h, decide_eq_false h]; rfl

/-- The chosen group's lanes are those of its experts. -/
theorem mine_iff (k : Fin 128) : Mine g k ↔ ∃ e, expertLane g e = k := by
  refine ⟨fun h => ⟨⟨k.val - (4 + 8 * g.val), by have := h.1; have := h.2; omega⟩, Fin.ext ?_⟩, ?_⟩
  · have := h.1
    show 4 + 8 * g.val + (k.val - (4 + 8 * g.val)) = k.val
    omega
  · rintro ⟨e, rfl⟩
    have := e.isLt
    show 4 + 8 * g.val ≤ 4 + 8 * g.val + e.val ∧ 4 + 8 * g.val + e.val < 4 + 8 * g.val + 8
    omega

include hn hl in
/-- The masked logits of the chosen group's experts are greatest first at the first expert. -/
theorem expert_first : IsFirst (Mine g) (fun k => k0_pay16 (F := Ideal) v60 k0_pay8 k0_pay9 v66 v68 (ix2 p k)) (expertLane g (first l)) := by
  refine IsFirst.map (p := fun _ => True) (expertLane g) (fun a b h => Nat.add_le_add_left h _)
    (fun k => by rw [mine_iff]; simp) ?_
  refine (first_spec l).congr fun a b _ _ => ?_
  rw [mine_masked p v60 v66 v68 g hn, mine_masked p v60 v66 v68 g hn, if_pos ((mine_iff _ _).2 ⟨_, rfl⟩), if_pos ((mine_iff _ _).2 ⟨_, rfl⟩), hl, hl]

include hn hl in
/-- The first expert's logit. -/
theorem firstValue_apply : k0_pay17 (F := Ideal) v60 k0_pay8 k0_pay9 v66 v68 (ix2 p 0) = l (first l) := by
  pointwise [k0_pay17]
  rw [neg_inf_word, fold_max (expert_first p v60 v66 v68 g hn l hl) (fun _ _ => rfl) fun j h => by rw [mine_masked p v60 v66 v68 g hn, if_neg h]; exact bot_le]
  rw [mine_masked p v60 v66 v68 g hn, if_pos ((mine_iff _ _).2 ⟨_, rfl⟩), hl]

include hn hl in
/-- The first expert's lane. -/
theorem firstLane_apply : k0_pay18 (F := Ideal) v60 k0_pay8 k0_pay9 v66 v68 (ix2 p 0) = num (expertLane g (first l)) := by
  pointwise [k0_pay18]
  have e : k0_pay17 (F := Ideal) v60 k0_pay8 k0_pay9 v66 v68 (ix2 p 0) = k0_pay16 (F := Ideal) v60 k0_pay8 k0_pay9 v66 v68 (ix2 p (expertLane g (first l))) := by
    rw [firstValue_apply p v60 v66 v68 g hn l hl, mine_masked p v60 v66 v68 g hn, if_pos ((mine_iff _ _).2 ⟨_, rfl⟩), hl]
  refine (Finset.fold_congr fun x _ => ?_).trans (least_lane (expert_first p v60 v66 v68 g hn l hl))
  exact choose_lane (mine_apply p v66 v68 g hn x) e (lane_apply p x) _

include hn hl in
/-- The bit of the other experts' lanes. -/
theorem others_apply (k : Fin 128) : k0_pay19 (F := Ideal) v60 k0_pay8 k0_pay9 v66 v68 (ix2 p k)
    = BitVec.ofBool (decide (Mine g k ∧ k ≠ expertLane g (first l))) := by
  pointwise [k0_pay19]
  rw [mine_apply p v66 v68 g hn, firstLane_apply p v60 v66 v68 g hn l hl, lane_apply]
  rw [and_bit]
  refine congrArg BitVec.ofBool (decide_eq_decide.2 ?_)
  rw [ne_eq, num_inj]

include hn hl in
/-- The other experts' logits, and minus infinity elsewhere. -/
theorem others_masked (k : Fin 128) : k0_pay20 (F := Ideal) v60 k0_pay8 k0_pay9 v66 v68 (ix2 p k)
    = if Mine g k ∧ k ≠ expertLane g (first l) then v60 (ix2 p k) else (⊥ : EReal) := by
  pointwise [k0_pay20]
  rw [others_apply p v60 v66 v68 g hn l hl]
  by_cases h : Mine g k ∧ k ≠ expertLane g (first l)
  · rw [if_pos h, decide_eq_true h]; rfl
  · rw [if_neg h, decide_eq_false h]; rfl

/-- The other lanes are those of the other experts. -/
theorem other_iff (k : Fin 128) : (Mine g k ∧ k ≠ expertLane g (first l)) ↔ ∃ e, e ≠ first l ∧ expertLane g e = k := by
  rw [mine_iff]
  constructor
  · rintro ⟨⟨e, rfl⟩, h⟩
    exact ⟨e, fun q => h (by rw [q]), rfl⟩
  · rintro ⟨e, h, rfl⟩
    refine ⟨⟨e, rfl⟩, fun q => h (Fin.ext ?_)⟩
    have := congrArg Fin.val q
    exact Nat.add_left_cancel this

include hn hl in
/-- The masked logits of the other experts are greatest first at the second expert. -/
theorem other_first : IsFirst (fun k => Mine g k ∧ k ≠ expertLane g (first l)) (fun k => k0_pay20 (F := Ideal) v60 k0_pay8 k0_pay9 v66 v68 (ix2 p k))
    (expertLane g (second l)) := by
  refine IsFirst.map (p := fun e => e ≠ first l) (expertLane g) (fun a b h => Nat.add_le_add_left h _) (other_iff g l) ?_
  refine (second_spec l).congr fun a b ha hb => ?_
  rw [others_masked p v60 v66 v68 g hn l hl, others_masked p v60 v66 v68 g hn l hl, if_pos ((other_iff g l _).2 ⟨_, ha, rfl⟩),
    if_pos ((other_iff g l _).2 ⟨_, hb, rfl⟩), hl, hl]

include hn hl in
/-- The second expert's logit. -/
theorem secondValue_apply : k0_pay21 (F := Ideal) v60 k0_pay8 k0_pay9 v66 v68 (ix2 p 0) = l (second l) := by
  pointwise [k0_pay21]
  rw [neg_inf_word, fold_max (other_first p v60 v66 v68 g hn l hl) (fun _ _ => rfl) fun j h => by
    rw [others_masked p v60 v66 v68 g hn l hl, if_neg h]; exact bot_le]
  rw [others_masked p v60 v66 v68 g hn l hl, if_pos ((other_iff g l _).2 ⟨_, (second_spec l).1, rfl⟩), hl]

include hn hl in
/-- The second expert's lane. -/
theorem secondLane_apply : Finset.univ.fold min (Ideal.ofBits FTy.f32 0x7F800000#32)
    (fun x => Scalar.select (k0_pay22 (F := Ideal) v60 k0_pay8 k0_pay9 v66 v68 (ix2 p x)) ((k0_pay8 : FVec Ideal S256x128 .f32) (ix2 p x))
      (Ideal.ofBits FTy.f32 0x43000000#32)) = num (expertLane g (second l)) := by
  have e : k0_pay21 (F := Ideal) v60 k0_pay8 k0_pay9 v66 v68 (ix2 p 0) = k0_pay20 (F := Ideal) v60 k0_pay8 k0_pay9 v66 v68 (ix2 p (expertLane g (second l))) := by
    rw [secondValue_apply p v60 v66 v68 g hn l hl, others_masked p v60 v66 v68 g hn l hl,
      if_pos ((other_iff g l _).2 ⟨_, (second_spec l).1, rfl⟩), hl]
  have h22 : ∀ x, k0_pay22 (F := Ideal) v60 k0_pay8 k0_pay9 v66 v68 (ix2 p x)
      = BitVec.ofBool (decide ((Mine g x ∧ x ≠ expertLane g (first l)) ∧ k0_pay20 (F := Ideal) v60 k0_pay8 k0_pay9 v66 v68 (ix2 p x)
        = k0_pay20 (F := Ideal) v60 k0_pay8 k0_pay9 v66 v68 (ix2 p (expertLane g (second l))))) := fun x => by
    pointwise [k0_pay22]
    rw [others_apply p v60 v66 v68 g hn l hl, e, and_bit]
  simp only [h22, select_bit, lane_apply]
  exact least_lane (other_first p v60 v66 v68 g hn l hl)

include hn hl in
/-- The two chosen experts' weights at their lanes. -/
theorem weights_apply (v77 : FVec Ideal S256x1 .f32) (P : EReal) (hP : v77 (ix2 p 0) = P) (k : Fin 128) :
    k0_pay23 (F := Ideal) k0_pay8 v77 (k0_pay17 v60 k0_pay8 k0_pay9 v66 v68) (k0_pay18 v60 k0_pay8 k0_pay9 v66 v68)
      (k0_pay21 v60 k0_pay8 k0_pay9 v66 v68) (k0_pay22 v60 k0_pay8 k0_pay9 v66 v68) (ix2 p k)
    = (if k = expertLane g (first l) then Ideal.div P (1 + ratio l) else (0 : EReal))
      + (if k = expertLane g (second l) then Ideal.div (P * ratio l) (1 + ratio l) else (0 : EReal)) := by
  pointwise [k0_pay23]
  rw [secondLane_apply p v60 v66 v68 g hn l hl, firstLane_apply p v60 v66 v68 g hn l hl, firstValue_apply p v60 v66 v68 g hn l hl,
    secondValue_apply p v60 v66 v68 g hn l hl, lane_apply, hP]
  simp only [num_inj]
  rfl

end Cert.Router.Kernel
-- ==== Proof.RouterWeights.lean ====
module
public import proofs.«01_k».proof.Proof.RouterRow
public import Idealize.ShloMosaic.Lib.Tactic.CleanTypes
public import Idealize.ShloMosaic.Lib.Routing.OpsSet
@[expose] public section
set_option maxRecDepth 16384
noncomputable section

/-! The router's weights and biases as the kernel receives them: the groups' and the experts' side by side on the lanes. -/

namespace Cert.Router.Kernel

open Cert.Kernel4Ideal Cert.Kernel4Ideal.Gen
open Idealize.ShloMosaic Idealize.ShloMosaic.TcCoe

/-- Where an update lands: at the place its start and its window give on every axis. -/
theorem lands_iff {s si u : Shape} {w : ℕ} (d : ScatterDims s si u) (j : u.Idx) (idx : IVec si w) (t : s.Idx) :
    d.resultIdx? j idx = some t ↔ ∀ a, d.start j idx a + d.window j a = ((t a).val : ℤ) := by
  unfold ScatterDims.resultIdx?
  constructor
  · intro h a
    by_cases hc : ∀ a, 0 ≤ d.start j idx a + d.window j a ∧ d.start j idx a + d.window j a < s.size a
    · rw [dif_pos hc] at h
      have := congrArg Fin.val (congrFun (Option.some.inj h) a)
      rw [← this]
      exact (Int.toNat_of_nonneg (hc a).1).symm
    · rw [dif_neg hc] at h
      exact absurd h (by simp)
  · intro h
    rw [dif_pos fun a => by rw [h a]; exact ⟨Int.natCast_nonneg _, by exact_mod_cast (t a).isLt⟩]
    congr 1
    funext a
    apply Fin.ext
    show (d.start j idx a + d.window j a).toNat = _
    rw [h a]
    rfl

/-- Where an entry of the group weights lands. -/
theorem groupCols_lands (idx : IVec S1 32) (w : ℕ) (hw : w < 2 ^ 31) (hidx : ∀ y, idx y = BitVec.ofNat 32 w) (a r : Fin 1024) (b : Fin 4) (k : Fin 128) :
    scatter_S1024x128_S1_S1024x4_01_n_1_0.resultIdx? (ix2 a b) idx = some (ix2 r k) ↔ a = r ∧ w + b.val = k.val := by
  have w0 : scatter_S1024x128_S1_S1024x4_01_n_1_0.window (ix2 a b) 0 = a.val := rfl
  have w1 : scatter_S1024x128_S1_S1024x4_01_n_1_0.window (ix2 a b) 1 = b.val := rfl
  have s0 : scatter_S1024x128_S1_S1024x4_01_n_1_0.start (ix2 a b) idx 0 = 0 := rfl
  have s1 : scatter_S1024x128_S1_S1024x4_01_n_1_0.start (ix2 a b) idx 1 = (w : ℤ) := by
    unfold ScatterDims.start
    rw [dif_pos (by decide), hidx, toInt_small w hw]
  rw [lands_iff]
  constructor
  · intro h
    have h0 := h 0
    have h1 := h 1
    rw [s0, w0] at h0
    rw [s1, w1] at h1
    exact ⟨Fin.ext (by have : ((0 : ℤ) + (a.val : ℤ)) = (r.val : ℤ) := h0; omega), by have : ((w : ℤ) + (b.val : ℤ)) = (k.val : ℤ) := h1; omega⟩
  · rintro ⟨rfl, h⟩ x
    fin_cases x
    · exact (congrArg₂ (fun (u : ℤ) (v : ℕ) => u + (v : ℤ)) s0 w0).trans (zero_add _)
    · refine (congrArg₂ (fun (u : ℤ) (v : ℕ) => u + (v : ℤ)) s1 w1).trans ?_
      show ((w : ℤ) + (b.val : ℤ)) = (k.val : ℤ)
      omega

/-- Where an entry of the expert weights lands. -/
theorem expertCols_lands (idx : IVec S1 32) (w : ℕ) (hw : w < 2 ^ 31) (hidx : ∀ y, idx y = BitVec.ofNat 32 w) (a r : Fin 1024) (b : Fin 32) (k : Fin 128) :
    scatter_S1024x128_S1_S1024x32_01_n_1_0.resultIdx? (ix2 a b) idx = some (ix2 r k) ↔ a = r ∧ w + b.val = k.val := by
  have w0 : scatter_S1024x128_S1_S1024x32_01_n_1_0.window (ix2 a b) 0 = a.val := rfl
  have w1 : scatter_S1024x128_S1_S1024x32_01_n_1_0.window (ix2 a b) 1 = b.val := rfl
  have s0 : scatter_S1024x128_S1_S1024x32_01_n_1_0.start (ix2 a b) idx 0 = 0 := rfl
  have s1 : scatter_S1024x128_S1_S1024x32_01_n_1_0.start (ix2 a b) idx 1 = (w : ℤ) := by
    unfold ScatterDims.start
    rw [dif_pos (by decide), hidx, toInt_small w hw]
  rw [lands_iff]
  constructor
  · intro h
    have h0 := h 0
    have h1 := h 1
    rw [s0, w0] at h0
    rw [s1, w1] at h1
    exact ⟨Fin.ext (by have : ((0 : ℤ) + (a.val : ℤ)) = (r.val : ℤ) := h0; omega), by have : ((w : ℤ) + (b.val : ℤ)) = (k.val : ℤ) := h1; omega⟩
  · rintro ⟨rfl, h⟩ x
    fin_cases x
    · exact (congrArg₂ (fun (u : ℤ) (v : ℕ) => u + (v : ℤ)) s0 w0).trans (zero_add _)
    · refine (congrArg₂ (fun (u : ℤ) (v : ℕ) => u + (v : ℤ)) s1 w1).trans ?_
      show ((w : ℤ) + (b.val : ℤ)) = (k.val : ℤ)
      omega

/-- Where an entry of the group biases lands. -/
theorem groupBias_lands (idx : IVec S2 32) (w : ℕ) (hw : w < 2 ^ 31) (h0 : idx (ix1 0) = BitVec.ofNat 32 0) (h1 : idx (ix1 1) = BitVec.ofNat 32 w)
    (b : Fin 4) (k : Fin 128) :
    scatter_S1x128_S2_S4_0_0_01_0.resultIdx? (ix1 b) idx = some (ix2 0 k) ↔ w + b.val = k.val := by
  have w0 : scatter_S1x128_S2_S4_0_0_01_0.window (ix1 b) 0 = 0 := rfl
  have w1 : scatter_S1x128_S2_S4_0_0_01_0.window (ix1 b) 1 = b.val := rfl
  have s0 : scatter_S1x128_S2_S4_0_0_01_0.start (ix1 b) idx 0 = 0 := by
    unfold ScatterDims.start
    rw [dif_pos (by decide)]
    have e : ∀ y, y = ix1 0 → (idx y).toInt = 0 := fun y hy => by rw [hy, h0, toInt_small 0 (by norm_num)]; rfl
    exact e _ (by funext x; fin_cases x; rfl)
  have s1 : scatter_S1x128_S2_S4_0_0_01_0.start (ix1 b) idx 1 = (w : ℤ) := by
    unfold ScatterDims.start
    rw [dif_pos (by decide)]
    have e : ∀ y, y = ix1 1 → (idx y).toInt = (w : ℤ) := fun y hy => by rw [hy, h1, toInt_small w hw]
    exact e _ (by funext x; fin_cases x; rfl)
  rw [lands_iff]
  constructor
  · intro h
    have h1 := h 1
    rw [s1, w1] at h1
    have : ((w : ℤ) + (b.val : ℤ)) = (k.val : ℤ) := h1
    omega
  · intro h x
    fin_cases x
    · exact congrArg₂ (fun (u : ℤ) (v : ℕ) => u + (v : ℤ)) s0 w0
    · refine (congrArg₂ (fun (u : ℤ) (v : ℕ) => u + (v : ℤ)) s1 w1).trans ?_
      show ((w : ℤ) + (b.val : ℤ)) = (k.val : ℤ)
      omega

/-- Where an entry of the expert biases lands. -/
theorem expertBias_lands (idx : IVec S2 32) (w : ℕ) (hw : w < 2 ^ 31) (h0 : idx (ix1 0) = BitVec.ofNat 32 0) (h1 : idx (ix1 1) = BitVec.ofNat 32 w)
    (b : Fin 32) (k : Fin 128) :
    scatter_S1x128_S2_S32_0_0_01_0.resultIdx? (ix1 b) idx = some (ix2 0 k) ↔ w + b.val = k.val := by
  have w0 : scatter_S1x128_S2_S32_0_0_01_0.window (ix1 b) 0 = 0 := rfl
  have w1 : scatter_S1x128_S2_S32_0_0_01_0.window (ix1 b) 1 = b.val := rfl
  have s0 : scatter_S1x128_S2_S32_0_0_01_0.start (ix1 b) idx 0 = 0 := by
    unfold ScatterDims.start
    rw [dif_pos (by decide)]
    have e : ∀ y, y = ix1 0 → (idx y).toInt = 0 := fun y hy => by rw [hy, h0, toInt_small 0 (by norm_num)]; rfl
    exact e _ (by funext x; fin_cases x; rfl)
  have s1 : scatter_S1x128_S2_S32_0_0_01_0.start (ix1 b) idx 1 = (w : ℤ) := by
    unfold ScatterDims.start
    rw [dif_pos (by decide)]
    have e : ∀ y, y = ix1 1 → (idx y).toInt = (w : ℤ) := fun y hy => by rw [hy, h1, toInt_small w hw]
    exact e _ (by funext x; fin_cases x; rfl)
  rw [lands_iff]
  constructor
  · intro h
    have h1 := h 1
    rw [s1, w1] at h1
    have : ((w : ℤ) + (b.val : ℤ)) = (k.val : ℤ) := h1
    omega
  · intro h x
    fin_cases x
    · exact congrArg₂ (fun (u : ℤ) (v : ℕ) => u + (v : ℤ)) s0 w0
    · refine (congrArg₂ (fun (u : ℤ) (v : ℕ) => u + (v : ℤ)) s1 w1).trans ?_
      show ((w : ℤ) + (b.val : ℤ)) = (k.val : ℤ)
      omega

variable (m : (ℓ : Loc nD τ sig) → Buf (Elt Ideal) ℓ) (c : Dev nD)

/-- The arguments as the common specification names them. -/
def args : Args where
  x r k := (m ((c : Thread nD τ).loc main_arg0) : Vec Ideal S16384x1024 .f32) (ix2 r k)
  ya r k := (m ((c : Thread nD τ).loc main_arg1) : Vec Ideal S16384x256 .f32) (ix2 r k)
  yb r k := (m ((c : Thread nD τ).loc main_arg2) : Vec Ideal S16384x256 .f32) (ix2 r k)
  yc r k := (m ((c : Thread nD τ).loc main_arg3) : Vec Ideal S16384x256 .f32) (ix2 r k)
  yd r k := (m ((c : Thread nD τ).loc main_arg4) : Vec Ideal S16384x256 .f32) (ix2 r k)
  w r k := (m ((c : Thread nD τ).loc main_arg5) : Vec Ideal S1024x1024 .f32) (ix2 r k)
  gain k := (m ((c : Thread nD τ).loc main_arg6) : Vec Ideal S1024 .f32) (ix1 k)
  wg r k := (m ((c : Thread nD τ).loc main_arg7) : Vec Ideal S1024x4 .f32) (ix2 r k)
  bg k := (m ((c : Thread nD τ).loc main_arg8) : Vec Ideal S4 .f32) (ix1 k)
  we r k := (m ((c : Thread nD τ).loc main_arg9) : Vec Ideal S1024x32 .f32) (ix2 r k)
  be k := (m ((c : Thread nD τ).loc main_arg10) : Vec Ideal S32 .f32) (ix1 k)

/-- The weights of both routers side by side. -/
def sideBySide : Vec Ideal S1024x128 .f32 :=
  Host.scatter scatter_S1024x128_S1_S1024x32_01_n_1_0 (fun _ b => b)
    (Host.scatter scatter_S1024x128_S1_S1024x4_01_n_1_0 (fun _ b => b)
      (broadcastInDim S1024x128 ![] bcast_S_S1024x128 (constant (F := Ideal) S_ FTy.f32 0#32) : Vec Ideal S1024x128 .f32)
      (broadcastInDim S1 ![] bcast_S_S1 (constantI S_ 32 0#32)) (m ((c : Thread nD τ).loc main_arg7) : Vec Ideal S1024x4 .f32))
    (broadcastInDim S1 ![] bcast_S_S1 (constantI S_ 32 4#32)) (m ((c : Thread nD τ).loc main_arg9) : Vec Ideal S1024x32 .f32)

/-- The first lanes hold the groups' weights. -/
theorem weights_group (r : Fin 1024) (k : Fin 4) : sideBySide m c (ix2 r (groupLane k)) = (args m c).wg r k := by
  unfold sideBySide
  rw [Routing.scatter_set_miss]
  · refine Routing.scatter_set_hit _ _ _ _ _ _ (fun y hy => ?_) (ix2 r k) ((groupCols_lands _ 0 (by norm_num) (fun _ => rfl) _ _ _ _).2 ⟨rfl, by simp [groupLane]⟩)
    rw [eq_ix2 y] at hy ⊢
    obtain ⟨h0, h1⟩ := (groupCols_lands _ 0 (by norm_num) (fun _ => rfl) _ _ _ _).1 hy
    have h2 : y 1 = k := Fin.ext (by have : 0 + (y 1).val = k.val := h1; omega)
    rw [h0, h2]
    rfl
  · intro y hy
    rw [eq_ix2 y] at hy
    obtain ⟨h0, h1⟩ := (expertCols_lands _ 4 (by norm_num) (fun _ => rfl) _ _ _ _).1 hy
    have : 4 + (y 1).val = k.val := h1
    omega

/-- The lanes after the groups' hold the experts' weights. -/
theorem weights_expert (r : Fin 1024) (g : Fin 4) (e : Fin 8) : sideBySide m c (ix2 r (expertLane g e)) = (args m c).we r (Args.expert g e) := by
  unfold sideBySide
  refine Routing.scatter_set_hit _ _ _ _ _ _ (fun y hy => ?_) (ix2 r (Args.expert g e))
    ((expertCols_lands _ 4 (by norm_num) (fun _ => rfl) _ _ _ _).2 ⟨rfl, by simp [Args.expert, expertLane]; omega⟩)
  rw [eq_ix2 y] at hy ⊢
  obtain ⟨h0, h1⟩ := (expertCols_lands _ 4 (by norm_num) (fun _ => rfl) _ _ _ _).1 hy
  have h2 : y 1 = Args.expert g e := Fin.ext (by have : 4 + (y 1).val = 4 + 8 * g.val + e.val := h1; show (y 1).val = g.val * 8 + e.val; omega)
  rw [h0, h2]
  rfl

/-- The rounded weights are the weights themselves. -/
theorem hi_entry (r : Fin 1024) (k : Fin 128) : V m c main_v5 (ix2 r k) = sideBySide m c (ix2 r k) := by
  entry_read
  clean_types
  pointwise
  unfold sideBySide
  rfl

/-- What the rounding of the weights leaves is zero where they are real. -/
theorem lo_entry (r : Fin 1024) (k : Fin 128) (h : Real' (sideBySide m c (ix2 r k))) : V m c main_v8 (ix2 r k) = (0 : EReal) := by
  entry_read
  clean_types
  pointwise
  unfold sideBySide at h
  exact h.sub_self

/-- The first lanes of the bias hold the groups' biases. -/
theorem bias_group (k : Fin 4) : V m c main_v17 (ix2 0 (groupLane k)) = (args m c).bg k := by
  entry_read
  clean_types
  rw [Routing.scatter_set_miss]
  · refine Routing.scatter_set_hit _ _ _ _ _ _ (fun y hy => ?_) (ix1 k) ((groupBias_lands _ 0 (by norm_num) rfl rfl _ _).2 (by simp [groupLane]))
    rw [eq_ix1 y] at hy ⊢
    have h1 := (groupBias_lands _ 0 (by norm_num) rfl rfl _ _).1 hy
    have h2 : y 0 = k := Fin.ext (by have : 0 + (y 0).val = k.val := h1; omega)
    rw [h2]
    rfl
  · intro y hy
    rw [eq_ix1 y] at hy
    have h1 := (expertBias_lands _ 4 (by norm_num) rfl rfl _ _).1 hy
    have : 4 + (y 0).val = k.val := h1
    omega

/-- The lanes after the groups' hold the experts' biases. -/
theorem bias_expert (g : Fin 4) (e : Fin 8) : V m c main_v17 (ix2 0 (expertLane g e)) = (args m c).be (Args.expert g e) := by
  entry_read
  clean_types
  refine Routing.scatter_set_hit _ _ _ _ _ _ (fun y hy => ?_) (ix1 (Args.expert g e))
    ((expertBias_lands _ 4 (by norm_num) rfl rfl _ _).2 (by simp [Args.expert, expertLane]; omega))
  rw [eq_ix1 y] at hy ⊢
  have h1 := (expertBias_lands _ 4 (by norm_num) rfl rfl _ _).1 hy
  have h2 : y 0 = Args.expert g e := Fin.ext (by have : 4 + (y 0).val = 4 + 8 * g.val + e.val := h1; show (y 0).val = g.val * 8 + e.val; omega)
  rw [h2]
  rfl

/-- The output weights. -/
theorem outWeights_entry (r n : Fin 1024) : V m c main_v18 (ix2 r n) = (args m c).w r n := by
  entry_read
  clean_types
  pointwise
  rfl

/-- The gains laid out as a row. -/
theorem gain_entry (k : Fin 1024) : V m c main_v19 (ix2 0 k) = (args m c).gain k := by
  entry_read
  clean_types
  pointwise
  rfl

end Cert.Router.Kernel
-- ==== Proof.RouterCases.lean ====
module
public import proofs.«01_k».proof.Proof.RouterWeights
public import Idealize.ShloMosaic.Lib.Pipeline.ReadBack
@[expose] public section
set_option maxRecDepth 16384
noncomputable section

/-! What a grid point leaves in the output blocks and in the running counts, from the blocks staged at the point. -/

namespace Cert.Router.Kernel

open Cert.Kernel4Ideal Cert.Kernel4Ideal.Gen
open Idealize.ShloMosaic Idealize.ShloMosaic.TcCoe

variable (m : (ℓ : Loc nD τ sig) → Buf (Elt Ideal) ℓ) (c : Dev nD) (t : Fin cfg0.N)

/-- The block of the input plus the projection. -/
def rows : FVec Ideal S256x1024 .f32 :=
  k0_pay4 (iblk m c 0 t) (iblk m c 1 t) (View.ld (iblk m c 5 t) (Rect.unit ![0, 0] ![256, 1024] inb_S1024x1024_S256x1024_0_0))
    (iblk m c 2 t) (View.ld (iblk m c 5 t) (Rect.unit ![256, 0] ![256, 1024] inb_S1024x1024_S256x1024_256_0))
    (iblk m c 3 t) (View.ld (iblk m c 5 t) (Rect.unit ![512, 0] ![256, 1024] inb_S1024x1024_S256x1024_512_0))
    (iblk m c 4 t) (View.ld (iblk m c 5 t) (Rect.unit ![768, 0] ![256, 1024] inb_S1024x1024_S256x1024_768_0))

/-- Its squares. -/
def squares : FVec Ideal S256x1024 .f32 :=
  k0_pay5 (iblk m c 0 t) (iblk m c 1 t) (View.ld (iblk m c 5 t) (Rect.unit ![0, 0] ![256, 1024] inb_S1024x1024_S256x1024_0_0))
    (iblk m c 2 t) (View.ld (iblk m c 5 t) (Rect.unit ![256, 0] ![256, 1024] inb_S1024x1024_S256x1024_256_0))
    (iblk m c 3 t) (View.ld (iblk m c 5 t) (Rect.unit ![512, 0] ![256, 1024] inb_S1024x1024_S256x1024_512_0))
    (iblk m c 4 t) (View.ld (iblk m c 5 t) (Rect.unit ![768, 0] ![256, 1024] inb_S1024x1024_S256x1024_768_0))

/-- The router's logits. -/
def logits : FVec Ideal S256x128 .f32 := k0_pay7 (rows m c t) (squares m c t) (iblk m c 6 t) (iblk m c 7 t) (iblk m c 8 t) (iblk m c 9 t)

/-- The groups' logits alone. -/
def masked : FVec Ideal S256x128 .f32 := k0_pay10 (rows m c t) (squares m c t) (iblk m c 6 t) (iblk m c 7 t) (iblk m c 8 t) (iblk m c 9 t)

/-- The greatest of them. -/
def greatest : FVec Ideal S256x1 .f32 := k0_pay11 (rows m c t) (squares m c t) (iblk m c 6 t) (iblk m c 7 t) (iblk m c 8 t) (iblk m c 9 t)

/-- The rows' groups. -/
def number : FVec Ideal S256x1 .f32 := k0_pay14 k0_pay8 k0_pay9 (masked m c t) (greatest m c t)

/-- The router's lanes. -/
def weights : FVec Ideal S256x128 .f32 :=
  k0_pay23 k0_pay8
    (k0_pay13 k0_pay9 (k0_pay12 (rows m c t) (squares m c t) (iblk m c 6 t) (iblk m c 7 t) (iblk m c 8 t) (iblk m c 9 t)))
    (k0_pay17 (logits m c t) k0_pay8 k0_pay9 (masked m c t) (greatest m c t))
    (k0_pay18 (logits m c t) k0_pay8 k0_pay9 (masked m c t) (greatest m c t))
    (k0_pay21 (logits m c t) k0_pay8 k0_pay9 (masked m c t) (greatest m c t))
    (k0_pay22 (logits m c t) k0_pay8 k0_pay9 (masked m c t) (greatest m c t))

/-- The counts before the point. -/
def carried : FVec Ideal S1x128 .f32 :=
  if t.val % 64 = 0 then k0_pay3 else (outsAt0 m c (t.val - 1) (Nat.lt_of_le_of_lt (Nat.sub_le _ _) t.isLt)).2.2.2.2

/-- The first result takes the rows. -/
theorem rows_left : (outsAt0 m c t.val t.isLt).1 = rows m c t := by
  by_cases h0 : t.val % 64 = 0
  · rw [outsAt0_A m c t h0]
    dsimp only
    frame_out [out0_A_10, VO0_10, kernelRun0_A]
    rfl
  · rw [outsAt0_B m c t h0]
    dsimp only
    frame_out [out0_B_10, VO0_10, kernelRun0_B]
    rfl

/-- The counts after the point. -/
theorem counts_left : (outsAt0 m c t.val t.isLt).2.2.2.2 = k0_pay2 (k0_pay24 (number m c t)) (carried m c t) := by
  by_cases h0 : t.val % 64 = 0
  · rw [outsAt0_A m c t h0]
    unfold carried
    rw [if_pos h0]
    dsimp only
    frame_out [sout0_A_0, VS0_0, kernelRun0_A]
    rfl
  · rw [outsAt0_B m c t h0]
    unfold carried
    rw [if_neg h0]
    dsimp only
    frame_out [sout0_B_0, VS0_0, kernelRun0_B]
    simp only [read_unread_whole]
    rfl

/-- The last result takes the same counts. -/
theorem total_left : (outsAt0 m c t.val t.isLt).2.2.2.1 = k0_pay2 (k0_pay24 (number m c t)) (carried m c t) := by
  by_cases h0 : t.val % 64 = 0
  · rw [outsAt0_A m c t h0]
    unfold carried
    rw [if_pos h0]
    dsimp only
    frame_out [out0_A_13, VO0_13, kernelRun0_A]
    rfl
  · rw [outsAt0_B m c t h0]
    unfold carried
    rw [if_neg h0]
    dsimp only
    frame_out [out0_B_13, VO0_13, kernelRun0_B]
    simp only [read_unread_whole]
    rfl

/-- The third result takes the rows' groups and ranks. -/
theorem route_left : (outsAt0 m c t.val t.isLt).2.2.1
    = k0_pay1 (number m c t) (iota Kind.tc S256x128 32 [1] iota_S256x128_d1_w32)
        (k0_pay24 (number m c t)) (k0_pay25 (number m c t)) (carried m c t) := by
  by_cases h0 : t.val % 64 = 0
  · rw [outsAt0_A m c t h0]
    unfold carried
    rw [if_pos h0]
    dsimp only
    frame_out [out0_A_12, VO0_12, kernelRun0_A]
    rfl
  · rw [outsAt0_B m c t h0]
    unfold carried
    rw [if_neg h0]
    dsimp only
    frame_out [out0_B_12, VO0_12, kernelRun0_B]
    simp only [read_unread_whole]
    rfl

/-- The second result takes the scaled rows and, to their right, the router's lanes. -/
theorem aug_left : (outsAt0 m c t.val t.isLt).2.1
    = View.canon [⟨Rect.unit ![0, 1024] ![256, 128] inb_S256x1152_S256x128_0_1024, weights m c t⟩,
        ⟨Rect.unit ![0, 0] ![256, 1024] inb_S256x1152_S256x1024_0_0,
          k0_pay6 (rows m c t) (squares m c t) (iblk m c 6 t)⟩] := by
  by_cases h0 : t.val % 64 = 0
  · rw [outsAt0_A m c t h0]
    dsimp only
    frame_out [out0_A_11, VO0_11, kernelRun0_A]
    rfl
  · rw [outsAt0_B m c t h0]
    dsimp only
    frame_out [out0_B_11, VO0_11, kernelRun0_B]
    rfl

end Cert.Router.Kernel
-- ==== Proof.RouterBlocks.lean ====
module
public import proofs.«01_k».proof.Proof.RouterCases
@[expose] public section
set_option maxRecDepth 16384
noncomputable section

/-! The blocks staged at a grid point, as entries of the arguments, and what the body computes of one row. -/

namespace Cert.Router.Kernel

open Cert.Kernel4Ideal Cert.Kernel4Ideal.Gen
open Idealize.ShloMosaic Idealize.ShloMosaic.TcCoe

/-- There are sixty-four grid points. -/
theorem point_lt (t : Fin grid0.N) : t.val < 64 := lt_of_lt_of_eq t.isLt (show grid0.N = 64 from N_0)

/-- The grid's coordinate is the point. -/
theorem coord (t : Fin grid0.N) : (grid0.coords t 0).val = t.val := by
  have h := point_lt t
  rw [grid0.coords_val t 0 (S := 1) (B := 64) (by rfl) (by rfl)]
  omega

/-- The row of the arrays that is row `p` of the point's block. -/
def row (t : Fin grid0.N) (p : Fin 256) : Fin 16384 := ⟨t.val * 256 + p.val, by have := point_lt t; omega⟩

/-- The input's window takes the point's rows; the windows of the mixed parts and of the three results by rows are the same. -/
theorem in_index (t : Fin grid0.N) : cc0_transform_0 (grid0.coords t) = ![t.val, 0] := by
  have h := point_lt t
  funext a
  fin_cases a
  · show (BitVec.ofNat 32 (grid0.coords t 0).val).toNat = t.val
    rw [BitVec.toNat_ofNat, coord]
    omega
  · rfl

variable (m : (ℓ : Loc nD τ sig) → Buf (Elt Ideal) ℓ) (c : Dev nD) (t : Fin cfg0.N)

/-- The layer's input staged at a point. -/
theorem x_block (p : Fin 256) (l : Fin 1024) : (iblk m c 0 t : Vec Ideal S256x1024 .f32) (ix2 p l) = (args m c).x (row t p) l := by
  show V m c main_arg0 _ = _
  rw [V_main_arg0]
  unfold args
  dsimp only
  congr 1
  funext a
  apply Fin.ext
  fin_cases a
  · show cc0_transform_0 (grid0.coords t) 0 * 256 + 1 * p.val = t.val * 256 + p.val
    rw [in_index]; simp
  · show cc0_transform_0 (grid0.coords t) 1 * 1024 + 1 * l.val = l.val
    rw [in_index]; simp

/-- The first mixed part staged at a point. -/
theorem ya_block (p l : Fin 256) : (iblk m c 1 t : Vec Ideal S256x256 .f32) (ix2 p l) = (args m c).ya (row t p) l := by
  show V m c main_arg1 _ = _
  rw [V_main_arg1]
  unfold args
  dsimp only
  congr 1
  funext a
  apply Fin.ext
  fin_cases a
  · show cc0_transform_0 (grid0.coords t) 0 * 256 + 1 * p.val = t.val * 256 + p.val
    rw [in_index]; simp
  · show cc0_transform_0 (grid0.coords t) 1 * 256 + 1 * l.val = l.val
    rw [in_index]; simp

/-- The second mixed part staged at a point. -/
theorem yb_block (p l : Fin 256) : (iblk m c 2 t : Vec Ideal S256x256 .f32) (ix2 p l) = (args m c).yb (row t p) l := by
  show V m c main_arg2 _ = _
  rw [V_main_arg2]
  unfold args
  dsimp only
  congr 1
  funext a
  apply Fin.ext
  fin_cases a
  · show cc0_transform_0 (grid0.coords t) 0 * 256 + 1 * p.val = t.val * 256 + p.val
    rw [in_index]; simp
  · show cc0_transform_0 (grid0.coords t) 1 * 256 + 1 * l.val = l.val
    rw [in_index]; simp

/-- The third mixed part staged at a point. -/
theorem yc_block (p l : Fin 256) : (iblk m c 3 t : Vec Ideal S256x256 .f32) (ix2 p l) = (args m c).yc (row t p) l := by
  show V m c main_arg3 _ = _
  rw [V_main_arg3]
  unfold args
  dsimp only
  congr 1
  funext a
  apply Fin.ext
  fin_cases a
  · show cc0_transform_0 (grid0.coords t) 0 * 256 + 1 * p.val = t.val * 256 + p.val
    rw [in_index]; simp
  · show cc0_transform_0 (grid0.coords t) 1 * 256 + 1 * l.val = l.val
    rw [in_index]; simp

/-- The fourth mixed part staged at a point. -/
theorem yd_block (p l : Fin 256) : (iblk m c 4 t : Vec Ideal S256x256 .f32) (ix2 p l) = (args m c).yd (row t p) l := by
  show V m c main_arg4 _ = _
  rw [V_main_arg4]
  unfold args
  dsimp only
  congr 1
  funext a
  apply Fin.ext
  fin_cases a
  · show cc0_transform_0 (grid0.coords t) 0 * 256 + 1 * p.val = t.val * 256 + p.val
    rw [in_index]; simp
  · show cc0_transform_0 (grid0.coords t) 1 * 256 + 1 * l.val = l.val
    rw [in_index]; simp

/-- The output weights staged at a point are all of them. -/
theorem wout_block (k n : Fin 1024) : (iblk m c 5 t : Vec Ideal S1024x1024 .bf16) (ix2 k n) = (args m c).w k n := by
  refine Eq.trans ?_ (outWeights_entry m c k n)
  show V m c main_v18 _ = V m c main_v18 _
  congr 1
  funext a
  apply Fin.ext
  fin_cases a
  · show 0 * 1024 + 1 * k.val = k.val
    omega
  · show 0 * 1024 + 1 * n.val = n.val
    omega

/-- So are the gains, -/
theorem gain_block (n : Fin 1024) : (iblk m c 6 t : Vec Ideal S1x1024 .f32) (ix2 (0 : Fin 1) n) = (args m c).gain n := by
  refine Eq.trans ?_ (gain_entry m c n)
  show V m c main_v19 _ = V m c main_v19 _
  congr 1
  funext a
  apply Fin.ext
  fin_cases a
  · rfl
  · show 0 * 1024 + 1 * n.val = n.val
    omega

/-- the routers' weights, -/
theorem hi_block (k : Fin 1024) (n : Fin 128) : (iblk m c 7 t : Vec Ideal S1024x128 .bf16) (ix2 k n) = V m c main_v5 (ix2 k n) := by
  show V m c main_v5 _ = V m c main_v5 _
  congr 1
  funext a
  apply Fin.ext
  fin_cases a
  · show 0 * 1024 + 1 * k.val = k.val
    omega
  · show 0 * 128 + 1 * n.val = n.val
    omega

/-- what their rounding leaves -/
theorem lo_block (k : Fin 1024) (n : Fin 128) : (iblk m c 8 t : Vec Ideal S1024x128 .bf16) (ix2 k n) = V m c main_v8 (ix2 k n) := by
  show V m c main_v8 _ = V m c main_v8 _
  congr 1
  funext a
  apply Fin.ext
  fin_cases a
  · show 0 * 1024 + 1 * k.val = k.val
    omega
  · show 0 * 128 + 1 * n.val = n.val
    omega

/-- and their biases. -/
theorem bias_block (n : Fin 128) : (iblk m c 9 t : Vec Ideal S1x128 .f32) (ix2 (0 : Fin 1) n) = V m c main_v17 (ix2 0 n) := by
  show V m c main_v17 _ = V m c main_v17 _
  congr 1
  funext a
  apply Fin.ext
  fin_cases a
  · rfl
  · show 0 * 128 + 1 * n.val = n.val
    omega

/-- The input plus the projection, from the blocks. -/
theorem pay4_apply (x0 : FVec Ideal S256x1024 .f32) (x1 x2 x3 x4 : FVec Ideal S256x256 .f32) (w0 w1 w2 w3 : FVec Ideal S256x1024 .bf16)
    (p : Fin 256) (n : Fin 1024) :
    k0_pay4 (F := Ideal) x0 x1 w0 x2 w1 x3 w2 x4 w3 (ix2 p n)
    = x0 (ix2 p n) + ∑ k : Fin 256, (show EReal from x1 (ix2 p k)) * (show EReal from w0 (ix2 k n))
      + ∑ k : Fin 256, (show EReal from x2 (ix2 p k)) * (show EReal from w1 (ix2 k n))
      + ∑ k : Fin 256, (show EReal from x3 (ix2 p k)) * (show EReal from w2 (ix2 k n))
      + ∑ k : Fin 256, (show EReal from x4 (ix2 p k)) * (show EReal from w3 (ix2 k n)) := by
  pointwise [k0_pay4]

/-- The squares, from the blocks. -/
theorem pay5_apply (x0 : FVec Ideal S256x1024 .f32) (x1 x2 x3 x4 : FVec Ideal S256x256 .f32) (w0 w1 w2 w3 : FVec Ideal S256x1024 .bf16)
    (p : Fin 256) (n : Fin 1024) :
    k0_pay5 (F := Ideal) x0 x1 w0 x2 w1 x3 w2 x4 w3 (ix2 p n)
    = (show EReal from k0_pay4 (F := Ideal) x0 x1 w0 x2 w1 x3 w2 x4 w3 (ix2 p n)) * (show EReal from k0_pay4 (F := Ideal) x0 x1 w0 x2 w1 x3 w2 x4 w3 (ix2 p n)) := by
  pointwise [k0_pay5]

/-- A quarter of the output weights. -/
theorem quarter (x5 : Vec Ideal S1024x1024 .bf16) (q : Fin 4) (o : ℕ) (ho : o = 256 * q.val)
    (inb : ∀ a, (![o, 0] : Fin 2 → ℕ) a + (![256, 1024] : Fin 2 → ℕ) a ≤ S1024x1024.size a) (k : Fin 256) (n : Fin 1024) :
    (View.ld x5 (Rect.unit ![o, 0] ![256, 1024] inb) : Vec Ideal S256x1024 .bf16) (ix2 k n) = x5 (ix2 (Args.place q k) n) := by
  subst ho
  show x5 _ = x5 _
  congr 1
  funext a
  apply Fin.ext
  fin_cases a
  · show 256 * q.val + 1 * k.val = 256 * q.val + k.val
    omega
  · show 0 + 1 * n.val = n.val
    omega

/-- The block of the input plus the projection. -/
theorem rows_apply (p : Fin 256) (n : Fin 1024) : rows m c t (ix2 p n) = (args m c).res (row t p) n := by
  unfold rows
  refine (pay4_apply _ _ _ _ _ _ _ _ _ p n).trans ?_
  unfold Args.res
  refine congrArg₂ (· + ·) (congrArg₂ (· + ·) (congrArg₂ (· + ·) (congrArg₂ (· + ·) (x_block m c t p n) ?_) ?_) ?_) ?_
  · exact Finset.sum_congr rfl fun k _ => congrArg₂ (· * ·) (ya_block m c t p k) ((quarter _ 0 _ rfl _ k n).trans (wout_block m c t _ n))
  · exact Finset.sum_congr rfl fun k _ => congrArg₂ (· * ·) (yb_block m c t p k) ((quarter _ 1 _ rfl _ k n).trans (wout_block m c t _ n))
  · exact Finset.sum_congr rfl fun k _ => congrArg₂ (· * ·) (yc_block m c t p k) ((quarter _ 2 _ rfl _ k n).trans (wout_block m c t _ n))
  · exact Finset.sum_congr rfl fun k _ => congrArg₂ (· * ·) (yd_block m c t p k) ((quarter _ 3 _ rfl _ k n).trans (wout_block m c t _ n))

/-- Its squares. -/
theorem squares_apply (p : Fin 256) (n : Fin 1024) :
    squares m c t (ix2 p n) = (args m c).res (row t p) n * (args m c).res (row t p) n := by
  have h := rows_apply m c t p n
  unfold rows at h
  unfold squares
  refine (pay5_apply _ _ _ _ _ _ _ _ _ p n).trans ?_
  exact congrArg₂ (· * ·) h h

/-- The scaled rows. -/
theorem scaled_apply (p : Fin 256) (k : Fin 1024) :
    k0_pay6 (F := Ideal) (rows m c t) (squares m c t) (iblk m c 6 t) (ix2 p k) = (args m c).t (row t p) k := by
  have e : ∀ (v27 v29 : FVec Ideal S256x1024 .f32) (v39 : FVec Ideal S1x1024 .f32), k0_pay6 (F := Ideal) v27 v29 v39 (ix2 p k)
      = v27 (ix2 p k) * Ideal.rsqrt (Ideal.div (∑ j, v29 (ix2 p j)) (Ideal.ofBits FTy.f32 0x44800000#32)
        + Ideal.ofBits FTy.f32 0x358637BD#32) * v39 (ix2 0 k) := fun v27 v29 v39 => by
    pointwise [k0_pay6]
  refine (e _ _ _).trans ?_
  unfold Args.t unit
  refine congrArg₂ (· * ·) (congrArg₂ (· * ·) (rows_apply m c t p k) (congrArg Ideal.rsqrt (congrArg₂ (· + ·) (congrArg₂ Ideal.div ?_ rfl) rfl)))
    (gain_block m c t k)
  exact Finset.sum_congr rfl fun j _ => squares_apply m c t p j

/-- The logits at a lane whose weights and bias are known. -/
theorem logits_apply (hf : (args m c).Finite) (p : Fin 256) (k : Fin 128) (w : Fin 1024 → EReal) (b : EReal)
    (hw : ∀ x, sideBySide m c (ix2 x k) = w x) (hr : ∀ x, Real' (w x)) (hb : V m c main_v17 (ix2 0 k) = b) :
    logits m c t (ix2 p k) = ∑ x, (args m c).t (row t p) x * w x + b := by
  have e : ∀ (v27 v29 : FVec Ideal S256x1024 .f32) (v39 : FVec Ideal S1x1024 .f32) (v44 v46 : FVec Ideal S1024x128 .bf16)
      (v48 : FVec Ideal S1x128 .f32), k0_pay7 (F := Ideal) v27 v29 v39 v44 v46 v48 (ix2 p k)
      = ∑ x : Fin 1024, (show EReal from k0_pay6 v27 v29 v39 (ix2 p x)) * (show EReal from v44 (ix2 x k))
        + ∑ x : Fin 1024, ((show EReal from k0_pay6 v27 v29 v39 (ix2 p x)) - (show EReal from k0_pay6 v27 v29 v39 (ix2 p x))) * (show EReal from v44 (ix2 x k))
        + ∑ x : Fin 1024, (show EReal from k0_pay6 v27 v29 v39 (ix2 p x)) * (show EReal from v46 (ix2 x k)) + v48 (ix2 0 k) := fun _ _ _ _ _ _ => by
    pointwise [k0_pay7]
  unfold logits
  refine (e _ _ _ _ _ _).trans ?_
  have s : ∀ x, k0_pay6 (F := Ideal) (rows m c t) (squares m c t) (iblk m c 6 t) (ix2 p x) = (args m c).t (row t p) x := scaled_apply m c t p
  have h7 : ∀ x, (iblk m c 7 t : Vec Ideal S1024x128 .bf16) (ix2 x k) = w x := fun x =>
    (hi_block m c t x k).trans ((hi_entry m c x k).trans (hw x))
  have h8 : ∀ x, (iblk m c 8 t : Vec Ideal S1024x128 .bf16) (ix2 x k) = (0 : EReal) := fun x =>
    (lo_block m c t x k).trans (lo_entry m c x k (by rw [hw x]; exact hr x))
  refine congrArg₂ (· + ·) (((congrArg₂ (· + ·) (congrArg₂ (· + ·) (Finset.sum_congr rfl fun x _ => congrArg₂ (· * ·) (s x) (h7 x))
    (Finset.sum_eq_zero fun x _ => ?_)) (Finset.sum_eq_zero fun x _ => ?_)).trans (add_zero _)).trans (add_zero _))
    ((bias_block m c t k).trans hb)
  · refine (congrArg₂ (· * ·) ((congrArg₂ (· - ·) (s x) (s x)).trans (Args.t_real hf _ x).sub_self) (h7 x)).trans (zero_mul _)
  · exact (congrArg₂ (· * ·) (s x) (h8 x)).trans (mul_zero _)

/-- The groups' logits. -/
theorem logits_group (hf : (args m c).Finite) (p : Fin 256) (g : Fin 4) :
    logits m c t (ix2 p (groupLane g)) = (args m c).lg (row t p) g :=
  logits_apply m c t hf p _ _ _ (fun x => weights_group m c x g) (fun x => hf.wg x g) (bias_group m c g)

/-- The experts' logits. -/
theorem logits_expert (hf : (args m c).Finite) (p : Fin 256) (g : Fin 4) (e : Fin 8) :
    logits m c t (ix2 p (expertLane g e)) = (args m c).lx (row t p) g e :=
  logits_apply m c t hf p _ _ _ (fun x => weights_expert m c x g e) (fun x => hf.we x _) (bias_expert m c g e)

/-- The row's group. -/
theorem number_row (hf : (args m c).Finite) (p : Fin 256) :
    number m c t (ix2 p 0) = num (groupLane ((args m c).grp (row t p))) :=
  number_apply _ _ _ _ _ _ p _ fun g => logits_group m c t hf p g

/-- A lane is an expert's when its number less four splits into the group and the expert. -/
theorem lane_iff (k : Fin 128) (g : Fin 4) (e : Fin 8) :
    k = expertLane g e ↔ (4 ≤ k.val ∧ k.val < 36) ∧ (k.val - 4) / 8 = g.val ∧ (k.val - 4) % 8 = e.val := by
  rw [Fin.ext_iff]
  show k.val = 4 + 8 * g.val + e.val ↔ _
  omega

/-- The router's lanes of a row. -/
theorem weights_row (hf : (args m c).Finite) (p : Fin 256) (k : Fin 128) :
    weights m c t (ix2 p k) = (args m c).lanes (row t p) k := by
  unfold weights
  refine (weights_apply p _ _ _ ((args m c).grp (row t p)) (number_row m c t hf p) ((args m c).lx (row t p) ((args m c).grp (row t p)))
    (fun e => logits_expert m c t hf p _ e) _ (share ((args m c).lg (row t p)))
    (share_apply _ _ _ _ _ _ p _ fun g => logits_group m c t hf p g) k).trans ?_
  simp only [lane_iff]
  unfold Args.lanes
  by_cases h : 4 ≤ k.val ∧ k.val < 36
  · rw [dif_pos h]
    unfold gate
    by_cases hg : (k.val - 4) / 8 = ((args m c).grp (row t p)).val
    · have hg' : (⟨(k.val - 4) / 8, by omega⟩ : Fin 4) = (args m c).grp (row t p) := Fin.ext hg
      rw [if_pos (show _ = group _ from hg'), hg']
      simp only [h, hg, true_and, and_self, Fin.ext_iff]
    · rw [if_neg (show ¬ _ = group _ from fun q => hg (congrArg Fin.val q)), if_neg (fun q => hg q.2.1), if_neg (fun q => hg q.2.1), add_zero]
  · rw [dif_neg h, if_neg (fun q => h q.1), if_neg (fun q => h q.1), add_zero]

/-- The mark of a row's group. -/
theorem mark_row (hf : (args m c).Finite) (p : Fin 256) (k : Fin 128) :
    k0_pay24 (F := Ideal) (number m c t) (ix2 p k) = (if ((args m c).grp (row t p)).val = k.val then 1 else 0 : EReal) := by
  have e : ∀ v : FVec Ideal S256x1 .f32, k0_pay24 (F := Ideal) v (ix2 p k)
      = (if (FloatOps.sitofp FTy.f32 (BitVec.ofNat 32 k.val) : Ideal .f32) = v (ix2 p 0) then 1 else 0 : EReal) := fun v => by
    pointwise [k0_pay24]
  refine (e _).trans ?_
  rw [number_word _ (by omega), number_row m c t hf p]
  refine if_congr (Iff.trans (num_inj k _) ?_) rfl rfl
  rw [Fin.ext_iff]
  exact eq_comm

/-- The earlier rows of the block in a group. -/
theorem earlier_row (hf : (args m c).Finite) (p : Fin 256) (k : Fin 128) :
    k0_pay25 (F := Ideal) (number m c t) (ix2 p k)
    = ∑ x : Fin 256, (if x < p ∧ ((args m c).grp (row t x)).val = k.val then 1 else 0 : EReal) := by
  have e : ∀ v : FVec Ideal S256x1 .f32, k0_pay25 (F := Ideal) v (ix2 p k)
      = ∑ x : Fin 256, Scalar.select (IntOp.cmpi CmpIPredicate.sgt (BitVec.ofNat 32 p.val) (BitVec.ofNat 32 x.val))
        (show EReal from k0_pay24 v (ix2 x k)) (0 : EReal) := fun v => by
    pointwise [k0_pay25]
  refine (e _).trans (Finset.sum_congr rfl fun x _ => ?_)
  have b : IntOp.cmpi CmpIPredicate.sgt (BitVec.ofNat 32 p.val) (BitVec.ofNat 32 x.val) = BitVec.ofBool (decide (x < p)) := by
    show BitVec.ofBool (decide ((BitVec.ofNat 32 x.val).toInt < (BitVec.ofNat 32 p.val).toInt)) = _
    rw [toInt_small _ (by omega), toInt_small _ (by omega)]
    simp
  rw [b, select_bit, mark_row m c t hf x k]
  by_cases h : x < p
  · simp [h]
  · simp [h]

/-- The counts before the point, and the point's rows. -/
theorem count_row (hf : (args m c).Finite) (v : FVec Ideal S1x128 .f32) (k : Fin 128) :
    k0_pay2 (F := Ideal) (k0_pay24 (number m c t)) v (ix2 0 k)
    = v (ix2 0 k) + ∑ x : Fin 256, (if ((args m c).grp (row t x)).val = k.val then 1 else 0 : EReal) := by
  have e : ∀ v' : FVec Ideal S256x128 .f32, k0_pay2 (F := Ideal) v' v (ix2 0 k)
      = v (ix2 0 k) + ∑ x : Fin 256, (show EReal from v' (ix2 x k)) := fun v' => by
    pointwise [k0_pay2]
  refine (e _).trans (congrArg₂ (· + ·) rfl (Finset.sum_congr rfl fun x _ => mark_row m c t hf x k))

/-- The lanes of a row's group and rank. -/
theorem route_row (hf : (args m c).Finite) (v : FVec Ideal S1x128 .f32) (p : Fin 256) (k : Fin 128) :
    k0_pay1 (F := Ideal) (number m c t) (iota Kind.tc S256x128 32 [1] iota_S256x128_d1_w32)
      (k0_pay24 (number m c t)) (k0_pay25 (number m c t)) v (ix2 p k)
    = if k.val = 0 then ((((args m c).grp (row t p)).val : ℝ) : EReal)
      else if k.val = 1 then (show EReal from v (ix2 0 (groupLane ((args m c).grp (row t p)))))
        + ∑ x : Fin 256, (if x < p ∧ (args m c).grp (row t x) = (args m c).grp (row t p) then 1 else 0 : EReal)
      else 0 := by
  have e : ∀ (v84 : FVec Ideal S256x1 .f32) (v150 v159 : FVec Ideal S256x128 .f32),
      k0_pay1 (F := Ideal) v84 (iota Kind.tc S256x128 32 [1] iota_S256x128_d1_w32) v150 v159 v (ix2 p k)
      = Scalar.select (IntOp.cmpi CmpIPredicate.eq (BitVec.ofNat 32 k.val) 0#32) (show EReal from v84 (ix2 p 0)) (0 : EReal)
        + Scalar.select (IntOp.cmpi CmpIPredicate.eq (BitVec.ofNat 32 k.val) 1#32)
          (∑ x : Fin 128, (show EReal from v150 (ix2 p x)) * ((show EReal from v (ix2 0 x)) + (show EReal from v159 (ix2 p x)))) (0 : EReal) := fun _ _ _ => by
    pointwise [k0_pay1]
  have b : ∀ a : ℕ, a < 2 → IntOp.cmpi CmpIPredicate.eq (BitVec.ofNat 32 k.val) (BitVec.ofNat 32 a) = BitVec.ofBool (decide (k.val = a)) := fun a ha => by
    show BitVec.ofBool (BitVec.ofNat 32 k.val == BitVec.ofNat 32 a) = _
    refine congrArg BitVec.ofBool ?_
    rw [beq_eq_decide]
    refine decide_eq_decide.2 ⟨fun h => ?_, fun h => by rw [h]⟩
    have h1 := congrArg BitVec.toNat h
    rw [BitVec.toNat_ofNat, BitVec.toNat_ofNat] at h1
    omega
  refine (e _ _ _).trans ?_
  rw [b 0 (by omega), b 1 (by omega), select_bit, select_bit, number_row m c t hf p]
  have s : ∑ x : Fin 128, (show EReal from k0_pay24 (F := Ideal) (number m c t) (ix2 p x))
        * ((show EReal from v (ix2 0 x)) + (show EReal from k0_pay25 (F := Ideal) (number m c t) (ix2 p x)))
      = (show EReal from v (ix2 0 (groupLane ((args m c).grp (row t p)))))
        + ∑ x : Fin 256, (if x < p ∧ (args m c).grp (row t x) = (args m c).grp (row t p) then 1 else 0 : EReal) := by
    refine (Finset.sum_eq_single (groupLane ((args m c).grp (row t p))) (fun x _ hx => ?_) (fun h => absurd (Finset.mem_univ _) h)).trans ?_
    · refine (congrArg₂ (· * ·) ((mark_row m c t hf p x).trans (if_neg fun h => hx (Fin.ext h.symm))) rfl).trans (zero_mul _)
    · refine (congrArg₂ (· * ·) ((mark_row m c t hf p _).trans (if_pos rfl)) rfl).trans ((one_mul _).trans ?_)
      refine congrArg₂ (· + ·) rfl ((earlier_row m c t hf p _).trans (Finset.sum_congr rfl fun x _ => if_congr (and_congr Iff.rfl ?_) rfl rfl))
      exact Fin.ext_iff.symm
  rw [s]
  by_cases h0 : k.val = 0
  · have h1 : ¬ k.val = 1 := by omega
    rw [if_pos h0, if_neg h1, if_pos h0, add_zero]
    rfl
  · rw [if_neg h0, if_neg h0, zero_add]

end Cert.Router.Kernel
-- ==== Proof.RouterArray.lean ====
module
public import proofs.«01_k».proof.Proof.RouterBlocks
@[expose] public section
set_option maxRecDepth 16384
noncomputable section

/-! The counts carried from one grid point to the next, and the four result arrays after the run. -/

namespace Cert.Router.Args

open Idealize.ShloMosaic

variable (A : Args)

/-- One where row `i` is in group `l`. -/
def mark (l i : ℕ) : EReal := if h : i < 16384 then (if (A.grp ⟨i, h⟩).val = l then 1 else 0) else 0

/-- The number of rows of group `l` among the first `n`. -/
def counted (n l : ℕ) : EReal := ∑ i ∈ Finset.range n, A.mark l i

/-- A sum over the first places, as a sum over all of them. -/
theorem sum_head (f : ℕ → EReal) (n N : ℕ) (h : n ≤ N) : ∑ x : Fin N, (if x.val < n then f x.val else 0) = ∑ i ∈ Finset.range n, f i := by
  refine (Fin.sum_univ_eq_sum_range (fun i => if i < n then f i else 0) N).trans ?_
  rw [← Finset.sum_filter]
  refine Finset.sum_congr (Finset.ext fun i => ?_) fun _ _ => rfl
  simp only [Finset.mem_filter, Finset.mem_range]
  omega

/-- A row's mark in a lane is 1 at the lane of its group and 0 elsewhere. -/
theorem mark_val (l : ℕ) (r : Fin 16384) : A.mark l r.val = if (A.grp r).val = l then 1 else 0 := by
  unfold mark
  rw [dif_pos r.isLt]

/-- All rows are counted. -/
theorem counts_eq (k : Fin 128) : A.counts k = A.counted 16384 k.val := by
  unfold counts counted
  rw [← Fin.sum_univ_eq_sum_range (A.mark k.val) 16384]
  exact Finset.sum_congr rfl fun r _ => (A.mark_val _ r).symm

/-- A row's rank counts the rows before it. -/
theorem rank_eq (r : Fin 16384) : A.rank r = A.counted r.val (A.grp r).val := by
  unfold rank counted
  rw [← sum_head (A.mark (A.grp r).val) r.val 16384 r.isLt.le]
  refine Finset.sum_congr rfl fun x _ => ?_
  rw [mark_val]
  by_cases h : x < r
  · rw [if_pos (show x.val < r.val from h)]
    exact if_congr ⟨fun q => congrArg Fin.val q.2, fun q => ⟨h, Fin.ext q⟩⟩ rfl rfl
  · rw [if_neg (show ¬ x.val < r.val from h), if_neg fun q => h q.1]

/-- Counting on from a place. -/
theorem counted_add (n k l : ℕ) : A.counted (n + k) l = A.counted n l + ∑ i ∈ Finset.range k, A.mark l (n + i) :=
  Finset.sum_range_add _ _ _

end Cert.Router.Args

namespace Cert.Router.Kernel

open Cert.Kernel4Ideal Cert.Kernel4Ideal.Gen
open Idealize.ShloMosaic Idealize.ShloMosaic.TcCoe

variable (m : (ℓ : Loc nD τ sig) → Buf (Elt Ideal) ℓ) (c : Dev nD)

/-- The rows of the point's block are counted after those of the blocks before. -/
theorem counted_block (t : Fin grid0.N) (l : ℕ) : (args m c).counted (t.val * 256 + 256) l
    = (args m c).counted (t.val * 256) l + ∑ x : Fin 256, (if ((args m c).grp (row t x)).val = l then 1 else 0 : EReal) := by
  rw [Args.counted_add, ← Fin.sum_univ_eq_sum_range (fun i => (args m c).mark l (t.val * 256 + i)) 256]
  exact congrArg _ (Finset.sum_congr rfl fun x _ => (args m c).mark_val l (row t x))

/-- A row's rank counts the rows of the blocks before and those before it in its block. -/
theorem rank_block (t : Fin grid0.N) (p : Fin 256) : (args m c).rank (row t p)
    = (args m c).counted (t.val * 256) ((args m c).grp (row t p)).val
      + ∑ x : Fin 256, (if x < p ∧ (args m c).grp (row t x) = (args m c).grp (row t p) then 1 else 0 : EReal) := by
  rw [Args.rank_eq]
  refine (Args.counted_add _ (t.val * 256) p.val _).trans (congrArg _ ?_)
  rw [← Args.sum_head (fun i => (args m c).mark ((args m c).grp (row t p)).val (t.val * 256 + i)) p.val 256 p.isLt.le]
  refine Finset.sum_congr rfl fun x _ => ?_
  refine (if_congr Iff.rfl ((args m c).mark_val _ (row t x)) rfl).trans ?_
  by_cases h : x < p
  · rw [if_pos (show x.val < p.val from h)]
    exact if_congr ⟨fun q => ⟨h, Fin.ext q⟩, fun q => congrArg Fin.val q.2⟩ rfl rfl
  · rw [if_neg (show ¬ x.val < p.val from h), if_neg fun q => h q.1]

/-- Before a point the carried counts are of the rows of the blocks before. -/
theorem carried_apply (hf : (args m c).Finite) : ∀ (n : ℕ) (hn : n < cfg0.N) (l : Fin 128),
    carried m c ⟨n, hn⟩ (ix2 0 l) = (args m c).counted (n * 256) l.val
  | 0, hn, l => by
    unfold carried
    rw [if_pos (by rfl)]
    have e : (k0_pay3 (F := Ideal) : FVec Ideal S1x128 .f32) (ix2 0 l) = (0 : EReal) := by
      pointwise [k0_pay3]
    refine e.trans ?_
    unfold Args.counted
    rfl
  | n + 1, hn, l => by
    have h64 := point_lt ⟨n + 1, hn⟩
    unfold carried
    rw [if_neg (by show ¬ (n + 1) % 64 = 0; have : n + 1 < 64 := h64; omega)]
    have hn' : n < cfg0.N := Nat.lt_of_succ_lt hn
    refine (congrFun (counts_left m c ⟨n, hn'⟩) _).trans ?_
    refine (count_row m c ⟨n, hn'⟩ hf _ l).trans ?_
    refine (congrArg₂ (· + ·) (carried_apply hf n hn' l) rfl).trans ?_
    refine (counted_block m c ⟨n, hn'⟩ l.val).symm.trans ?_
    exact congrArg (fun a => (args m c).counted a l.val) (Nat.succ_mul n 256).symm

variable (t : Fin cfg0.N)

/-- An index of two axes is its row and column. -/
theorem eq_ix2' {a b : ℕ} (y : (⟨2, ![a, b]⟩ : Shape).Idx) : y = ix2 (y 0) (y 1) := by
  funext i; fin_cases i <;> rfl

/-- The block of the first result. -/
theorem res_block (y : S256x1024.Idx) : (outsAt0 m c t.val t.isLt).1 y = (args m c).res (row t (y 0)) (y 1) := by
  rw [rows_left]
  exact (congrArg _ (eq_ix2' y)).trans (rows_apply m c t (y 0) (y 1))

/-- The point's rows of the second result. -/
def augRows : FVec Ideal S256x1152 .f32 := fun y => (args m c).aug (row t (y 0)) (y 1)

/-- The block of the second result. -/
theorem aug_block (hf : (args m c).Finite) (y : S256x1152.Idx) : (outsAt0 m c t.val t.isLt).2.1 y = (args m c).aug (row t (y 0)) (y 1) := by
  rw [aug_left]
  have hy0 : (y 0).val < 256 := (y 0).isLt
  have hy1 : (y 1).val < 1152 := (y 1).isLt
  refine View.canon_apply_of_pieces (Val := Elt Ideal) (S := S256x1152) (e := .f32) (augRows m c t) _ ?_ y ?_
  · intro pc hpc x
    rcases List.mem_cons.mp hpc with rfl | hpc
    · refine (congrArg _ (eq_ix2' (a := 256) (b := 128) x)).trans ((weights_row m c t hf (x 0) (x 1)).trans ?_)
      have h0 : row t (((Rect.unit ![0, 1024] ![256, 128] inb_S256x1152_S256x128_0_1024 : Rect S256x1152).emb x) 0) = row t (x 0) := by
        refine congrArg (row t) (Fin.ext ?_)
        show 0 + 1 * (x 0).val = (x 0).val
        omega
      have h1 : ((((Rect.unit ![0, 1024] ![256, 128] inb_S256x1152_S256x128_0_1024 : Rect S256x1152).emb x) 1 : Fin 1152)).val = 1024 + (x 1).val := by
        show 1024 + 1 * (x 1).val = 1024 + (x 1).val
        omega
      show _ = (args m c).aug (row t _) _
      refine Eq.trans ?_ (congrArg (fun r => (args m c).aug r _) h0.symm)
      unfold Args.aug
      rw [dif_neg (by rw [h1]; omega)]
      refine congrArg _ (Fin.ext ?_)
      show (x 1).val = _ - 1024
      rw [h1]
      omega
    rcases List.mem_cons.mp hpc with rfl | hpc
    · refine (congrArg _ (eq_ix2' (a := 256) (b := 1024) x)).trans ((scaled_apply m c t (x 0) (x 1)).trans ?_)
      have hx : (x 1).val < 1024 := (x 1).isLt
      have h0 : row t (((Rect.unit ![0, 0] ![256, 1024] inb_S256x1152_S256x1024_0_0 : Rect S256x1152).emb x) 0) = row t (x 0) := by
        refine congrArg (row t) (Fin.ext ?_)
        show 0 + 1 * (x 0).val = (x 0).val
        omega
      have h1 : ((((Rect.unit ![0, 0] ![256, 1024] inb_S256x1152_S256x1024_0_0 : Rect S256x1152).emb x) 1 : Fin 1152)).val = (x 1).val := by
        show 0 + 1 * (x 1).val = (x 1).val
        omega
      show _ = (args m c).aug (row t _) _
      refine Eq.trans ?_ (congrArg (fun r => (args m c).aug r _) h0.symm)
      unfold Args.aug
      rw [dif_pos (by rw [h1]; exact hx)]
      exact congrArg _ (Fin.ext h1.symm)
    nomatch hpc
  · by_cases h : (y 1).val < 1024
    · refine ⟨_, List.mem_cons_of_mem _ List.mem_cons_self, ?_⟩
      show y ∈ (Rect.unit ![0, 0] ![256, 1024] inb_S256x1152_S256x1024_0_0 : Rect S256x1152).set
      rw [Rect.mem_set_unit]
      intro a
      match a with
      | ⟨0, _⟩ => show 0 ≤ (y 0).val ∧ (y 0).val < 0 + 256; omega
      | ⟨1, _⟩ => show 0 ≤ (y 1).val ∧ (y 1).val < 0 + 1024; omega
    · refine ⟨_, List.mem_cons_self, ?_⟩
      show y ∈ (Rect.unit ![0, 1024] ![256, 128] inb_S256x1152_S256x128_0_1024 : Rect S256x1152).set
      rw [Rect.mem_set_unit]
      intro a
      match a with
      | ⟨0, _⟩ => show 0 ≤ (y 0).val ∧ (y 0).val < 0 + 256; omega
      | ⟨1, _⟩ => show 1024 ≤ (y 1).val ∧ (y 1).val < 1024 + 128; omega

/-- The block of the third result. -/
theorem route_block (hf : (args m c).Finite) (y : S256x128.Idx) :
    (outsAt0 m c t.val t.isLt).2.2.1 y = (args m c).route (row t (y 0)) (y 1) := by
  rw [route_left]
  refine (congrArg _ (eq_ix2' y)).trans ((route_row m c t hf _ (y 0) (y 1)).trans ?_)
  unfold Args.route
  refine if_congr Iff.rfl rfl (if_congr Iff.rfl ?_ rfl)
  exact (congrArg₂ (· + ·) (carried_apply m c hf t.val t.isLt _) rfl).trans (rank_block m c t (y 0)).symm

/-- The counts after the last point. -/
theorem counts_block (hf : (args m c).Finite) (h : t.val = 63) (y : S1x128.Idx) :
    (outsAt0 m c t.val t.isLt).2.2.2.1 y = (args m c).counts (y 1) := by
  rw [total_left]
  have hy : y = ix2 (0 : Fin 1) (y 1) := (eq_ix2' y).trans (congrArg (fun i => ix2 i (y 1)) (show y 0 = (0 : Fin 1) from Subsingleton.elim (α := Fin 1) _ _))
  refine (congrArg _ hy).trans ((count_row m c t hf _ (y 1)).trans ?_)
  refine (congrArg₂ (· + ·) (carried_apply m c hf t.val t.isLt (y 1)) rfl).trans ((counted_block m c t (y 1).val).symm.trans ?_)
  refine Eq.trans ?_ ((args m c).counts_eq (y 1)).symm
  rw [h]

/-- Where an entry of the first result's block is written. -/
theorem emb10 (y : S256x1024.Idx) : ((cfg0.win 10).blk t).view.emb y = ix2 (row t (y 0)) (y 1) := by
  funext a
  apply Fin.ext
  fin_cases a
  · show cc0_transform_0 (grid0.coords t) 0 * 256 + 1 * (y 0).val = t.val * 256 + (y 0).val
    rw [in_index]; simp
  · show cc0_transform_0 (grid0.coords t) 1 * 1024 + 1 * (y 1).val = (y 1).val
    rw [in_index]; simp

/-- Where an entry of the second result's block is written. -/
theorem emb11 (y : S256x1152.Idx) : ((cfg0.win 11).blk t).view.emb y = ix2 (row t (y 0)) (y 1) := by
  funext a
  apply Fin.ext
  fin_cases a
  · show cc0_transform_0 (grid0.coords t) 0 * 256 + 1 * (y 0).val = t.val * 256 + (y 0).val
    rw [in_index]; simp
  · show cc0_transform_0 (grid0.coords t) 1 * 1152 + 1 * (y 1).val = (y 1).val
    rw [in_index]; simp

/-- Where an entry of the third result's block is written. -/
theorem emb12 (y : S256x128.Idx) : ((cfg0.win 12).blk t).view.emb y = ix2 (row t (y 0)) (y 1) := by
  funext a
  apply Fin.ext
  fin_cases a
  · show cc0_transform_0 (grid0.coords t) 0 * 256 + 1 * (y 0).val = t.val * 256 + (y 0).val
    rw [in_index]; simp
  · show cc0_transform_0 (grid0.coords t) 1 * 128 + 1 * (y 1).val = (y 1).val
    rw [in_index]; simp

/-- The block of the counts is the whole array. -/
theorem emb13 (y : S1x128.Idx) : ((cfg0.win 13).blk t).view.emb y = y := by
  funext a
  apply Fin.ext
  fin_cases a
  · show 0 * 1 + 1 * (y 0).val = (y 0).val
    omega
  · show 0 * 128 + 1 * (y 1).val = (y 1).val
    omega

/-- The first result after the run. -/
theorem final10 : (dats m 0 c).arrAt 10 cfg0.N = fun i : S16384x1024.Idx => (args m c).res (i 0) (i 1) := by
  refine (dats m 0 c).arrAt_eq_of_covers 10 _ (by decide +kernel) fun t hf y => ?_
  blk_simp
  rw [after0_10]
  exact (res_block m c t y).trans (congrArg (fun i : S16384x1024.Idx => (args m c).res (i 0) (i 1)) (emb10 t y).symm)

/-- The second result after the run. -/
theorem final11 (hF : (args m c).Finite) : (dats m 0 c).arrAt 11 cfg0.N = fun i : S16384x1152.Idx => (args m c).aug (i 0) (i 1) := by
  refine (dats m 0 c).arrAt_eq_of_covers 11 _ (by decide +kernel) fun t hf y => ?_
  blk_simp
  rw [after0_11]
  exact (aug_block m c t hF y).trans (congrArg (fun i : S16384x1152.Idx => (args m c).aug (i 0) (i 1)) (emb11 t y).symm)

/-- The third result after the run. -/
theorem final12 (hF : (args m c).Finite) : (dats m 0 c).arrAt 12 cfg0.N = fun i : S16384x128.Idx => (args m c).route (i 0) (i 1) := by
  refine (dats m 0 c).arrAt_eq_of_covers 12 _ (by decide +kernel) fun t hf y => ?_
  blk_simp
  rw [after0_12]
  exact (route_block m c t hF y).trans (congrArg (fun i : S16384x128.Idx => (args m c).route (i 0) (i 1)) (emb12 t y).symm)

/-- The last result after the run. -/
theorem final13 (hF : (args m c).Finite) : (dats m 0 c).arrAt 13 cfg0.N = fun i : S1x128.Idx => (args m c).counts (i 1) := by
  refine (dats m 0 c).arrAt_eq_of_covers 13 _ (by decide +kernel) fun t hf y => ?_
  have h : t.val = 63 := by
    have h1 : t.val % 64 = 63 := (flush0_13 t).mp hf
    have h2 : t.val < 64 := point_lt t
    omega
  blk_simp
  rw [after0_13]
  exact (counts_block m c t hF h y).trans (congrArg (fun i : S1x128.Idx => (args m c).counts (i 1)) (emb13 t y).symm)

end Cert.Router.Kernel
-- ==== Proof.RouterReference.lean ====
module
public import proofs.«01_k».proof.Proof.RouterSpec
public import proofs.«01_k».proof.Proof.Gen.Reference4Ideal.Run
public import Idealize.ShloMosaic.Lib.Tactic.CleanTypes
@[expose] public section
set_option maxRecDepth 16384
noncomputable section

/-! The reference's four results, entry by entry. -/

namespace Cert.Router.Reference

open Idealize.ShloMosaic Idealize.ShloMosaic.TcCoe Idealize.SL.Sem
open Cert.Reference4Ideal Cert.Reference4Ideal.Gen Cert.Reference4Ideal.Value

/-- The arguments, read from the buffers. -/
def args (V0 : Valuation τ sig (Elt Ideal)) : Args where
  x r k := (V0 (Proc.devRef .tc main_arg0) : Vec Ideal S16384x1024 .f32) (ix2 r k)
  ya r k := (V0 (Proc.devRef .tc main_arg1) : Vec Ideal S16384x256 .f32) (ix2 r k)
  yb r k := (V0 (Proc.devRef .tc main_arg2) : Vec Ideal S16384x256 .f32) (ix2 r k)
  yc r k := (V0 (Proc.devRef .tc main_arg3) : Vec Ideal S16384x256 .f32) (ix2 r k)
  yd r k := (V0 (Proc.devRef .tc main_arg4) : Vec Ideal S16384x256 .f32) (ix2 r k)
  w k n := (V0 (Proc.devRef .tc main_arg5) : Vec Ideal S1024x1024 .f32) (ix2 k n)
  gain k := (V0 (Proc.devRef .tc main_arg6) : Vec Ideal S1024 .f32) (ix1 k)
  wg k c := (V0 (Proc.devRef .tc main_arg7) : Vec Ideal S1024x4 .f32) (ix2 k c)
  bg c := (V0 (Proc.devRef .tc main_arg8) : Vec Ideal S4 .f32) (ix1 c)
  we k j := (V0 (Proc.devRef .tc main_arg9) : Vec Ideal S1024x32 .f32) (ix2 k j)
  be j := (V0 (Proc.devRef .tc main_arg10) : Vec Ideal S32 .f32) (ix1 j)

variable (V0 : Valuation τ sig (Elt Ideal))

/-- The reference's first result. -/
theorem res_apply (r : Fin 16384) (n : Fin 1024) : (res_main_v2 V0 : Vec Ideal S16384x1024 .f32) (ix2 r n) = (args V0).res r n := by
  unfold res_main_v2; clean_types; pointwise
  refine Eq.trans (congrArg _ (sum_parts _)) ?_
  unfold Args.res
  rw [add_assoc, add_assoc, add_assoc]
  refine congrArg _ (congrArg₂ (· + ·) (Finset.sum_congr rfl fun k _ => ?_) (congrArg₂ (· + ·) (Finset.sum_congr rfl fun k _ => ?_)
    (congrArg₂ (· + ·) (Finset.sum_congr rfl fun k _ => ?_) (Finset.sum_congr rfl fun k _ => ?_))))
  · have h : (Args.place 0 k).val = k.val := by simp [Args.place]
    rw [dif_pos (by omega)]
    simp only [h]
    rfl
  · have h : (Args.place 1 k).val = 256 + k.val := by simp [Args.place]
    rw [dif_neg (by omega), dif_pos (by omega)]
    simp only [h, Nat.add_sub_cancel_left]
    rfl
  · have h : (Args.place 2 k).val = 256 + (256 + k.val) := by simp [Args.place]; omega
    rw [dif_neg (by omega), dif_neg (by omega), dif_pos (by omega)]
    simp only [h, Nat.add_sub_cancel_left]
    rfl
  · have h : (Args.place 3 k).val = 256 + (256 + (256 + k.val)) := by simp [Args.place]; omega
    rw [dif_neg (by omega), dif_neg (by omega), dif_neg (by omega)]
    simp only [h, Nat.add_sub_cancel_left]
    rfl

/-- The reference's scaled rows. -/
theorem t_apply (r : Fin 16384) (n : Fin 1024) : (res_main_v15 V0 : Vec Ideal S16384x1024 .f32) (ix2 r n) = (args V0).t r n := by
  unfold res_main_v15; clean_types; pointwise
  simp only [res_apply]
  rfl

/-- The groups' logits. -/
theorem lg_apply (r : Fin 16384) (c : Fin 4) : (res_main_v19 V0 : Vec Ideal S16384x4 .f32) (ix2 r c) = (args V0).lg r c := by
  unfold res_main_v19; clean_types; pointwise
  simp only [t_apply]
  rfl

variable {V0} (hf : (args V0).Finite)
include hf

/-- The exponentials under the groups' softmax. -/
theorem exp_apply (r : Fin 16384) (c : Fin 4) : (res_main_v26 V0 : Vec Ideal S16384x4 .f32) (ix2 r c)
    = Ideal.exp ((args V0).lg r c - (args V0).lg r ((args V0).grp r)) := by
  unfold res_main_v26; clean_types; pointwise
  simp only [lg_apply]
  rw [neg_inf_word, fold_max (group_spec ((args V0).lg r)) (fun _ _ => rfl) (fun _ h => absurd trivial h), max_eq_right bot_le]
  rfl

/-- The softmax of the groups' logits. -/
theorem prob_apply (r : Fin 16384) (c : Fin 4) : (res_main_v30 V0 : Vec Ideal S16384x4 .f32) (ix2 r c)
    = Ideal.div (Ideal.exp ((args V0).lg r c - (args V0).lg r ((args V0).grp r)))
      (∑ j, Ideal.exp ((args V0).lg r j - (args V0).lg r ((args V0).grp r))) := by
  unfold res_main_v30; clean_types; pointwise
  simp only [exp_apply hf]

/-- The groups' probabilities are greatest where the logits are. -/
theorem prob_first (r : Fin 16384) :
    IsFirst (fun _ => True) (fun c => (res_main_v30 V0 : Vec Ideal S16384x4 .f32) (ix2 r c)) ((args V0).grp r) := by
  obtain ⟨S, v, hS, hv, he, h1, hs, ho⟩ := softmax_entry _ (Args.lg_real hf r) _ (group_spec ((args V0).lg r))
  refine (group_spec ((args V0).lg r)).congr fun a b _ _ => ?_
  rw [prob_apply hf, prob_apply hf]
  show Ideal.div (Ideal.exp ((args V0).lg r a - (args V0).lg r (group ((args V0).lg r)))) (∑ j, Ideal.exp ((args V0).lg r j - (args V0).lg r (group ((args V0).lg r))))
    ≤ Ideal.div (Ideal.exp ((args V0).lg r b - (args V0).lg r (group ((args V0).lg r)))) (∑ j, Ideal.exp ((args V0).lg r j - (args V0).lg r (group ((args V0).lg r)))) ↔ _
  rw [hs, he, he, div_le_div hS]
  exact ho a b

/-- The chosen group's number. -/
theorem sel_apply (r : Fin 16384) : (res_main_v37 V0 : IVec S16384 32) (ix1 r) = BitVec.ofNat 32 ((args V0).grp r).val := by
  unfold res_main_v37; clean_types; pointwise
  rw [neg_inf_word, fold_max (prob_first hf r) (fun _ _ => rfl) (fun _ h => absurd trivial h)]
  exact fold_minsi (by norm_num) (prob_first hf r) _ (fun j e => if_pos e) (fun j e => if_neg e)

/-- The chosen group's share. -/
theorem share_apply (r : Fin 16384) : (res_main_v38 V0 : Vec Ideal S16384 .f32) (ix1 r) = share ((args V0).lg r) := by
  unfold res_main_v38; clean_types; pointwise
  rw [neg_inf_word, fold_max (prob_first hf r) (fun _ _ => rfl) (fun _ h => absurd trivial h), prob_apply hf]
  obtain ⟨x, hx⟩ := Args.lg_real hf r ((args V0).grp r)
  have : Ideal.exp ((args V0).lg r ((args V0).grp r) - (args V0).lg r ((args V0).grp r)) = 1 := by
    rw [hx, ← EReal.coe_sub, sub_self, Ideal.exp_coe, Real.exp_zero]; rfl
  rw [this]
  rfl

/-- Which group is chosen. -/
theorem chosen_apply (r : Fin 16384) (c : Fin 4) : ((res_main_v39 V0 : Vec Ideal S16384x4 .f32) (ix2 r c) : EReal)
    = (if (args V0).grp r = c then (1 : EReal) else 0) := by
  unfold res_main_v39; clean_types; pointwise
  rw [sel_apply hf]
  refine (bit_eq _ _ (by omega) (by omega)).trans ?_
  simp only [Fin.ext_iff]

/-- The chosen group's logits. -/
theorem le_apply (r : Fin 16384) (e : Fin 8) : (res_main_v48 V0 : Vec Ideal S16384x8 .f32) (ix2 r e)
    = (args V0).lx r ((args V0).grp r) e := by
  unfold res_main_v48; clean_types; pointwise
  simp only [t_apply]
  refine (Finset.sum_eq_single ((args V0).grp r) (fun c _ hc => ?_) fun h => absurd (Finset.mem_univ _) h).trans ?_
  · rw [chosen_apply hf, if_neg (Ne.symm hc), zero_mul]
  · rw [chosen_apply hf, if_pos rfl, one_mul]
    rfl

/-- The chosen group's logits, one row of them. -/
abbrev le (V0 : Valuation τ sig (Elt Ideal)) (r : Fin 16384) : Fin 8 → EReal := (args V0).lx r ((args V0).grp r)

/-- The exponentials under the experts' softmax. -/
theorem expE_apply (r : Fin 16384) (e : Fin 8) : (res_main_v55 V0 : Vec Ideal S16384x8 .f32) (ix2 r e)
    = Ideal.exp (le V0 r e - le V0 r (first (le V0 r))) := by
  unfold res_main_v55; clean_types; pointwise
  simp only [le_apply hf]
  rw [neg_inf_word, fold_max (first_spec (le V0 r)) (fun _ _ => rfl) (fun _ h => absurd trivial h), max_eq_right bot_le]

/-- The softmax of the chosen group's logits. -/
theorem probE_apply (r : Fin 16384) (e : Fin 8) : (res_main_v59 V0 : Vec Ideal S16384x8 .f32) (ix2 r e)
    = Ideal.div (Ideal.exp (le V0 r e - le V0 r (first (le V0 r)))) (∑ j, Ideal.exp (le V0 r j - le V0 r (first (le V0 r)))) := by
  unfold res_main_v59; clean_types; pointwise
  simp only [expE_apply hf]

/-- The experts' probabilities are greatest where the logits are. -/
theorem probE_first (r : Fin 16384) :
    IsFirst (fun _ => True) (fun e => (res_main_v59 V0 : Vec Ideal S16384x8 .f32) (ix2 r e)) (first (le V0 r)) := by
  obtain ⟨S, v, hS, hv, he, h1, hs, ho⟩ := softmax_entry _ (Args.lx_real hf r _) _ (first_spec (le V0 r))
  refine (first_spec (le V0 r)).congr fun a b _ _ => ?_
  rw [probE_apply hf, probE_apply hf, hs, he, he, div_le_div hS]
  exact ho a b

/-- Which expert is chosen first. -/
theorem firstE_apply (r : Fin 16384) (e : Fin 8) : ((res_main_v67 V0 : Vec Ideal S16384x8 .f32) (ix2 r e) : EReal)
    = (if first (le V0 r) = e then (1 : EReal) else 0) := by
  unfold res_main_v67; clean_types; pointwise
  rw [neg_inf_word, fold_max (probE_first hf r) (fun _ _ => rfl) (fun _ h => absurd trivial h)]
  refine (congrArg (fun w => (FloatOps.uitofp FTy.f32 (IntOp.cmpi CmpIPredicate.eq w (BitVec.ofNat 32 e.val)) : Ideal .f32))
    (fold_minsi (by norm_num) (probE_first hf r) _ (fun j e => if_pos e) (fun j e => if_neg e))).trans ?_
  refine (bit_eq _ _ (by omega) (by omega)).trans ?_
  simp only [Fin.ext_iff]

/-- The softmax with the first chosen expert taken out. -/
theorem rest_apply (r : Fin 16384) (e : Fin 8) : (res_main_v70 V0 : Vec Ideal S16384x8 .f32) (ix2 r e)
    = (if first (le V0 r) = e then (0 : EReal) else (res_main_v59 V0 : Vec Ideal S16384x8 .f32) (ix2 r e)) := by
  unfold res_main_v70; clean_types; pointwise
  rw [firstE_apply hf]
  by_cases h : first (le V0 r) = e
  · rw [if_pos h, if_pos rfl, if_pos h]
    show Ideal.ofBits FTy.f32 0#32 = 0
    exact Ideal.ofBits_zero_f32
  · rw [if_neg h, if_neg (by norm_num), if_neg h]

/-- With the first expert's set to zero they are greatest at the second expert. -/
theorem rest_first (r : Fin 16384) :
    IsFirst (fun _ => True) (fun e => (res_main_v70 V0 : Vec Ideal S16384x8 .f32) (ix2 r e)) (second (le V0 r)) := by
  obtain ⟨S, v, hS, hv, he, h1, hs, ho⟩ := softmax_entry _ (Args.lx_real hf r _) _ (first_spec (le V0 r))
  have h2 := second_spec (le V0 r)
  have hpos : ∀ e, (0 : EReal) < Ideal.div (v e : EReal) (S : EReal) := fun e => by
    rw [Ideal.div_coe hS.ne', ← EReal.coe_mul]
    exact_mod_cast mul_pos (hv e) (by positivity)
  have hval : ∀ e, e ≠ first (le V0 r) → (res_main_v70 V0 : Vec Ideal S16384x8 .f32) (ix2 r e) = Ideal.div (v e : EReal) (S : EReal) := fun e h => by
    rw [rest_apply hf, if_neg (Ne.symm h), probE_apply hf, hs, he]
  have hzero : (res_main_v70 V0 : Vec Ideal S16384x8 .f32) (ix2 r (first (le V0 r))) = (0 : EReal) := by
    rw [rest_apply hf, if_pos rfl]
  refine ⟨trivial, fun j _ => ?_, fun j _ e => ?_⟩
  · beta_reduce
    by_cases hj : j = first (le V0 r)
    · rw [hj, hzero, hval _ h2.1]
      exact (hpos _).le
    · rw [hval _ hj, hval _ h2.1, div_le_div hS]
      exact (ho _ _).2 (h2.2.1 j hj)
  · beta_reduce at e
    by_cases hj : j = first (le V0 r)
    · rw [hj, hzero, hval _ h2.1] at e
      exact absurd e (hpos _).ne
    · refine h2.2.2 j hj ?_
      rw [hval _ hj, hval _ h2.1] at e
      exact le_antisymm (h2.2.1 j hj) ((ho _ _).1 ((div_le_div hS _ _).1 e.symm.le))

/-- The first chosen expert's softmax entry. -/
theorem p1_apply (r : Fin 16384) : (res_main_v79 V0 : Vec Ideal S16384 .f32) (ix1 r)
    = Ideal.div 1 (∑ j, Ideal.exp (le V0 r j - le V0 r (first (le V0 r)))) := by
  unfold res_main_v79; clean_types; pointwise
  rw [neg_inf_word, fold_max (probE_first hf r) (fun _ _ => rfl) (fun _ h => absurd trivial h), probE_apply hf]
  obtain ⟨S, v, hS, hv, he, h1, hs, ho⟩ := softmax_entry _ (Args.lx_real hf r _) _ (first_spec (le V0 r))
  rw [he, h1]
  rfl

/-- The second chosen expert's softmax entry. -/
theorem p2_apply (r : Fin 16384) : (res_main_v80 V0 : Vec Ideal S16384 .f32) (ix1 r)
    = Ideal.div (ratio (le V0 r)) (∑ j, Ideal.exp (le V0 r j - le V0 r (first (le V0 r)))) := by
  unfold res_main_v80; clean_types; pointwise
  rw [neg_inf_word, fold_max (rest_first hf r) (fun _ _ => rfl) (fun _ h => absurd trivial h), rest_apply hf,
    if_neg (Ne.symm (second_ne _)), probE_apply hf]
  rfl

/-- The second chosen expert's number. -/
theorem secondE_apply (r : Fin 16384) :
    Finset.univ.fold IntOp.minsi 2147483647#32 (fun x : Fin 8 =>
      if res_main_v70 V0 (ix2 r x) = res_main_v70 V0 (ix2 r (second (le V0 r))) then BitVec.ofNat 32 x.val else id (constantI S_ 32 8#32) ix0)
    = BitVec.ofNat 32 (second (le V0 r)).val :=
  fold_minsi (by norm_num) (rest_first hf r) _ (fun j e => if_pos e) (fun j e => if_neg e)

/-- The two chosen experts' weights, placed at the row's group. -/
theorem gates (r : Fin 16384) (c : Fin 4) (e : Fin 8) (w : EReal) (hw : w = if second (le V0 r) = e then (1 : EReal) else 0) :
    (show EReal from (res_main_v39 V0 : Vec Ideal S16384x4 .f32) (ix2 r c)) *
      ((show EReal from (res_main_v67 V0 : Vec Ideal S16384x8 .f32) (ix2 r e)) *
          Ideal.div ((show EReal from (res_main_v38 V0 : Vec Ideal S16384 .f32) (ix1 r)) * (show EReal from (res_main_v79 V0 : Vec Ideal S16384 .f32) (ix1 r)))
            ((show EReal from (res_main_v79 V0 : Vec Ideal S16384 .f32) (ix1 r)) + (show EReal from (res_main_v80 V0 : Vec Ideal S16384 .f32) (ix1 r)))
        + w *
          Ideal.div ((show EReal from (res_main_v38 V0 : Vec Ideal S16384 .f32) (ix1 r)) * (show EReal from (res_main_v80 V0 : Vec Ideal S16384 .f32) (ix1 r)))
            ((show EReal from (res_main_v79 V0 : Vec Ideal S16384 .f32) (ix1 r)) + (show EReal from (res_main_v80 V0 : Vec Ideal S16384 .f32) (ix1 r))))
      = gate ((args V0).lg r) ((args V0).lx r) c e := by
  subst hw
  unfold gate
  dsimp only
  rw [chosen_apply hf]
  by_cases hc : c = group ((args V0).lg r)
  · have hg : (args V0).grp r = c := hc.symm
    rw [if_pos hg, if_pos hc, one_mul, firstE_apply hf, share_apply hf, p1_apply hf, p2_apply hf, ← hg]
    obtain ⟨S, v, hS, hv, he, h1, hs, ho⟩ := softmax_entry _ (Args.lx_real hf r _) _ (first_spec (le V0 r))
    obtain ⟨T, u, hT, hu, hf', h1', ht, ho'⟩ := softmax_entry _ (Args.lg_real hf r) _ (group_spec ((args V0).lg r))
    have hP : share ((args V0).lg r) = ((1 * (1 / T) : ℝ) : EReal) := by
      unfold share; rw [ht]; exact (Ideal.div_coe hT.ne' 1).trans (EReal.coe_mul _ _).symm
    have hr : ratio (le V0 r) = (v (second (le V0 r)) : EReal) := he _
    rw [hs, hP, hr, weight_first _ _ _ hS (hv _), weight_second _ _ _ hS (hv _)]
    simp only [ite_mul, one_mul, zero_mul, eq_comm (a := e)]
  · have hg : ¬ (args V0).grp r = c := fun q => hc q.symm
    rw [if_neg hg, if_neg hc, zero_mul]

/-- The second expert's probability is the greatest of the rest. -/
theorem rest_max (r : Fin 16384) : Finset.univ.fold max (⊥ : EReal) (fun x : Fin 8 => (res_main_v70 V0 : Vec Ideal S16384x8 .f32) (ix2 r x))
    = (res_main_v70 V0 : Vec Ideal S16384x8 .f32) (ix2 r (second (le V0 r))) := by
  have h := fold_max (rest_first hf r) (h := fun x : Fin 8 => (res_main_v70 V0 : Vec Ideal S16384x8 .f32) (ix2 r x)) (fun _ _ => rfl)
    (fun _ h => absurd trivial h)
  exact h

/-- The reference's second result. -/
theorem aug_apply (r : Fin 16384) (k : Fin 1152) : (concatenate S16384x1152 1 [⟨S16384x1024, ((res_main_v15 V0) : (⟨S16384x1024, .f32⟩ : BufTy).Contents (Elt Ideal))⟩, ⟨S16384x4, ((broadcastInDim S16384x4 ![] bcast_S_S16384x4 (constant (F := Ideal) S_ .f32 0x00000000#32)) : (⟨S16384x4, .f32⟩ : BufTy).Contents (Elt Ideal))⟩, ⟨S16384x32, ((shapeCast _ (mulf (broadcastInDim S16384x4x8 ![0, 1, 2] bcast_S16384x4x1_S16384x4x8_0_1_2 (broadcastInDim S16384x4x1 ![0, 1] bcast_S16384x4_S16384x4x1_0_1 (res_main_v39 V0))) (broadcastInDim S16384x4x8 ![0, 1, 2] bcast_S16384x1x8_S16384x4x8_0_1_2 (broadcastInDim S16384x1x8 ![0, 2] bcast_S16384x8_S16384x1x8_0_2 (addf (mulf (res_main_v67 V0) (broadcastInDim S16384x8 ![0, 1] bcast_S16384x1_S16384x8_0_1 (broadcastInDim S16384x1 ![0] bcast_S16384_S16384x1_0 (Host.divf (mulf (res_main_v38 V0) (res_main_v79 V0)) (addf (res_main_v79 V0) (res_main_v80 V0)))))) (mulf (uitofp .f32 (cmpi .eq (broadcastInDim S16384x8 ![0, 1] bcast_S16384x1_S16384x8_0_1 (broadcastInDim S16384x1 ![0] bcast_S16384_S16384x1_0 (Host.reduce IntOp.minsi (select (cmpf .oeq (res_main_v70 V0) (broadcastInDim S16384x8 ![0, 1] bcast_S16384x1_S16384x8_0_1 (broadcastInDim S16384x1 ![0] bcast_S16384_S16384x1_0 (Host.reduce FloatOps.maximumf (res_main_v70 V0) (constant (F := Ideal) S_ .f32 0xFF800000#32) reducesTo_S16384x8_S16384_d1 h_S_)))) (broadcastInDim S16384x8 ![1] bcast_S8_S16384x8_1 (iotaInDim S8 32 0)) (broadcastInDim S16384x8 ![] bcast_S_S16384x8 (id (constantI S_ 32 8#32)))) (constantI S_ 32 2147483647#32) reducesTo_S16384x8_S16384_d1 h_S_))) (broadcastInDim S16384x8 ![0, 1] bcast_S1x8_S16384x8_0_1 (iotaInDim S1x8 32 1)))) (broadcastInDim S16384x8 ![0, 1] bcast_S16384x1_S16384x8_0_1 (broadcastInDim S16384x1 ![0] bcast_S16384_S16384x1_0 (Host.divf (mulf (res_main_v38 V0) (res_main_v80 V0)) (addf (res_main_v79 V0) (res_main_v80 V0)))))))))) shapeCasts_S16384x4x8_S16384x32) : (⟨S16384x32, .f32⟩ : BufTy).Contents (Elt Ideal))⟩, ⟨S16384x92, ((broadcastInDim S16384x92 ![] bcast_S_S16384x92 (constant (F := Ideal) S_ .f32 0x00000000#32)) : (⟨S16384x92, .f32⟩ : BufTy).Contents (Elt Ideal))⟩] concatenates_S16384x1024_S16384x4_S16384x32_S16384x92_S16384x1152_d1 : (⟨S16384x1152, .f32⟩ : BufTy).Contents (Elt Ideal)) (ix2 r k) = (args V0).aug r k := by
  clean_types; pointwise
  unfold Args.aug
  by_cases h0 : k.val < 1024
  · rw [dif_pos h0, dif_pos h0]
    exact t_apply _ _ _
  rw [dif_neg h0, dif_neg h0]
  unfold Args.lanes
  by_cases h1 : k.val - 1024 < 4
  · rw [dif_pos h1, dif_neg (by show ¬ (4 ≤ k.val - 1024 ∧ k.val - 1024 < 36); omega)]
  rw [dif_neg h1]
  by_cases h2 : k.val - 1024 - 4 < 32
  · rw [dif_pos h2, dif_pos (by show 4 ≤ k.val - 1024 ∧ k.val - 1024 < 36; omega)]
    rw [neg_inf_word]
    dsimp only
    rw [rest_max hf r]
    refine gates hf r ⟨(k.val - 1024 - 4) / 8, by omega⟩ ⟨(k.val - 1024 - 4) % 8, by omega⟩ _ ?_
    refine (congrArg (fun w => (FloatOps.uitofp FTy.f32 (IntOp.cmpi CmpIPredicate.eq w (BitVec.ofNat 32 ((k.val - 1024 - 4) % 8))) : Ideal .f32)) (secondE_apply hf r)).trans ?_
    refine (bit_eq _ _ (by omega) (by omega)).trans ?_
    simp only [Fin.ext_iff]
  · rw [dif_neg h2, dif_neg (by show ¬ (4 ≤ k.val - 1024 ∧ k.val - 1024 < 36); omega)]

/-- The reference's third result. -/
theorem route_apply (r : Fin 16384) (k : Fin 128) : (concatenate S16384x128 1 [⟨S16384x1, ((sitofp (F := Ideal) .f32 (broadcastInDim S16384x1 ![0] bcast_S16384_S16384x1_0 (res_main_v37 V0))) : (⟨S16384x1, .f32⟩ : BufTy).Contents (Elt Ideal))⟩, ⟨S16384x1, ((broadcastInDim S16384x1 ![0] bcast_S16384_S16384x1_0 (Host.reduceAdd (uitofp (F := Ideal) .f32 (andi (cmpi .slt (broadcastInDim S16384x16384 ![0, 1] bcast_S1x16384_S16384x16384_0_1 (broadcastInDim S1x16384 ![1] bcast_S16384_S1x16384_1 (res_main_v99 V0))) (broadcastInDim S16384x16384 ![0, 1] bcast_S16384x1_S16384x16384_0_1 (broadcastInDim S16384x1 ![0] bcast_S16384_S16384x1_0 (res_main_v99 V0)))) (cmpi .eq (broadcastInDim S16384x16384 ![0, 1] bcast_S1x16384_S16384x16384_0_1 (broadcastInDim S1x16384 ![1] bcast_S16384_S1x16384_1 (res_main_v37 V0))) (broadcastInDim S16384x16384 ![0, 1] bcast_S16384x1_S16384x16384_0_1 (broadcastInDim S16384x1 ![0] bcast_S16384_S16384x1_0 (res_main_v37 V0)))))) (constant (F := Ideal) S_ .f32 0x00000000#32) reducesTo_S16384x16384_S16384_d1 h_S_)) : (⟨S16384x1, .f32⟩ : BufTy).Contents (Elt Ideal))⟩, ⟨S16384x126, ((broadcastInDim S16384x126 ![] bcast_S_S16384x126 (constant (F := Ideal) S_ .f32 0x00000000#32)) : (⟨S16384x126, .f32⟩ : BufTy).Contents (Elt Ideal))⟩] concatenates_S16384x1_S16384x1_S16384x126_S16384x128_d1 : (⟨S16384x128, .f32⟩ : BufTy).Contents (Elt Ideal)) (ix2 r k) = (args V0).route r k := by
  clean_types; pointwise [res_main_v99]
  unfold Args.route
  by_cases h0 : k.val < 1
  · rw [dif_pos h0, if_pos (by omega), sel_apply hf]
    exact number_word _ (by omega)
  rw [dif_neg h0, if_neg (by omega)]
  by_cases h1 : k.val - 1 < 1
  · rw [dif_pos h1, if_pos (by omega)]
    refine Finset.sum_congr rfl fun x _ => ?_
    rw [sel_apply hf, sel_apply hf]
    refine (bit_before _ _ _ _ (by omega) (by omega) (by omega) (by omega)).trans ?_
    simp only [Fin.ext_iff, Fin.lt_def]
  · rw [dif_neg h1, if_neg (by omega)]

/-- The reference's counts. -/
theorem counts_apply (k : Fin 128) : (broadcastInDim S1x128 ![1] bcast_S128_S1x128_1 (concatenate S128 0 [⟨S4, (Host.reduceAdd (res_main_v39 V0) (constant (F := Ideal) S_ .f32 0x00000000#32) reducesTo_S16384x4_S4_d0 h_S_)⟩, ⟨S124, (broadcastInDim S124 ![] bcast_S_S124 (constant (F := Ideal) S_ .f32 0x00000000#32))⟩] concatenates_S4_S124_S128_d0) : Vec Ideal S1x128 .f32) (ix2 0 k) = (args V0).counts k := by
  clean_types; pointwise
  unfold Args.counts
  split_ifs with h
  · refine Finset.sum_congr rfl fun c _ => (chosen_apply hf c ⟨k.val, h⟩).trans ?_
    simp only [Fin.ext_iff]
  · refine (Finset.sum_eq_zero fun c _ => if_neg ?_).symm
    have := ((args V0).grp c).isLt
    omega

end Cert.Router.Reference
-- ==== Proof.RouterFinite.lean ====
/- What the router's precondition says: every gain, router weight and bias is a real number. -/
module

public import proofs.«01_k».proof.Pre_finite_router
public import proofs.«01_k».proof.Proof.RouterMath
public import Idealize.ShloMosaic.Lib.ReduceAll
public import Idealize.ShloMosaic.Lib.WordArith

@[expose] public section

namespace Cert.Router.Precondition

open Idealize.ShloMosaic Idealize.ShloMosaic.WordArith Cert.Pre_finite_router

/-- The shape relations the predicate's operations take hold. -/
theorem facts : Cert.Pre_finite_router.Facts where
  bcast_S_S1024 := by decide
  reducesTo_S1024_S_d0 := by decide
  h_S_ := by decide
  bcast_S_S1024x4 := by decide
  reducesTo_S1024x4_S_d0_1 := by decide
  bcast_S_S4 := by decide
  reducesTo_S4_S_d0 := by decide
  bcast_S_S1024x32 := by decide
  reducesTo_S1024x32_S_d0_1 := by decide
  bcast_S_S32 := by decide
  reducesTo_S32_S_d0 := by decide

/-- A number whose absolute value is below infinity is a real number. -/
theorem real_of_bit (x : EReal)
    (h : FloatOps.cmpf (F := Ideal) (φ := FTy.f32) CmpFPredicate.olt (FloatOps.absf (F := Ideal) (φ := .f32) x) (Ideal.ofBits FTy.f32 0x7F800000#32) = 1#1) :
    Real' x := by
  rw [inf_word] at h
  have q : max x (-x) < (⊤ : EReal) := by
    by_contra hn
    have e : BitVec.ofBool (decide (max x (-x) < (⊤ : EReal))) = 1#1 := h
    rw [decide_eq_false hn] at e
    exact absurd e (by decide)
  induction x with
  | bot => exact absurd q (by simp)
  | top => exact absurd q (by simp)
  | coe a => exact ⟨a, rfl⟩

attribute [local instance] facts

/-- Where the predicate is set, the gains, the routers' weights and their biases are real numbers. -/
theorem finite {x : FVec Ideal S16384x1024 .f32} {ya yb yc yd : FVec Ideal S16384x256 .f32} {w : FVec Ideal S1024x1024 .f32}
    {gain : FVec Ideal S1024 .f32} {wg : FVec Ideal S1024x4 .f32} {bg : FVec Ideal S4 .f32}
    {we : FVec Ideal S1024x32 .f32} {be : FVec Ideal S32 .f32}
    (h : Cert.Pre_finite_router.fn x ya yb yc yd w gain wg bg we be = fun _ => 1#1) :
    (∀ i, Real' (gain i)) ∧ (∀ i, Real' (wg i)) ∧ (∀ i, Real' (bg i)) ∧ (∀ i, Real' (we i)) ∧ ∀ i, Real' (be i) := by
  have e := congrFun h (Shape.Idx.first Facts.h_S_)
  dsimp only [Cert.Pre_finite_router.fn, fn_part1] at e
  have split : ∀ (a b : IVec S_ 1) (j : S_.Idx), andi a b j = 1#1 → a j = 1#1 ∧ b j = 1#1 := fun a b j q => by
    have q' : a j &&& b j = 1#1 := q
    revert q'
    generalize a j = s
    generalize b j = t
    revert s t
    decide
  obtain ⟨e, e5⟩ := split _ _ _ e
  obtain ⟨e, e4⟩ := split _ _ _ e
  obtain ⟨e, e3⟩ := split _ _ _ e
  obtain ⟨e1, e2⟩ := split _ _ _ e
  exact ⟨fun i => real_of_bit _ (Host.reduce_andi_all _ _ _ _ _ e1 i), fun i => real_of_bit _ (Host.reduce_andi_all _ _ _ _ _ e2 i),
    fun i => real_of_bit _ (Host.reduce_andi_all _ _ _ _ _ e3 i), fun i => real_of_bit _ (Host.reduce_andi_all _ _ _ _ _ e4 i),
    fun i => real_of_bit _ (Host.reduce_andi_all _ _ _ _ _ e5 i)⟩

end Cert.Router.Precondition
-- ==== Proof.RouterEquation.lean ====
module
public import proofs.«01_k».proof.Defs
public import proofs.«01_k».proof.Proof.RouterArray
public import proofs.«01_k».proof.Proof.RouterReference
public import proofs.«01_k».proof.Proof.RouterFinite
public import Idealize.ShloMosaic.Adequacy
public import Idealize.ShloMosaic.Init
@[expose] public section
set_option maxRecDepth 16384
noncomputable section

/-! The output projection with the router: the kernel and the reference end with the same four results. -/

namespace Cert.Router

open Idealize.ShloMosaic Idealize.ShloMosaic.TcCoe Idealize.SL.Sem

/-- The arguments the precondition speaks of are real numbers. -/
theorem finite_args (m : (ℓ : Loc Cert.Kernel4Ideal.nD Cert.Kernel4Ideal.τ Cert.Kernel4Ideal.sig) → Buf (Elt Ideal) ℓ)
    (hp : Cert.Pre_Kernel4Ideal_finite_router (hPre_finite_router := Precondition.facts) m) (c : Dev Cert.Kernel4Ideal.nD) :
    (Kernel.args m c).Finite := by
  obtain ⟨h6, h7, h8, h9, h10⟩ := Precondition.finite (hp c)
  exact ⟨fun k => h6 (ix1 k), fun k g => h7 (ix2 k g), fun g => h8 (ix1 g), fun k j => h9 (ix2 k j), fun j => h10 (ix1 j)⟩

/-- Arrays of two axes that agree at every row and column are equal. -/
theorem of_entries {a b : ℕ} {f g : (⟨2, ![a, b]⟩ : Shape).Idx → EReal} (h : ∀ i j, f (ix2 i j) = g (ix2 i j)) : f = g := by
  funext i
  rw [Kernel.eq_ix2' i]
  exact h _ _

/-- The kernel and the reference, from memories that agree on the arguments, end with the same residual rows, scaled rows
    with the experts' weights, groups with ranks, and counts. -/
theorem algebraic : Cert.algebraic_Kernel4Ideal_Reference4Ideal_pre_finite_router (hPre_finite_router := Precondition.facts) := by
  intro m ρ m' ρ' hp hagree
  refine ⟨fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N, ?_, ?_⟩
  · exact (θ_run Cert.Kernel4Ideal.defs _ _).mono
      (fun _ h c => ⟨h.1.out_eq c 10, h.1.out_eq c 11, h.1.out_eq c 12, h.1.out_eq c 13, h.2 c⟩)
      (θ_run_and (Cert.Kernel4Ideal.Gen.run_main m ρ) (Cert.Kernel4Ideal.Gen.unchanged m ρ))
  · have hF := finite_args m hp
    have hA : ∀ c, Reference.args (StableHlo.launchContents m' c) = Kernel.args m c := fun c => by
      obtain ⟨h0, h1, h2, h3, h4, h5, h6, h7, h8, h9, h10⟩ := hagree c
      unfold Reference.args Kernel.args
      congr 1
      · funext r k; exact congrFun h0 _
      · funext r k; exact congrFun h1 _
      · funext r k; exact congrFun h2 _
      · funext r k; exact congrFun h3 _
      · funext r k; exact congrFun h4 _
      · funext r k; exact congrFun h5 _
      · funext k; exact congrFun h6 _
      · funext r k; exact congrFun h7 _
      · funext k; exact congrFun h8 _
      · funext r k; exact congrFun h9 _
      · funext k; exact congrFun h10 _
    have hR : ∀ c, (Reference.args (StableHlo.launchContents m' c)).Finite := fun c => by
      rw [hA c]; exact hF c
    refine (θ_run Cert.Reference4Ideal.defs _ _).mono (fun _ h c => ⟨(h c).1.trans ?_, (h c).2.1.trans ?_, (h c).2.2.1.trans ?_,
      (h c).2.2.2.1.trans ?_, (h c).2.2.2.2⟩) (Cert.Reference4Ideal.Value.run (F := Ideal) m' ρ')
    · refine Eq.trans ?_ (Kernel.final10 m c).symm
      exact of_entries fun r k => (Reference.res_apply _ r k).trans (congrArg (fun A : Args => A.res r k) (hA c))
    · refine Eq.trans ?_ (Kernel.final11 m c (hF c)).symm
      exact of_entries fun r k => (Reference.aug_apply (hR c) r k).trans (congrArg (fun A : Args => A.aug r k) (hA c))
    · refine Eq.trans ?_ (Kernel.final12 m c (hF c)).symm
      exact of_entries fun r k => (Reference.route_apply (hR c) r k).trans (congrArg (fun A : Args => A.route r k) (hA c))
    · refine Eq.trans ?_ (Kernel.final13 m c (hF c)).symm
      refine of_entries fun r k => ?_
      obtain rfl : r = 0 := Subsingleton.elim _ _
      exact (Reference.counts_apply (hR c) k).trans (congrArg (fun A : Args => A.counts k) (hA c))

end Cert.Router
-- ==== Proof.CompressMath.lean ====
module
public import proofs.«01_k».proof.Proof.RouterMath
@[expose] public section
noncomputable section

/-! The compression of windows of tokens: what it is, and that it may be summed half a window at a time. -/

namespace Cert.Compress

open Idealize.ShloMosaic Cert.Router

/-- Entry `q` of window `n` laid out as one row: the windows are 32 tokens of 64 numbers, one begins every 16 tokens, and
    past the last token they hold zeros. -/
def window (tok : Fin 4096 → Fin 64 → EReal) (n : Fin 256) (q : Fin 2048) : EReal :=
  if h : 16 * n.val + q.val / 64 < 4096 then tok ⟨16 * n.val + q.val / 64, h⟩ ⟨q.val % 64, Nat.mod_lt _ (by decide)⟩ else 0

/-- The first layer before its nonlinearity: the window plus the positions, times the first weights. -/
def hidden (tok : Fin 4096 → Fin 64 → EReal) (pos w : Fin 2048 → EReal) (n : Fin 256) : EReal :=
  ∑ q : Fin 2048, (window tok n q + pos q) * w q

/-- The nonlinearity, the tanh approximation of x·Φ(x). Its words are 0.5, 1, √(2/π) and 0.044715. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * (x * x * x)))))

/-- The same with its products grouped from the left. -/
theorem gelu_eq (x : EReal) :
    Ideal.ofBits FTy.f32 0x3F000000#32 * x * (Ideal.ofBits FTy.f32 0x3F800000#32
      + Ideal.tanh (Ideal.ofBits FTy.f32 0x3F4C422A#32 * (x + Ideal.ofBits FTy.f32 0x3D372713#32 * x * x * x))) = gelu x := by
  unfold gelu
  rw [mul_comm (Ideal.ofBits FTy.f32 0x3F000000#32) x, mul_assoc, mul_assoc (Ideal.ofBits FTy.f32 0x3D372713#32) x x,
    mul_assoc (Ideal.ofBits FTy.f32 0x3D372713#32) (x * x) x]

/-- One entry of a compressed window: the second layer over the 64 units of the first. -/
def compressed (tok : Fin 4096 → Fin 64 → EReal) (pos : Fin 2048 → EReal) (w1 : Fin 2048 → Fin 64 → EReal)
    (w2 : Fin 64 → EReal) (n : Fin 256) : EReal :=
  ∑ h : Fin 64, gelu (hidden tok pos (fun q => w1 q h) n) * w2 h

/-- A row divided by its root mean square and scaled. The words are the row's length 64 and the constant under the root. -/
def normed (x gain : Fin 64 → EReal) (d : Fin 64) : EReal :=
  x d * Ideal.rsqrt (Ideal.div (∑ j : Fin 64, x j * x j) (Ideal.ofBits FTy.f32 0x42800000#32)
    + Ideal.ofBits FTy.f32 0x358637BD#32) * gain d

/-- Multiplication by a real number distributes over adding a real number to anything. -/
theorem add_mul_real (x p w : EReal) (hp : Real' p) (hw : Real' w) : (x + p) * w = x * w + p * w := by
  obtain ⟨p, rfl⟩ := hp
  obtain ⟨w, rfl⟩ := hw
  induction x with
  | coe a =>
    norm_cast
    ring
  | top =>
    rw [EReal.top_add_coe]
    rcases lt_trichotomy w 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, EReal.bot_add]

/-- The sixteen tokens from `16·r` on as one row of 1024 numbers. -/
def half (tok : Fin 4096 → Fin 64 → EReal) (r : Fin 256) (k : Fin 1024) : EReal :=
  tok ⟨16 * r.val + k.val / 64, by omega⟩ ⟨k.val % 64, Nat.mod_lt _ (by decide)⟩

/-- What follows a window's first half, times weights: the next row's product, and zero past the last row. -/
def follow (tok : Fin 4096 → Fin 64 → EReal) (w : Fin 1024 → EReal) (n : Fin 256) : EReal :=
  if h : n.val + 1 < 256 then ∑ k : Fin 1024, half tok ⟨n.val + 1, h⟩ k * w k else 0

/-- The first layer from the halves of the window and the positions apart. -/
theorem hidden_eq (tok : Fin 4096 → Fin 64 → EReal) (pos w : Fin 2048 → EReal) (hp : ∀ q, Real' (pos q))
    (hw : ∀ q, Real' (w q)) (n : Fin 256) :
    (∑ k : Fin 1024, half tok n k * w ⟨k.val, by omega⟩) + follow tok (fun k => w ⟨1024 + k.val, by omega⟩) n
      + ∑ q : Fin 2048, pos q * w q = hidden tok pos w n := by
  unfold hidden
  rw [Finset.sum_congr rfl fun q _ => add_mul_real (window tok n q) (pos q) (w q) (hp q) (hw q), Finset.sum_add_distrib]
  congr 1
  refine Eq.trans ?_ (Fin.sum_univ_add (a := 1024) (b := 1024) (fun q : Fin (1024 + 1024) => window tok n q * w q)).symm
  congr 1
  · refine Finset.sum_congr rfl fun k _ => ?_
    have e : window tok n (Fin.castAdd 1024 k) = half tok n k := by
      unfold window half
      rw [dif_pos (show 16 * n.val + (Fin.castAdd 1024 k).val / 64 < 4096 by
        show 16 * n.val + k.val / 64 < 4096
        omega)]
      rfl
    rw [e]
    rfl
  · unfold follow
    split_ifs with h
    · refine Finset.sum_congr rfl fun k _ => ?_
      have e : window tok n (Fin.natAdd 1024 k) = half tok ⟨n.val + 1, h⟩ k := by
        unfold window half
        have e1 : (Fin.natAdd 1024 k).val = 1024 + k.val := rfl
        rw [dif_pos (by rw [e1]; omega)]
        congr 1
        · apply Fin.ext
          show 16 * n.val + (1024 + k.val) / 64 = 16 * (n.val + 1) + k.val / 64
          omega
        · apply Fin.ext
          show (1024 + k.val) % 64 = k.val % 64
          omega
      rw [e]
      rfl
    · refine (Finset.sum_eq_zero fun k _ => ?_).symm
      have e : window tok n (Fin.natAdd 1024 k) = 0 := by
        unfold window
        have e1 : (Fin.natAdd 1024 k).val = 1024 + k.val := rfl
        rw [dif_neg (by rw [e1]; omega)]
      rw [e, zero_mul]

end Cert.Compress
-- ==== Proof.CompressCases.lean ====
module
public import proofs.«01_k».proof.Defs
public import proofs.«01_k».proof.Proof.CompressMath
public import proofs.«01_k».proof.Proof.Gen.Kernel5Ideal.Frame
public import Idealize.ShloMosaic.Lib.Pipeline.ValueKit
public import Idealize.ShloMosaic.Lib.Pipeline.ReadBack
@[expose] public section
set_option maxRecDepth 16384
noncomputable section

/-! What a grid point of the compression leaves in its two output blocks, from the blocks staged at the point. -/

namespace Cert.Compress.Kernel

open Cert.Kernel5Ideal Cert.Kernel5Ideal.Gen
open Idealize.ShloMosaic Idealize.ShloMosaic.TcCoe

/-! ## The rows read one below where they were written -/

/-- What is read from row 1 of the scratch on, after a block over zeros. -/
def below (a : FVec Ideal S256x64 .f32) (L : List (View.Piece (Elt Ideal) S264x64 .f32)) : FVec Ideal S256x64 .f32 :=
  (View.whole cc0_scratch0).readCov ((⟨Rect.unit ![0, 0] ![256, 64] inb_S264x64_S256x64_0_0, a⟩ : View.Piece (Elt Ideal) S264x64 .f32) :: L)
    (Rect.unit (s := S264x64) ![1, 0] ![256, 64] inb_S264x64_S256x64_1_0).toLoadRect

/-- The zeros below the block. -/
def zeros : View.Piece (Elt Ideal) S264x64 .f32 := ⟨Rect.unit ![256, 0] ![8, 64] inb_S264x64_S8x64_256_0, (k0_pay3 : FVec Ideal S8x64 .f32)⟩

/-- The index of the scratch that is read at row `n`. -/
theorem below_idx (n : Fin 256) (h : Fin 64) :
    (Rect.unit ![1, 0] ![256, 64] inb_S264x64_S256x64_1_0 : Rect S264x64).toLoadRect.idx (ix2 n h)
      = (ix2 ⟨n.val + 1, by omega⟩ h : S264x64.Idx) := by
  funext a
  apply Fin.ext
  fin_cases a
  · show 1 + 1 * n.val = n.val + 1
    omega
  · show 0 + 1 * h.val = h.val
    omega

/-- Every row but the last reads the next row of the block. -/
theorem below_inner (a : FVec Ideal S256x64 .f32) (L : List (View.Piece (Elt Ideal) S264x64 .f32)) (n : Fin 256) (h : Fin 64)
    (hn : n.val + 1 < 256) : below a L (ix2 n h) = a (ix2 ⟨n.val + 1, hn⟩ h) := by
  unfold below
  rw [View.readCov_eq_canon']
  show View.canon _ _ = _
  rw [below_idx]
  have e : (ix2 ⟨n.val + 1, by omega⟩ h : S264x64.Idx)
      = (Rect.unit ![0, 0] ![256, 64] inb_S264x64_S256x64_0_0 : Rect S264x64).emb (ix2 ⟨n.val + 1, hn⟩ h) := by
    funext b
    apply Fin.ext
    fin_cases b
    · show n.val + 1 = 0 + 1 * (n.val + 1)
      omega
    · show h.val = 0 + 1 * h.val
      omega
  rw [e]
  exact View.canon_cons_emb (Val := Elt Ideal) (Rect.unit ![0, 0] ![256, 64] inb_S264x64_S256x64_0_0 : Rect S264x64) a L (ix2 ⟨n.val + 1, hn⟩ h)

/-- A row past a block is not in it. -/
theorem off_block (a : FVec Ideal S256x64 .f32) (h : Fin 64) :
    (ix2 (256 : Fin 264) h : S264x64.Idx) ∉
      ((⟨Rect.unit ![0, 0] ![256, 64] inb_S264x64_S256x64_0_0, a⟩ : View.Piece (Elt Ideal) S264x64 .f32)).1.set := by
  intro hm
  have q := (Rect.mem_set_unit (s := S264x64) (off := ![0, 0]) (size := ![256, 64]) (inb := inb_S264x64_S256x64_0_0)).1 hm 0
  have q2 : (256 : ℕ) < 0 + 256 := q.2
  omega

/-- The row of zeros. -/
theorem zeros_row (h : Fin 64) : View.canon [zeros] (ix2 (256 : Fin 264) h : S264x64.Idx) = (0 : EReal) := by
  have e : (ix2 (256 : Fin 264) h : S264x64.Idx)
      = (Rect.unit ![256, 0] ![8, 64] inb_S264x64_S8x64_256_0 : Rect S264x64).emb (ix2 (0 : Fin 8) h) := by
    funext b
    apply Fin.ext
    fin_cases b
    · rfl
    · show h.val = 0 + 1 * h.val
      omega
  rw [e]
  refine (View.canon_cons_emb (Val := Elt Ideal) (e := .f32) (Rect.unit ![256, 0] ![8, 64] inb_S264x64_S8x64_256_0 : Rect S264x64)
    (k0_pay3 : FVec Ideal S8x64 .f32) [] (ix2 (0 : Fin 8) h)).trans ?_
  pointwise [k0_pay3]

/-- The last row reads zeros, after one block. -/
theorem below_last (a : FVec Ideal S256x64 .f32) (h : Fin 64) : below a [zeros] (ix2 (255 : Fin 256) h) = (0 : EReal) := by
  unfold below
  rw [View.readCov_eq_canon']
  show View.canon _ _ = _
  rw [below_idx]
  refine (View.canon_cons_of_not_mem _ _ (off_block a h)).trans (zeros_row h)

/-- The last row reads zeros, after two blocks. -/
theorem below_last' (a b : FVec Ideal S256x64 .f32) (h : Fin 64) :
    below a [⟨Rect.unit ![0, 0] ![256, 64] inb_S264x64_S256x64_0_0, b⟩, zeros] (ix2 (255 : Fin 256) h) = (0 : EReal) := by
  unfold below
  rw [View.readCov_eq_canon']
  show View.canon _ _ = _
  rw [below_idx]
  refine (View.canon_cons_of_not_mem _ _ (off_block a h)).trans ?_
  exact (View.canon_cons_of_not_mem _ _ (off_block b h)).trans (zeros_row h)

/-! ## What is left -/

section
variable (m : (ℓ : Loc nD τ sig) → Buf (Elt Ideal) ℓ) (c : Dev nD) (t : Fin cfg0.N)

/-- The first weights staged at a point, the keys' and the values'. -/
def w1k : Vec Ideal S1x2048x64 .bf16 := View.ld (iblk m c 2 t) (Rect.unit ![0, 0, 0] ![1, 2048, 64] inb_S2x2048x64_S1x2048x64_0_0_0)
@[inherit_doc w1k] def w1v : Vec Ideal S1x2048x64 .bf16 := View.ld (iblk m c 2 t) (Rect.unit ![1, 0, 0] ![1, 2048, 64] inb_S2x2048x64_S1x2048x64_1_0_0)

/-- The second weights staged at a point, the keys' and the values'. -/
def w2k : Vec Ideal S1x64x64 .bf16 := View.ld (iblk m c 3 t) (Rect.unit ![0, 0, 0] ![1, 64, 64] inb_S2x64x64_S1x64x64_0_0_0)
@[inherit_doc w2k] def w2v : Vec Ideal S1x64x64 .bf16 := View.ld (iblk m c 3 t) (Rect.unit ![1, 0, 0] ![1, 64, 64] inb_S2x64x64_S1x64x64_1_0_0)

/-- The positions staged at a point, the keys' and the values'. -/
def posk : Vec Ideal S1x1x2048 .f32 := View.ld (iblk m c 4 t) (Rect.unit ![0, 0, 0] ![1, 1, 2048] inb_S2x1x2048_S1x1x2048_0_0_0)
@[inherit_doc posk] def posv : Vec Ideal S1x1x2048 .f32 := View.ld (iblk m c 4 t) (Rect.unit ![1, 0, 0] ![1, 1, 2048] inb_S2x1x2048_S1x1x2048_1_0_0)

/-- The keys' gains staged at a point. -/
def gain : Vec Ideal S1x64 .f32 := View.ld (iblk m c 5 t) (Rect.unit ![0, 0] ![1, 64] inb_S3x64_S1x64_0_0)

/-- The keys' second halves, read one row down. -/
def belowk : FVec Ideal S256x64 .f32 := below (k0_pay6 (iblk m c 0 t) (w1k m c t)) [zeros]

/-- The values' second halves, read one row down. -/
def belowv : FVec Ideal S256x64 .f32 :=
  below (k0_pay14 (iblk m c 1 t) (w1v m c t)) [⟨Rect.unit ![0, 0] ![256, 64] inb_S264x64_S256x64_0_0, k0_pay6 (iblk m c 0 t) (w1k m c t)⟩, zeros]

/-- The first result takes the normalised compressed keys. -/
theorem keys_left : (outsAt0 m c t).1
    = k0_pay1 (k0_pay11 (k0_pay8 (iblk m c 0 t) (w1k m c t) (posk m c t) (belowk m c t))
        (k0_pay9 (iblk m c 0 t) (w1k m c t) (posk m c t) (belowk m c t)) k0_pay10 (w2k m c t)) (gain m c t) := by
  unfold outsAt0
  dsimp only
  frame_out [out0_A_6, VO0_6, kernelRun0_A]
  rfl

/-- The second result takes the compressed values. -/
theorem values_left : (outsAt0 m c t).2
    = k0_pay2 (k0_pay15 (iblk m c 1 t) (w1v m c t) (posv m c t) (belowv m c t))
        (k0_pay16 (iblk m c 1 t) (w1v m c t) (posv m c t) (belowv m c t))
        (k0_pay17 (iblk m c 1 t) (w1v m c t) (posv m c t) (belowv m c t)) (w2v m c t) := by
  unfold outsAt0
  dsimp only
  frame_out [out0_A_7, VO0_7, kernelRun0_A]
  rfl

end

/-! ## The payloads at an index -/

/-- The keys' rows of sixteen tokens, times the second half of the first weights. -/
theorem second_apply (x : Vec Ideal S1x256x1024 .f32) (w : Vec Ideal S1x2048x64 .bf16) (n : Fin 256) (h : Fin 64) :
    k0_pay6 x w (ix2 n h)
    = ∑ k : Fin 1024, x (ix3 (0 : Fin 1) n k) * w (ix3 (0 : Fin 1) (⟨1024 + k.val, by omega⟩ : Fin 2048) h) := by
  pointwise [k0_pay6, k0_pay5, k0_pay4]

/-- The values' rows of sixteen tokens, times the second half of the first weights. -/
theorem second_apply' (x : Vec Ideal S1x256x1024 .f32) (w : Vec Ideal S1x2048x64 .bf16) (n : Fin 256) (h : Fin 64) :
    k0_pay14 x w (ix2 n h)
    = ∑ k : Fin 1024, x (ix3 (0 : Fin 1) n k) * w (ix3 (0 : Fin 1) (⟨1024 + k.val, by omega⟩ : Fin 2048) h) := by
  pointwise [k0_pay14, k0_pay13, k0_pay12]

/-- The keys' first layer: the first half, what is read one row down, and the positions' product. -/
theorem first_apply (x : Vec Ideal S1x256x1024 .f32) (w : Vec Ideal S1x2048x64 .bf16) (p : Vec Ideal S1x1x2048 .f32)
    (b : FVec Ideal S256x64 .f32) (n : Fin 256) (h : Fin 64) :
    k0_pay7 x w p b (ix2 n h)
    = (∑ k : Fin 1024, x (ix3 (0 : Fin 1) n k) * w (ix3 (0 : Fin 1) (⟨k.val, by omega⟩ : Fin 2048) h)) + b (ix2 n h)
      + ∑ q : Fin 2048, p (ix3 (0 : Fin 1) (0 : Fin 1) q) * w (ix3 (0 : Fin 1) q h) := by
  pointwise [k0_pay7, k0_pay5, k0_pay4]

/-- The values' first layer, from the same three parts. -/
theorem first_apply' (x : Vec Ideal S1x256x1024 .f32) (w : Vec Ideal S1x2048x64 .bf16) (p : Vec Ideal S1x1x2048 .f32)
    (b : FVec Ideal S256x64 .f32) (n : Fin 256) (h : Fin 64) :
    k0_pay15 x w p b (ix2 n h)
    = (∑ k : Fin 1024, x (ix3 (0 : Fin 1) n k) * w (ix3 (0 : Fin 1) (⟨k.val, by omega⟩ : Fin 2048) h)) + b (ix2 n h)
      + ∑ q : Fin 2048, p (ix3 (0 : Fin 1) (0 : Fin 1) q) * w (ix3 (0 : Fin 1) q h) := by
  pointwise [k0_pay15, k0_pay13, k0_pay12]

/-- The keys' second layer over the nonlinearity of the first. -/
theorem layer_apply (x : Vec Ideal S1x256x1024 .f32) (w : Vec Ideal S1x2048x64 .bf16) (p : Vec Ideal S1x1x2048 .f32)
    (b : FVec Ideal S256x64 .f32) (w2 : Vec Ideal S1x64x64 .bf16) (n : Fin 256) (d : Fin 64) :
    k0_pay11 (k0_pay8 x w p b) (k0_pay9 x w p b) k0_pay10 w2 (ix2 n d)
    = ∑ h : Fin 64, gelu (k0_pay7 x w p b (ix2 n h)) * w2 (ix3 (0 : Fin 1) h d) := by
  refine Eq.trans ?_ (Finset.sum_congr rfl fun h _ => congrArg (· * w2 (ix3 (0 : Fin 1) h d)) (gelu_eq (k0_pay7 x w p b (ix2 n h))))
  pointwise [k0_pay11, k0_pay8, k0_pay9, k0_pay10]

/-- The values' second layer, with the window last. -/
theorem layer_apply' (x : Vec Ideal S1x256x1024 .f32) (w : Vec Ideal S1x2048x64 .bf16) (p : Vec Ideal S1x1x2048 .f32)
    (b : FVec Ideal S256x64 .f32) (w2 : Vec Ideal S1x64x64 .bf16) (n : Fin 256) (d : Fin 64) :
    k0_pay2 (k0_pay15 x w p b) (k0_pay16 x w p b) (k0_pay17 x w p b) w2 (ix3 (0 : Fin 1) d n)
    = ∑ h : Fin 64, gelu (k0_pay15 x w p b (ix2 n h)) * w2 (ix3 (0 : Fin 1) h d) := by
  refine Eq.trans ?_ (Finset.sum_congr rfl fun h _ => congrArg (· * w2 (ix3 (0 : Fin 1) h d)) (gelu_eq (k0_pay15 x w p b (ix2 n h))))
  pointwise [k0_pay2, k0_pay16, k0_pay17]

/-- The keys' normalisation. -/
theorem norm_apply (v : FVec Ideal S256x64 .f32) (g : Vec Ideal S1x64 .f32) (n : Fin 256) (d : Fin 64) :
    k0_pay1 v g (ix3 (0 : Fin 1) n d) = normed (fun j => v (ix2 n j)) (fun j => g (ix2 (0 : Fin 1) j)) d := by
  pointwise [k0_pay1]
  rfl

end Cert.Compress.Kernel
-- ==== Proof.CompressArray.lean ====
module
public import proofs.«01_k».proof.Proof.CompressCases
public import Idealize.ShloMosaic.Lib.Tactic.CleanTypes
@[expose] public section
set_option maxRecDepth 16384
noncomputable section

/-! The arrays the kernel's run ends with, as functions of its arguments. -/

namespace Cert.Compress.Kernel

open Cert.Kernel5Ideal Cert.Kernel5Ideal.Gen
open Idealize.ShloMosaic Idealize.ShloMosaic.TcCoe

/-! ## The grid -/

/-- There are four grid points. -/
theorem point_lt (t : Fin grid0.N) : t.val < 4 := lt_of_lt_of_eq t.isLt (show grid0.N = 4 from N_0)

/-- The grid's coordinate is the point. -/
theorem coord (t : Fin grid0.N) : (grid0.coords t 0).val = t.val := by
  have h := point_lt t
  rw [grid0.coords_val t 0 (S := 1) (B := 4) (by rfl) (by rfl)]
  omega

/-- The batch a point takes. -/
def batch (t : Fin grid0.N) : Fin 4 := ⟨t.val, point_lt t⟩

/-- The keys' window takes the point's batch. -/
theorem in_index (t : Fin grid0.N) : cc0_transform_0 (grid0.coords t) = ![t.val, 0, 0] := by
  have h := point_lt t
  funext a
  fin_cases a
  · show (BitVec.ofNat 32 (grid0.coords t 0).val).toNat = t.val
    rw [BitVec.toNat_ofNat, coord]
    omega
  · rfl
  · rfl

/-! ## The arrays the kernel reads -/

variable (m : (ℓ : Loc nD τ sig) → Buf (Elt Ideal) ℓ) (c : Dev nD)

/-- The keys laid out in rows of sixteen tokens. -/
theorem keys_entry (b : Fin 4) (n : Fin 256) (k : Fin 1024) :
    V m c main_v0 (ix3 b n k) = half (fun s d => (m ((c : Thread nD τ).loc main_arg0) : Vec Ideal S4x4096x64 .f32) (ix3 b s d)) n k := by
  entry_read
  clean_types
  pointwise
  refine congrArg (fun s => (m ((c : Thread nD τ).loc main_arg0) : Vec Ideal S4x4096x64 .f32)
    (ix3 b s (⟨k.val % 64, Nat.mod_lt _ (by decide)⟩ : Fin 64))) (Fin.ext ?_)
  show n.val * 16 + k.val / 64 = 16 * n.val + k.val / 64
  omega

/-- The values laid out in rows of sixteen tokens. -/
theorem values_entry (b : Fin 4) (n : Fin 256) (k : Fin 1024) :
    V m c main_v1 (ix3 b n k) = half (fun s d => (m ((c : Thread nD τ).loc main_arg1) : Vec Ideal S4x4096x64 .f32) (ix3 b s d)) n k := by
  entry_read
  clean_types
  pointwise
  refine congrArg (fun s => (m ((c : Thread nD τ).loc main_arg1) : Vec Ideal S4x4096x64 .f32)
    (ix3 b s (⟨k.val % 64, Nat.mod_lt _ (by decide)⟩ : Fin 64))) (Fin.ext ?_)
  show n.val * 16 + k.val / 64 = 16 * n.val + k.val / 64
  omega

/-- The first weights. -/
theorem w1_entry (j : Fin 2) (q : Fin 2048) (h : Fin 64) :
    V m c main_v2 (ix3 j q h) = (m ((c : Thread nD τ).loc main_arg3) : Vec Ideal S2x2048x64 .f32) (ix3 j q h) := by
  entry_read
  clean_types
  pointwise

/-- The second weights. -/
theorem w2_entry (j : Fin 2) (h d : Fin 64) :
    V m c main_v3 (ix3 j h d) = (m ((c : Thread nD τ).loc main_arg4) : Vec Ideal S2x64x64 .f32) (ix3 j h d) := by
  entry_read
  clean_types
  pointwise

/-- The positions laid out in one row. -/
theorem pos_entry (j : Fin 2) (q : Fin 2048) :
    V m c main_v4 (ix3 j (0 : Fin 1) q) = (m ((c : Thread nD τ).loc main_arg2) : Vec Ideal S2x32x64 .f32)
      (ix3 j (⟨q.val / 64, by omega⟩ : Fin 32) (⟨q.val % 64, by omega⟩ : Fin 64)) := by
  entry_read
  clean_types
  pointwise

/-! ## The blocks staged at a point -/

variable (t : Fin cfg0.N)

/-- A batch's keys. -/
def keyTok (b : Fin 4) (s : Fin 4096) (d : Fin 64) : EReal := (m ((c : Thread nD τ).loc main_arg0) : Vec Ideal S4x4096x64 .f32) (ix3 b s d)

/-- A batch's values. -/
def valTok (b : Fin 4) (s : Fin 4096) (d : Fin 64) : EReal := (m ((c : Thread nD τ).loc main_arg1) : Vec Ideal S4x4096x64 .f32) (ix3 b s d)

/-- The positions laid out in one row. -/
def pos (j : Fin 2) (q : Fin 2048) : EReal := (m ((c : Thread nD τ).loc main_arg2) : Vec Ideal S2x32x64 .f32)
  (ix3 j (⟨q.val / 64, by omega⟩ : Fin 32) (⟨q.val % 64, by omega⟩ : Fin 64))

/-- The first weights. -/
def w1 (j : Fin 2) (q : Fin 2048) (h : Fin 64) : EReal := (m ((c : Thread nD τ).loc main_arg3) : Vec Ideal S2x2048x64 .f32) (ix3 j q h)

/-- A column of the second weights. -/
def w2 (j : Fin 2) (d h : Fin 64) : EReal := (m ((c : Thread nD τ).loc main_arg4) : Vec Ideal S2x64x64 .f32) (ix3 j h d)

/-- The keys' gains. -/
def gains (d : Fin 64) : EReal := (m ((c : Thread nD τ).loc main_arg5) : Vec Ideal S3x64 .f32) (ix2 (0 : Fin 3) d)

/-- The keys staged at a point are its batch's. -/
theorem keys_apply (n : Fin 256) (k : Fin 1024) :
    (iblk m c 0 t : Vec Ideal S1x256x1024 .f32) (ix3 (0 : Fin 1) n k) = half (keyTok m c (batch t)) n k := by
  refine Eq.trans ?_ (keys_entry m c (batch t) n k)
  show V m c main_v0 _ = V m c main_v0 _
  congr 1
  funext a
  apply Fin.ext
  fin_cases a
  · show cc0_transform_0 (grid0.coords t) 0 * 1 + 1 * 0 = t.val
    rw [in_index]; simp
  · show cc0_transform_0 (grid0.coords t) 1 * 256 + 1 * n.val = n.val
    rw [in_index]; simp
  · show cc0_transform_0 (grid0.coords t) 2 * 1024 + 1 * k.val = k.val
    rw [in_index]; simp

/-- The values staged at a point are its batch's. -/
theorem values_apply (n : Fin 256) (k : Fin 1024) :
    (iblk m c 1 t : Vec Ideal S1x256x1024 .f32) (ix3 (0 : Fin 1) n k) = half (valTok m c (batch t)) n k := by
  refine Eq.trans ?_ (values_entry m c (batch t) n k)
  show V m c main_v1 _ = V m c main_v1 _
  congr 1
  funext a
  apply Fin.ext
  fin_cases a
  · show cc0_transform_0 (grid0.coords t) 0 * 1 + 1 * 0 = t.val
    rw [in_index]; simp
  · show cc0_transform_0 (grid0.coords t) 1 * 256 + 1 * n.val = n.val
    rw [in_index]; simp
  · show cc0_transform_0 (grid0.coords t) 2 * 1024 + 1 * k.val = k.val
    rw [in_index]; simp

/-- The first weights staged at a point, the keys'. -/
theorem w1k_apply (q : Fin 2048) (h : Fin 64) : w1k m c t (ix3 (0 : Fin 1) q h) = w1 m c 0 q h := by
  refine Eq.trans ?_ (w1_entry m c 0 q h)
  show V m c main_v2 _ = V m c main_v2 _
  congr 1
  funext a
  apply Fin.ext
  fin_cases a
  · rfl
  · show 0 * 2048 + 1 * (0 + 1 * q.val) = q.val
    omega
  · show 0 * 64 + 1 * (0 + 1 * h.val) = h.val
    omega

/-- The first weights staged at a point, the values'. -/
theorem w1v_apply (q : Fin 2048) (h : Fin 64) : w1v m c t (ix3 (0 : Fin 1) q h) = w1 m c 1 q h := by
  refine Eq.trans ?_ (w1_entry m c 1 q h)
  show V m c main_v2 _ = V m c main_v2 _
  congr 1
  funext a
  apply Fin.ext
  fin_cases a
  · rfl
  · show 0 * 2048 + 1 * (0 + 1 * q.val) = q.val
    omega
  · show 0 * 64 + 1 * (0 + 1 * h.val) = h.val
    omega

/-- The second weights staged at a point, the keys'. -/
theorem w2k_apply (h d : Fin 64) : w2k m c t (ix3 (0 : Fin 1) h d) = w2 m c 0 d h := by
  refine Eq.trans ?_ (w2_entry m c 0 h d)
  show V m c main_v3 _ = V m c main_v3 _
  congr 1
  funext a
  apply Fin.ext
  fin_cases a
  · rfl
  · show 0 * 64 + 1 * (0 + 1 * h.val) = h.val
    omega
  · show 0 * 64 + 1 * (0 + 1 * d.val) = d.val
    omega

/-- The second weights staged at a point, the values'. -/
theorem w2v_apply (h d : Fin 64) : w2v m c t (ix3 (0 : Fin 1) h d) = w2 m c 1 d h := by
  refine Eq.trans ?_ (w2_entry m c 1 h d)
  show V m c main_v3 _ = V m c main_v3 _
  congr 1
  funext a
  apply Fin.ext
  fin_cases a
  · rfl
  · show 0 * 64 + 1 * (0 + 1 * h.val) = h.val
    omega
  · show 0 * 64 + 1 * (0 + 1 * d.val) = d.val
    omega

/-- The positions staged at a point, the keys'. -/
theorem posk_apply (q : Fin 2048) : posk m c t (ix3 (0 : Fin 1) (0 : Fin 1) q) = pos m c 0 q := by
  refine Eq.trans ?_ (pos_entry m c 0 q)
  show V m c main_v4 _ = V m c main_v4 _
  congr 1
  funext a
  apply Fin.ext
  fin_cases a
  · rfl
  · rfl
  · show 0 * 2048 + 1 * (0 + 1 * q.val) = q.val
    omega

/-- The positions staged at a point, the values'. -/
theorem posv_apply (q : Fin 2048) : posv m c t (ix3 (0 : Fin 1) (0 : Fin 1) q) = pos m c 1 q := by
  refine Eq.trans ?_ (pos_entry m c 1 q)
  show V m c main_v4 _ = V m c main_v4 _
  congr 1
  funext a
  apply Fin.ext
  fin_cases a
  · rfl
  · rfl
  · show 0 * 2048 + 1 * (0 + 1 * q.val) = q.val
    omega

/-- The keys' gains staged at a point. -/
theorem gain_apply (d : Fin 64) : gain m c t (ix2 (0 : Fin 1) d) = gains m c d := by
  show V m c main_arg5 _ = _
  rw [V_main_arg5]
  show (m ((c : Thread nD τ).loc main_arg5) : Vec Ideal S3x64 .f32) _ = (m ((c : Thread nD τ).loc main_arg5) : Vec Ideal S3x64 .f32) _
  congr 1
  funext a
  apply Fin.ext
  fin_cases a
  · rfl
  · show 0 * 64 + 1 * (0 + 1 * d.val) = d.val
    omega

/-! ## The two results at a point -/

/-- A row that is read one down is the next row, and zero at the last. -/
theorem follow_of (f : FVec Ideal S256x64 .f32) (tok : Fin 4096 → Fin 64 → EReal) (w : Fin 1024 → EReal) (a : FVec Ideal S256x64 .f32)
    (h : Fin 64) (ha : ∀ n, a (ix2 n h) = ∑ k : Fin 1024, half tok n k * w k)
    (hin : ∀ (n : Fin 256) (hn : n.val + 1 < 256), f (ix2 n h) = a (ix2 ⟨n.val + 1, hn⟩ h))
    (hout : f (ix2 (255 : Fin 256) h) = (0 : EReal)) (n : Fin 256) : f (ix2 n h) = follow tok w n := by
  unfold follow
  split_ifs with hn
  · rw [hin n hn, ha]
  · have e : n = 255 := Fin.ext (by show n.val = 255; omega)
    rw [e]
    exact hout

/-- What follows the first halves of the keys' windows. -/
theorem belowk_apply (n : Fin 256) (h : Fin 64) : belowk m c t (ix2 n h)
    = follow (keyTok m c (batch t)) (fun k => w1 m c 0 ⟨1024 + k.val, by omega⟩ h) n := by
  refine follow_of _ _ _ (k0_pay6 (iblk m c 0 t) (w1k m c t)) h (fun n => ?_) (fun n hn => below_inner _ _ n h hn) (below_last _ h) n
  rw [second_apply]
  exact Finset.sum_congr rfl fun k _ => congrArg₂ (· * ·) (keys_apply m c t n k) (w1k_apply m c t _ h)

/-- What follows the first halves of the values' windows. -/
theorem belowv_apply (n : Fin 256) (h : Fin 64) : belowv m c t (ix2 n h)
    = follow (valTok m c (batch t)) (fun k => w1 m c 1 ⟨1024 + k.val, by omega⟩ h) n := by
  refine follow_of _ _ _ (k0_pay14 (iblk m c 1 t) (w1v m c t)) h (fun n => ?_) (fun n hn => below_inner _ _ n h hn) (below_last' _ _ h) n
  rw [second_apply']
  exact Finset.sum_congr rfl fun k _ => congrArg₂ (· * ·) (values_apply m c t n k) (w1v_apply m c t _ h)

/-- The positions and the first weights are real numbers. -/
def Finite' : Prop := (∀ j q, Cert.Router.Real' (pos m c j q)) ∧ ∀ j q h, Cert.Router.Real' (w1 m c j q h)

/-- The keys' first layer. -/
theorem hiddenk (hf : Finite' m c) (n : Fin 256) (h : Fin 64) :
    k0_pay7 (iblk m c 0 t) (w1k m c t) (posk m c t) (belowk m c t) (ix2 n h)
    = hidden (keyTok m c (batch t)) (pos m c 0) (fun q => w1 m c 0 q h) n := by
  rw [first_apply, ← hidden_eq _ _ _ (hf.1 0) (fun q => hf.2 0 q h), belowk_apply]
  refine congrArg₂ (· + ·) (congrArg (· + _) ?_) ?_
  · exact Finset.sum_congr rfl fun k _ => congrArg₂ (· * ·) (keys_apply m c t n k) (w1k_apply m c t _ h)
  · exact Finset.sum_congr rfl fun q _ => congrArg₂ (· * ·) (posk_apply m c t q) (w1k_apply m c t q h)

/-- The values' first layer. -/
theorem hiddenv (hf : Finite' m c) (n : Fin 256) (h : Fin 64) :
    k0_pay15 (iblk m c 1 t) (w1v m c t) (posv m c t) (belowv m c t) (ix2 n h)
    = hidden (valTok m c (batch t)) (pos m c 1) (fun q => w1 m c 1 q h) n := by
  rw [first_apply', ← hidden_eq _ _ _ (hf.1 1) (fun q => hf.2 1 q h), belowv_apply]
  refine congrArg₂ (· + ·) (congrArg (· + _) ?_) ?_
  · exact Finset.sum_congr rfl fun k _ => congrArg₂ (· * ·) (values_apply m c t n k) (w1v_apply m c t _ h)
  · exact Finset.sum_congr rfl fun q _ => congrArg₂ (· * ·) (posv_apply m c t q) (w1v_apply m c t q h)

/-- The compressed keys, normalised. -/
def keyResult (b : Fin 4) (n : Fin 256) (d : Fin 64) : EReal :=
  normed (fun e => compressed (keyTok m c b) (pos m c 0) (w1 m c 0) (w2 m c 0 e) n) (gains m c) d

/-- The compressed values. -/
def valResult (b : Fin 4) (d : Fin 64) (n : Fin 256) : EReal :=
  compressed (valTok m c b) (pos m c 1) (w1 m c 1) (w2 m c 1 d) n

/-- The first result's block. -/
theorem keys_block (hf : Finite' m c) (n : Fin 256) (d : Fin 64) :
    (outsAt0 m c t).1 (ix3 (0 : Fin 1) n d) = keyResult m c (batch t) n d := by
  rw [keys_left, norm_apply]
  show normed _ _ d = normed _ _ d
  congr 1
  · funext e
    rw [layer_apply]
    exact Finset.sum_congr rfl fun h _ => congrArg₂ (fun a b => gelu a * b) (hiddenk m c t hf n h) (w2k_apply m c t h e)
  · funext e
    exact gain_apply m c t e

/-- The second result's block. -/
theorem values_block (hf : Finite' m c) (n : Fin 256) (d : Fin 64) :
    (outsAt0 m c t).2 (ix3 (0 : Fin 1) d n) = valResult m c (batch t) d n := by
  rw [values_left, layer_apply']
  exact Finset.sum_congr rfl fun h _ => congrArg₂ (fun a b => gelu a * b) (hiddenv m c t hf n h) (w2v_apply m c t h d)

/-! ## The arrays -/

/-- Where an entry of the first result's block is written. -/
theorem keys_emb (y : S1x256x64.Idx) : ((cfg0.win 6).blk t).view.emb y = ix3 (batch t) (y 1) (y 2) := by
  funext a
  apply Fin.ext
  fin_cases a
  · show cc0_transform_0 (grid0.coords t) 0 * 1 + 1 * (y 0).val = t.val
    have q : (y 0).val < 1 := (y 0).isLt
    rw [in_index]
    show t.val * 1 + 1 * (y 0).val = t.val
    omega
  · show cc0_transform_0 (grid0.coords t) 1 * 256 + 1 * (y 1).val = (y 1).val
    rw [in_index]
    show 0 * 256 + 1 * (y 1).val = (y 1).val
    omega
  · show cc0_transform_0 (grid0.coords t) 2 * 64 + 1 * (y 2).val = (y 2).val
    rw [in_index]
    show 0 * 64 + 1 * (y 2).val = (y 2).val
    omega

/-- Where an entry of the second result's block is written. -/
theorem values_emb (y : S1x64x256.Idx) : ((cfg0.win 7).blk t).view.emb y = ix3 (batch t) (y 1) (y 2) := by
  funext a
  apply Fin.ext
  fin_cases a
  · show cc0_transform_0 (grid0.coords t) 0 * 1 + 1 * (y 0).val = t.val
    have q : (y 0).val < 1 := (y 0).isLt
    rw [in_index]
    show t.val * 1 + 1 * (y 0).val = t.val
    omega
  · show cc0_transform_0 (grid0.coords t) 1 * 64 + 1 * (y 1).val = (y 1).val
    rw [in_index]
    show 0 * 64 + 1 * (y 1).val = (y 1).val
    omega
  · show cc0_transform_0 (grid0.coords t) 2 * 256 + 1 * (y 2).val = (y 2).val
    rw [in_index]
    show 0 * 256 + 1 * (y 2).val = (y 2).val
    omega

/-- The first result's block at any index. -/
theorem keys_blockwise (hf : Finite' m c) (y : S1x256x64.Idx) : (outsAt0 m c t).1 y = keyResult m c (batch t) (y 1) (y 2) := by
  have hy : y = ix3 (0 : Fin 1) (y 1) (y 2) := by
    funext a
    fin_cases a
    · exact Subsingleton.elim (α := Fin 1) _ _
    · rfl
    · rfl
  exact (congrArg (outsAt0 m c t).1 hy).trans (keys_block m c t hf (y 1) (y 2))

/-- The second result's block at any index. -/
theorem values_blockwise (hf : Finite' m c) (y : S1x64x256.Idx) : (outsAt0 m c t).2 y = valResult m c (batch t) (y 1) (y 2) := by
  have hy : y = ix3 (0 : Fin 1) (y 1) (y 2) := by
    funext a
    fin_cases a
    · exact Subsingleton.elim (α := Fin 1) _ _
    · rfl
    · rfl
  exact (congrArg (outsAt0 m c t).2 hy).trans (values_block m c t hf (y 2) (y 1))

/-- The array of compressed keys after the run. -/
theorem keys_final (hf : Finite' m c) :
    (dats m 0 c).arrAt 6 cfg0.N = fun i : S4x256x64.Idx => keyResult m c (i 0) (i 1) (i 2) := by
  refine (dats m 0 c).arrAt_eq_of_covers 6 _ (by decide +kernel) fun t hq y => ?_
  blk_simp
  rw [after0_6]
  have e0 : (win0_6.blk t).view.emb y 0 = batch t := congrFun (keys_emb t y) 0
  have e1 : (win0_6.blk t).view.emb y 1 = y 1 := congrFun (keys_emb t y) 1
  have e2 : (win0_6.blk t).view.emb y 2 = y 2 := congrFun (keys_emb t y) 2
  rw [e0, e1, e2]
  exact keys_blockwise m c t hf y

/-- The array of compressed values after the run. -/
theorem values_final (hf : Finite' m c) :
    (dats m 0 c).arrAt 7 cfg0.N = fun i : S4x64x256.Idx => valResult m c (i 0) (i 1) (i 2) := by
  refine (dats m 0 c).arrAt_eq_of_covers 7 _ (by decide +kernel) fun t hq y => ?_
  blk_simp
  rw [after0_7]
  have e0 : (win0_7.blk t).view.emb y 0 = batch t := congrFun (values_emb t y) 0
  have e1 : (win0_7.blk t).view.emb y 1 = y 1 := congrFun (values_emb t y) 1
  have e2 : (win0_7.blk t).view.emb y 2 = y 2 := congrFun (values_emb t y) 2
  rw [e0, e1, e2]
  exact values_blockwise m c t hf y

end Cert.Compress.Kernel
-- ==== Proof.CompressReference.lean ====
module
public import proofs.«01_k».proof.Defs
public import proofs.«01_k».proof.Proof.CompressMath
public import proofs.«01_k».proof.Proof.Gen.Reference5Ideal.Run
public import Idealize.ShloMosaic.Lib.Pipeline.ValueKit
public import Idealize.ShloMosaic.Lib.KernelVsHost
@[expose] public section
set_option maxRecDepth 16384
noncomputable section

/-! The reference's compressed keys and values, as functions of its arguments. -/

namespace Cert.Compress.Reference

open Cert.Reference5Ideal Cert.Reference5Ideal.Gen
open Idealize.ShloMosaic Idealize.ShloMosaic.TcCoe

/-- The tokens with sixteen of zeros after the last. -/
def padded (x : Vec Ideal S4x4096x64 .f32) : FVec Ideal S4x4112x64 .f32 :=
  pad S4x4112x64 ![0, 0, 0] ![0, 16, 0] ![0, 0, 0] x (sitofp .f32 (constantI S_ 32 0#32)) pads_S4x4096x64_S4x4112x64_000_0160_000 h_S_

/-- The tokens' numbers in every window. -/
def place : IVec S256x32 32 :=
  addi (broadcastInDim S256x32 ![0, 1] bcast_S256x1_S256x32_0_1 (broadcastInDim S256x1 ![0] bcast_S256_S256x1_0 (muli (iotaInDim S256 32 0) (broadcastInDim S256 ![] bcast_S_S256 (constantI S_ 32 16#32))))) (broadcastInDim S256x32 ![0, 1] bcast_S1x32_S256x32_0_1 (broadcastInDim S1x32 ![1] bcast_S32_S1x32_1 (iotaInDim S32 32 0)))

/-- The same, counted from the end where negative. -/
def start : IVec S256x32x1 32 :=
  broadcastInDim S256x32x1 ![0, 1] bcast_S256x32_S256x32x1_0_1 (select (cmpi .slt place (broadcastInDim S256x32 ![] bcast_S_S256x32 (constantI S_ 32 0#32))) (addi place (broadcastInDim S256x32 ![] bcast_S_S256x32 (constantI S_ 32 4112#32))) place)

/-- The windows' tokens. -/
def windows (x : Vec Ideal S4x4096x64 .f32) : FVec Ideal S4x256x32x64 .f32 :=
  Host.gather gather_S4x4112x64_S256x32x1_S4x256x32x64_03_1_n_n_1_2_4164 (padded x) start

/-- A token of the padded array. -/
theorem padded_apply (x : Vec Ideal S4x4096x64 .f32) (b : Fin 4) (s : Fin 4112) (d : Fin 64) :
    padded x (ix3 b s d) = if h : s.val < 4096 then x (ix3 b ⟨s.val, h⟩ d) else (0 : EReal) := by
  unfold padded
  by_cases h : s.val < 4096
  · rw [dif_pos h]
    refine pad_apply_of_inside _ _ _ x _ _ _ (ix3 b s d) (ix3 b ⟨s.val, h⟩ d) fun a => ?_
    fin_cases a
    · show b.val = 0 + b.val * (0 + 1)
      omega
    · show s.val = 0 + s.val * (0 + 1)
      omega
    · show d.val = 0 + d.val * (0 + 1)
      omega
  · rw [dif_neg h]
    refine (pad_apply_of_not_inside _ _ _ x _ _ _ (ix3 b s d) 1 fun q => ?_).trans ?_
    · have q2 : (s.val - 0) / (0 + 1) < 4096 := q.2.2
      rw [Nat.div_one] at q2
      omega
    · pointwise
      show (((0#32).toInt : ℝ) : EReal) = 0
      simp

/-- A window's token by its number. -/
theorem start_apply (n : Fin 256) (l : Fin 32) : start (ix3 n l (0 : Fin 1)) = BitVec.ofNat 32 (16 * n.val + l.val) := by
  pointwise [start, place]
  have e : IntOp.addi (IntOp.muli (BitVec.ofNat 32 n.val) 16#32) (BitVec.ofNat 32 l.val) = BitVec.ofNat 32 (16 * n.val + l.val) := by
    apply BitVec.eq_of_toNat_eq
    show ((BitVec.ofNat 32 n.val) * 16#32 + BitVec.ofNat 32 l.val).toNat = _
    simp only [BitVec.toNat_add, BitVec.toNat_mul, BitVec.toNat_ofNat]
    omega
  rw [e]
  have e2 : IntOp.cmpi CmpIPredicate.slt (BitVec.ofNat 32 (16 * n.val + l.val)) 0#32 = 0#1 := by
    show BitVec.ofBool ((BitVec.ofNat 32 (16 * n.val + l.val)).slt 0#32) = 0#1
    have e3 : (BitVec.ofNat 32 (16 * n.val + l.val)).slt 0#32 = false := by
      rw [BitVec.slt_eq_decide, decide_eq_false_iff_not, BitVec.toInt_eq_toNat_of_lt (by rw [BitVec.toNat_ofNat]; omega)]
      exact not_lt.2 (Int.natCast_nonneg _)
    rw [e3]
    rfl
  rw [e2]
  rfl

/-- An entry of a window. -/
theorem windows_apply (x : Vec Ideal S4x4096x64 .f32) (b : Fin 4) (n : Fin 256) (l : Fin 32) (d : Fin 64) :
    windows x (ix4 b n l d) = padded x (ix3 b (⟨16 * n.val + l.val, by omega⟩ : Fin 4112) d) := by
  unfold windows Host.gather
  congr 1
  funext a
  refine Fin.ext ?_
  show gather_S4x4112x64_S256x32x1_S4x256x32x64_03_1_n_n_1_2_4164.start (ix4 b n l d) start a
    + gather_S4x4112x64_S256x32x1_S4x256x32x64_03_1_n_n_1_2_4164.batchCoord (ix4 b n l d) a
    + gather_S4x4112x64_S256x32x1_S4x256x32x64_03_1_n_n_1_2_4164.offCoord (ix4 b n l d) a = _
  rw [GatherDims.batchCoord_eq_zero _ _ _ List.not_mem_nil]
  fin_cases a
  · show gather_S4x4112x64_S256x32x1_S4x256x32x64_03_1_n_n_1_2_4164.start (ix4 b n l d) start 0 + 0
      + gather_S4x4112x64_S256x32x1_S4x256x32x64_03_1_n_n_1_2_4164.offCoord (ix4 b n l d) 0 = b.val
    unfold GatherDims.start GatherDims.offCoord
    rw [dif_neg (show (0 : Fin 3) ∉ gather_S4x4112x64_S256x32x1_S4x256x32x64_03_1_n_n_1_2_4164.startIndexMap from (by decide : (0 : Fin 3) ∉ [(1 : Fin 3)])),
      dif_pos ((GatherDims.mem_sKept _ _).mpr ⟨show (0 : Fin 3) ∉ gather_S4x4112x64_S256x32x1_S4x256x32x64_03_1_n_n_1_2_4164.collapsedSliceDims from (by decide : (0 : Fin 3) ∉ [(1 : Fin 3)]), List.not_mem_nil⟩), Nat.zero_add]
    rfl
  · show gather_S4x4112x64_S256x32x1_S4x256x32x64_03_1_n_n_1_2_4164.start (ix4 b n l d) start 1 + 0
      + gather_S4x4112x64_S256x32x1_S4x256x32x64_03_1_n_n_1_2_4164.offCoord (ix4 b n l d) 1 = 16 * n.val + l.val
    rw [GatherDims.offCoord_eq_zero _ _ _ (fun h => ((GatherDims.mem_sKept _ _).mp h).1 (List.mem_singleton.mpr rfl))]
    unfold GatherDims.start
    rw [dif_pos (show (1 : Fin 3) ∈ gather_S4x4112x64_S256x32x1_S4x256x32x64_03_1_n_n_1_2_4164.startIndexMap from List.mem_singleton.mpr rfl)]
    have hsi : gather_S4x4112x64_S256x32x1_S4x256x32x64_03_1_n_n_1_2_4164.siIdx (ix4 b n l d)
        ⟨List.idxOf (1 : Fin 3) gather_S4x4112x64_S256x32x1_S4x256x32x64_03_1_n_n_1_2_4164.startIndexMap,
          List.idxOf_lt_length_iff.2 (List.mem_singleton.mpr rfl)⟩ = ix3 n l (0 : Fin 1) := by
      funext q
      refine Fin.ext ?_
      match q with
      | ⟨0, _⟩ => rfl
      | ⟨1, _⟩ => rfl
      | ⟨2, _⟩ => rfl
    rw [hsi, start_apply, BitVec.toInt_eq_toNat_of_lt (by rw [BitVec.toNat_ofNat]; omega), BitVec.toNat_ofNat]
    show min (((16 * n.val + l.val) % 2 ^ 32 : ℕ) : ℤ).toNat (4112 - 1) + 0 + 0 = 16 * n.val + l.val
    omega
  · show gather_S4x4112x64_S256x32x1_S4x256x32x64_03_1_n_n_1_2_4164.start (ix4 b n l d) start 2 + 0
      + gather_S4x4112x64_S256x32x1_S4x256x32x64_03_1_n_n_1_2_4164.offCoord (ix4 b n l d) 2 = d.val
    unfold GatherDims.start GatherDims.offCoord
    rw [dif_neg (show (2 : Fin 3) ∉ gather_S4x4112x64_S256x32x1_S4x256x32x64_03_1_n_n_1_2_4164.startIndexMap from (by decide : (2 : Fin 3) ∉ [(1 : Fin 3)])),
      dif_pos ((GatherDims.mem_sKept _ _).mpr ⟨show (2 : Fin 3) ∉ gather_S4x4112x64_S256x32x1_S4x256x32x64_03_1_n_n_1_2_4164.collapsedSliceDims from (by decide : (2 : Fin 3) ∉ [(1 : Fin 3)]), List.not_mem_nil⟩), Nat.zero_add]
    rfl

/-- An entry of a window, laid out in one row. -/
theorem window_eq (x : Vec Ideal S4x4096x64 .f32) (b : Fin 4) (n : Fin 256) (q : Fin 2048) :
    windows x (ix4 b n (⟨q.val / 64, by omega⟩ : Fin 32) (⟨q.val % 64, by omega⟩ : Fin 64))
    = window (fun s d => x (ix3 b s d)) n q := by
  rw [windows_apply, padded_apply]
  rfl

/-- The keys' first layer. -/
def hidden0 (x : FVec Ideal S4x4096x64 .f32) (p : FVec Ideal S2x32x64 .f32) (w : FVec Ideal S2x2048x64 .f32) : FVec Ideal S4x256x64 .f32 :=
  Host.dotGeneral dot_S4x256x2048_S2048x64_S4x256x64_2_0_01_1_n_n none
    (shapeCast _ (addf (windows x) (broadcastInDim S4x256x32x64 ![0, 1, 2, 3] bcast_S1x1x32x64_S4x256x32x64_0_1_2_3 (broadcastInDim S1x1x32x64 ![2, 3] bcast_S32x64_S1x1x32x64_2_3 (shapeCast _ (extractStridedSlice S1x32x64 ![0, 0, 0] p slices_S2x32x64_S1x32x64_0_0_0) shapeCasts_S1x32x64_S32x64)))) shapeCasts_S4x256x32x64_S4x256x2048)
    (shapeCast _ (extractStridedSlice S1x2048x64 ![0, 0, 0] w slices_S2x2048x64_S1x2048x64_0_0_0) shapeCasts_S1x2048x64_S2048x64)

/-- The values' first layer. -/
def hidden1 (x : FVec Ideal S4x4096x64 .f32) (p : FVec Ideal S2x32x64 .f32) (w : FVec Ideal S2x2048x64 .f32) : FVec Ideal S4x256x64 .f32 :=
  Host.dotGeneral dot_S4x256x2048_S2048x64_S4x256x64_2_0_01_1_n_n none
    (shapeCast _ (addf (windows x) (broadcastInDim S4x256x32x64 ![0, 1, 2, 3] bcast_S1x1x32x64_S4x256x32x64_0_1_2_3 (broadcastInDim S1x1x32x64 ![2, 3] bcast_S32x64_S1x1x32x64_2_3 (shapeCast _ (extractStridedSlice S1x32x64 ![1, 0, 0] p slices_S2x32x64_S1x32x64_1_0_0) shapeCasts_S1x32x64_S32x64)))) shapeCasts_S4x256x32x64_S4x256x2048)
    (shapeCast _ (extractStridedSlice S1x2048x64 ![1, 0, 0] w slices_S2x2048x64_S1x2048x64_1_0_0) shapeCasts_S1x2048x64_S2048x64)

/-- The nonlinearity of an array. -/
def bent (v : FVec Ideal S4x256x64 .f32) : FVec Ideal S4x256x64 .f32 :=
  mulf v (mulf (broadcastInDim S4x256x64 ![] bcast_S_S4x256x64 (constant S_ .f32 0x3F000000#32)) (addf (broadcastInDim S4x256x64 ![] bcast_S_S4x256x64 (constant S_ .f32 0x3F800000#32)) (Host.tanh (mulf (broadcastInDim S4x256x64 ![] bcast_S_S4x256x64 (constant S_ .f32 0x3F4C422A#32)) (addf v (mulf (broadcastInDim S4x256x64 ![] bcast_S_S4x256x64 (constant S_ .f32 0x3D372713#32)) (mulf (mulf v v) v)))))))

/-- The keys' second layer. -/
def layer0 (v : FVec Ideal S4x256x64 .f32) (w : FVec Ideal S2x64x64 .f32) : FVec Ideal S4x256x64 .f32 :=
  Host.dotGeneral dot_S4x256x64_S64x64_S4x256x64_2_0_01_1_n_n none (bent v)
    (shapeCast _ (extractStridedSlice S1x64x64 ![0, 0, 0] w slices_S2x64x64_S1x64x64_0_0_0) shapeCasts_S1x64x64_S64x64)

/-- The values' second layer. -/
def layer1 (v : FVec Ideal S4x256x64 .f32) (w : FVec Ideal S2x64x64 .f32) : FVec Ideal S4x256x64 .f32 :=
  Host.dotGeneral dot_S4x256x64_S64x64_S4x256x64_2_0_01_1_n_n none (bent v)
    (shapeCast _ (extractStridedSlice S1x64x64 ![1, 0, 0] w slices_S2x64x64_S1x64x64_1_0_0) shapeCasts_S1x64x64_S64x64)

/-- The keys' first layer at an index. -/
theorem hidden0_apply (x : FVec Ideal S4x4096x64 .f32) (p : FVec Ideal S2x32x64 .f32) (w : FVec Ideal S2x2048x64 .f32)
    (b : Fin 4) (n : Fin 256) (h : Fin 64) : hidden0 x p w (ix3 b n h)
    = hidden (fun s d => x (ix3 b s d)) (fun q => p (ix3 (0 : Fin 2) (⟨q.val / 64, by omega⟩ : Fin 32) (⟨q.val % 64, by omega⟩ : Fin 64)))
        (fun q => w (ix3 (0 : Fin 2) q h)) n := by
  unfold hidden
  refine Eq.trans ?_ (Finset.sum_congr rfl fun q _ => congrArg (fun e => (e + _) * _) (window_eq x b n q))
  pointwise [hidden0]

/-- The values' first layer at an index. -/
theorem hidden1_apply (x : FVec Ideal S4x4096x64 .f32) (p : FVec Ideal S2x32x64 .f32) (w : FVec Ideal S2x2048x64 .f32)
    (b : Fin 4) (n : Fin 256) (h : Fin 64) : hidden1 x p w (ix3 b n h)
    = hidden (fun s d => x (ix3 b s d)) (fun q => p (ix3 (1 : Fin 2) (⟨q.val / 64, by omega⟩ : Fin 32) (⟨q.val % 64, by omega⟩ : Fin 64)))
        (fun q => w (ix3 (1 : Fin 2) q h)) n := by
  unfold hidden
  refine Eq.trans ?_ (Finset.sum_congr rfl fun q _ => congrArg (fun e => (e + _) * _) (window_eq x b n q))
  pointwise [hidden1]

/-- The keys' second layer at an index. -/
theorem layer0_apply (v : FVec Ideal S4x256x64 .f32) (w : FVec Ideal S2x64x64 .f32) (b : Fin 4) (n : Fin 256) (d : Fin 64) :
    layer0 v w (ix3 b n d) = ∑ h : Fin 64, gelu (v (ix3 b n h)) * w (ix3 (0 : Fin 2) h d) := by
  unfold gelu
  pointwise [layer0, bent]

/-- The values' second layer at an index. -/
theorem layer1_apply (v : FVec Ideal S4x256x64 .f32) (w : FVec Ideal S2x64x64 .f32) (b : Fin 4) (n : Fin 256) (d : Fin 64) :
    layer1 v w (ix3 b n d) = ∑ h : Fin 64, gelu (v (ix3 b n h)) * w (ix3 (1 : Fin 2) h d) := by
  unfold gelu
  pointwise [layer1, bent]

/-- An array's rows divided by their root mean square and scaled. -/
def normal (v : FVec Ideal S4x256x64 .f32) (g : FVec Ideal S3x64 .f32) : FVec Ideal S4x256x64 .f32 :=
  mulf (mulf v (broadcastInDim S4x256x64 ![0, 1, 2] bcast_S4x256x1_S4x256x64_0_1_2 (Host.rsqrt (addf (Host.divf (broadcastInDim S4x256x1 ![0, 1] bcast_S4x256_S4x256x1_0_1 (Host.reduceAdd (mulf v v) (constant S_ .f32 0x00000000#32) reducesTo_S4x256x64_S4x256_d2 h_S_)) (broadcastInDim S4x256x1 ![] bcast_S_S4x256x1 (constant S_ .f32 0x42800000#32))) (broadcastInDim S4x256x1 ![] bcast_S_S4x256x1 (constant S_ .f32 0x358637BD#32)))))) (broadcastInDim S4x256x64 ![0, 1, 2] bcast_S1x1x64_S4x256x64_0_1_2 (broadcastInDim S1x1x64 ![2] bcast_S64_S1x1x64_2 (shapeCast _ (extractStridedSlice S1x64 ![0, 0] g slices_S3x64_S1x64_0_0) shapeCasts_S1x64_S64)))

/-- The same at an index. -/
theorem normal_apply (v : FVec Ideal S4x256x64 .f32) (g : FVec Ideal S3x64 .f32) (b : Fin 4) (n : Fin 256) (d : Fin 64) :
    normal v g (ix3 b n d) = normed (fun e => v (ix3 b n e)) (fun e => g (ix2 (0 : Fin 3) e)) d := by
  unfold normed
  pointwise [normal]

/-- The values with the window last, at an index. -/
theorem turned_apply (v : FVec Ideal S4x256x64 .f32) (b : Fin 4) (d : Fin 64) (n : Fin 256) :
    (truncf .bf16 (transpose S4x64x256 [0, 2, 1] v transposes_S4x256x64_S4x64x256_0_2_1) bitsLt_bf16_f32 : FVec Ideal S4x64x256 .bf16) (ix3 b d n)
    = v (ix3 b n d) := by
  pointwise

variable (m : (ℓ : Loc nD τ sig) → Buf (Elt Ideal) ℓ) (c : Dev nD)

/-- The first result is the normalised keys. -/
theorem first_result : Value.res_main_v90 m c = truncf .bf16 (normal (layer0 (hidden0 (m ((c.tc : Thread nD τ).loc main_arg0))
    (m ((c.tc : Thread nD τ).loc main_arg2)) (m ((c.tc : Thread nD τ).loc main_arg3))) (m ((c.tc : Thread nD τ).loc main_arg4)))
    (m ((c.tc : Thread nD τ).loc main_arg5))) bitsLt_bf16_f32 := rfl

/-- The second result is the values with the window last. -/
theorem second_result : Value.res_main_v92 m c = truncf .bf16 (transpose S4x64x256 [0, 2, 1] (layer1 (hidden1 (m ((c.tc : Thread nD τ).loc main_arg1))
    (m ((c.tc : Thread nD τ).loc main_arg2)) (m ((c.tc : Thread nD τ).loc main_arg3))) (m ((c.tc : Thread nD τ).loc main_arg4)))
    transposes_S4x256x64_S4x64x256_0_2_1) bitsLt_bf16_f32 := rfl

end Cert.Compress.Reference
-- ==== Proof.CompressFinite.lean ====
/- What the compression's precondition says: every window position and first weight is a real number. -/
module

public import proofs.«01_k».proof.Pre_finite_compress
public import proofs.«01_k».proof.Proof.RouterFinite
public import Idealize.ShloMosaic.Lib.ReduceAll
public import Idealize.ShloMosaic.Lib.WordArith

@[expose] public section

namespace Cert.Compress.Precondition

open Idealize.ShloMosaic Idealize.ShloMosaic.WordArith Cert.Pre_finite_compress

/-- The shape relations the predicate's operations take hold. -/
theorem facts : Cert.Pre_finite_compress.Facts where
  bcast_S_S2x32x64 := by decide
  reducesTo_S2x32x64_S_d0_1_2 := by decide
  h_S_ := by decide
  bcast_S_S2x2048x64 := by decide
  reducesTo_S2x2048x64_S_d0_1_2 := by decide

attribute [local instance] facts

/-- Where the predicate is set, the positions and the first weights are real numbers. -/
theorem finite {k v : FVec Ideal S4x4096x64 .f32} {p : FVec Ideal S2x32x64 .f32} {w1 : FVec Ideal S2x2048x64 .f32}
    {w2 : FVec Ideal S2x64x64 .f32} {g : FVec Ideal S3x64 .f32} (h : Cert.Pre_finite_compress.fn k v p w1 w2 g = fun _ => 1#1) :
    (∀ i, Cert.Router.Real' (p i)) ∧ ∀ i, Cert.Router.Real' (w1 i) := by
  have e := congrFun h (Shape.Idx.first Facts.h_S_)
  dsimp only [Cert.Pre_finite_compress.fn] at e
  have split : ∀ (a b : IVec S_ 1) (j : S_.Idx), andi a b j = 1#1 → a j = 1#1 ∧ b j = 1#1 := fun a b j q => by
    have q' : a j &&& b j = 1#1 := q
    revert q'
    generalize a j = s
    generalize b j = t
    revert s t
    decide
  obtain ⟨e1, e2⟩ := split _ _ _ e
  exact ⟨fun i => Cert.Router.Precondition.real_of_bit _ (Host.reduce_andi_all _ _ _ _ _ e1 i),
    fun i => Cert.Router.Precondition.real_of_bit _ (Host.reduce_andi_all _ _ _ _ _ e2 i)⟩

end Cert.Compress.Precondition
-- ==== Proof.CompressEquation.lean ====
module
public import proofs.«01_k».proof.Defs
public import proofs.«01_k».proof.Proof.CompressArray
public import proofs.«01_k».proof.Proof.CompressReference
public import proofs.«01_k».proof.Proof.CompressFinite
public import Idealize.ShloMosaic.Adequacy
public import Idealize.ShloMosaic.Init
@[expose] public section
set_option maxRecDepth 16384
noncomputable section

/-! The compressed keys and values: the kernel and the reference end with the same two results. -/

namespace Cert.Compress

open Idealize.ShloMosaic Idealize.ShloMosaic.TcCoe Idealize.SL.Sem

/-- The arguments the precondition speaks of are real numbers. -/
theorem finite_args (m : (ℓ : Loc Cert.Kernel5Ideal.nD Cert.Kernel5Ideal.τ Cert.Kernel5Ideal.sig) → Buf (Elt Ideal) ℓ)
    (hp : Cert.Pre_Kernel5Ideal_finite_compress (hPre_finite_compress := Precondition.facts) m) (c : Dev Cert.Kernel5Ideal.nD) :
    Kernel.Finite' m c := by
  obtain ⟨h2, h3⟩ := Precondition.finite (hp c)
  exact ⟨fun j q => h2 _, fun j q h => h3 (ix3 j q h)⟩

/-- Arrays of three axes that agree at every index are equal. -/
theorem of_entries {n₀ n₁ n₂ : ℕ} {f g : (⟨3, ![n₀, n₁, n₂]⟩ : Shape).Idx → EReal}
    (h : ∀ i j k, f (ix3 i j k) = g (ix3 i j k)) : f = g := by
  funext i
  have hi : i = ix3 (i 0) (i 1) (i 2) := by
    funext a
    fin_cases a <;> rfl
  rw [hi]
  exact h _ _ _

/-- The reference's keys at an index. -/
theorem reference_keys (x : FVec Ideal Cert.Reference5Ideal.S4x4096x64 .f32) (p : FVec Ideal Cert.Reference5Ideal.S2x32x64 .f32)
    (w : FVec Ideal Cert.Reference5Ideal.S2x2048x64 .f32) (u : FVec Ideal Cert.Reference5Ideal.S2x64x64 .f32)
    (g : FVec Ideal Cert.Reference5Ideal.S3x64 .f32) (b : Fin 4) (n : Fin 256) (d : Fin 64) :
    Reference.normal (Reference.layer0 (Reference.hidden0 x p w) u) g (ix3 b n d)
    = normed (fun e => compressed (fun s d => x (ix3 b s d))
        (fun q => p (ix3 (0 : Fin 2) (⟨q.val / 64, by omega⟩ : Fin 32) (⟨q.val % 64, by omega⟩ : Fin 64)))
        (fun q h => w (ix3 (0 : Fin 2) q h)) (fun h => u (ix3 (0 : Fin 2) h e)) n) (fun e => g (ix2 (0 : Fin 3) e)) d := by
  rw [Reference.normal_apply]
  refine congrArg (fun v => normed v _ d) (funext fun e => ?_)
  rw [Reference.layer0_apply]
  exact Finset.sum_congr rfl fun h _ => congrArg (fun a => gelu a * _) (Reference.hidden0_apply x p w b n h)

/-- The reference's values at an index. -/
theorem reference_values (x : FVec Ideal Cert.Reference5Ideal.S4x4096x64 .f32) (p : FVec Ideal Cert.Reference5Ideal.S2x32x64 .f32)
    (w : FVec Ideal Cert.Reference5Ideal.S2x2048x64 .f32) (u : FVec Ideal Cert.Reference5Ideal.S2x64x64 .f32)
    (b : Fin 4) (n : Fin 256) (d : Fin 64) :
    Reference.layer1 (Reference.hidden1 x p w) u (ix3 b n d)
    = compressed (fun s d => x (ix3 b s d))
        (fun q => p (ix3 (1 : Fin 2) (⟨q.val / 64, by omega⟩ : Fin 32) (⟨q.val % 64, by omega⟩ : Fin 64)))
        (fun q h => w (ix3 (1 : Fin 2) q h)) (fun h => u (ix3 (1 : Fin 2) h d)) n := by
  rw [Reference.layer1_apply]
  exact Finset.sum_congr rfl fun h _ => congrArg (fun a => gelu a * _) (Reference.hidden1_apply x p w b n h)

/-- The kernel and the reference, from memories that agree on the arguments, end with the same compressed keys and values. -/
theorem algebraic : Cert.algebraic_Kernel5Ideal_Reference5Ideal_pre_finite_compress (hPre_finite_compress := Precondition.facts) := by
  intro m ρ m' ρ' hp hagree
  refine ⟨fun c => (Cert.Kernel5Ideal.Gen.dats m 0 c).arrAt 6 Cert.Kernel5Ideal.cfg0.N,
    fun c => (Cert.Kernel5Ideal.Gen.dats m 0 c).arrAt 7 Cert.Kernel5Ideal.cfg0.N, ?_, ?_⟩
  · exact (θ_run Cert.Kernel5Ideal.defs _ _).mono (fun _ h c => ⟨h.1.out_eq c 6, h.1.out_eq c 7, h.2 c⟩)
      (θ_run_and (Cert.Kernel5Ideal.Gen.run_main m ρ) (Cert.Kernel5Ideal.Gen.unchanged m ρ))
  · have hF := finite_args m hp
    refine (θ_run Cert.Reference5Ideal.defs _ _).mono (fun _ h c => ⟨(h c).1.trans ?_, (h c).2.1.trans ?_, (h c).2.2⟩)
      (Cert.Reference5Ideal.Value.run (F := Ideal) m' ρ')
    · obtain ⟨h0, h1, h2, h3, h4, h5⟩ := hagree c
      refine Eq.trans ?_ (Kernel.keys_final m c (hF c)).symm
      rw [Reference.first_result, h0, h2, h3, h4, h5]
      exact of_entries fun b n d => reference_keys _ _ _ _ _ b n d
    · obtain ⟨h0, h1, h2, h3, h4, h5⟩ := hagree c
      refine Eq.trans ?_ (Kernel.values_final m c (hF c)).symm
      rw [Reference.second_result, h1, h2, h3, h4]
      exact of_entries fun b d n => (Reference.turned_apply _ b d n).trans (reference_values _ _ _ _ b n d)

end Cert.Compress
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.TablesKernel
public import proofs.«01_k».proof.Proof.Equation
public import proofs.«01_k».proof.Proof.Packing
public import proofs.«01_k».proof.Proof.Projection
public import proofs.«01_k».proof.Proof.RouterEquation
public import proofs.«01_k».proof.Proof.CompressEquation

@[expose] public section

noncomputable section

namespace Cert.Proof

open Idealize.ShloMosaic Idealize.SL.Sem

/-- The kernel runs and leaves its arguments and every counter as they were. -/
theorem frame_kernel : Cert.quiescent_Kernel := fun m ρ hp =>
  Cert.Kernel.Gen.frame m ρ (Cert.Kernel.Experts.ok_of_pre hp)

/-- So does its idealization. -/
theorem frame_kernel_ideal : Cert.quiescent_KernelIdeal := fun m ρ hp =>
  Cert.KernelIdeal.Gen.frame m ρ (Cert.KernelIdeal.Experts.ok_of_pre hp)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference under the kernel's precondition. -/
theorem frame_reference_pre : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The packing of the projection's weights, as printed and idealized, and its reference run and change nothing else. -/
theorem frame_packing : Cert.quiescent_Kernel2 := fun m ρ _ => Cert.Kernel2.Gen.frame m ρ

/-- So does it over the extended reals. -/
theorem frame_packing_ideal : Cert.quiescent_Kernel2Ideal := fun m ρ _ => Cert.Kernel2Ideal.Gen.frame m ρ

/-- So does its reference. -/
theorem frame_packing_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection, as printed and idealized, and its reference run and change nothing else. -/
theorem frame_projection : Cert.quiescent_Kernel3 := fun m ρ _ => Cert.Kernel3.Gen.frame m ρ

/-- So does it over the extended reals. -/
theorem frame_projection_ideal : Cert.quiescent_Kernel3Ideal := fun m ρ _ => Cert.Kernel3Ideal.Gen.frame m ρ

/-- So does its reference. -/
theorem frame_projection_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection with the router, as printed and idealized, runs and changes nothing else, with or without the precondition. -/
theorem frame_router : Cert.quiescent_Kernel4 := fun m ρ _ => Cert.Kernel4.Gen.frame m ρ

/-- So does it over the extended reals. -/
theorem frame_router_ideal : Cert.quiescent_Kernel4Ideal := fun m ρ _ => Cert.Kernel4Ideal.Gen.frame m ρ

/-- The same under the precondition. -/
theorem frame_router_ideal_pre : Cert.quiescent_Kernel4Ideal_pre_finite_router (hPre_finite_router := Cert.Router.Precondition.facts) :=
  fun m ρ _ => Cert.Kernel4Ideal.Gen.frame m ρ

/-- So does its reference. -/
theorem frame_router_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The same of the reference under the precondition. -/
theorem frame_router_reference_pre :
    Cert.quiescent_Reference4Ideal_pre_finite_router (hPre_finite_router := Cert.Router.Precondition.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The literal that stands for minus infinity is minus infinity in the idealized router. -/
theorem masked_named : Cert.preserves_Kernel4_Kernel4Ideal :=
  IdealRules.named_const.statement Cert.Kernel4Ideal.κ "masked" .f32 0xF1C9F2CA#32 ⊥ rfl

/-- The compressed keys and values, as printed and idealized, run and change nothing else, with or without the precondition. -/
theorem frame_compress : Cert.quiescent_Kernel5 := fun m ρ _ => Cert.Kernel5.Gen.frame m ρ

/-- So do they over the extended reals. -/
theorem frame_compress_ideal : Cert.quiescent_Kernel5Ideal := fun m ρ _ => Cert.Kernel5Ideal.Gen.frame m ρ

/-- The same under the precondition. -/
theorem frame_compress_ideal_pre : Cert.quiescent_Kernel5Ideal_pre_finite_compress (hPre_finite_compress := Cert.Compress.Precondition.facts) :=
  fun m ρ _ => Cert.Kernel5Ideal.Gen.frame m ρ

/-- So does their reference. -/
theorem frame_compress_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The same of the reference under the precondition. -/
theorem frame_compress_reference_pre :
    Cert.quiescent_Reference5Ideal_pre_finite_compress (hPre_finite_compress := Cert.Compress.Precondition.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_in_range.Gen.facts, Cert.Router.Precondition.facts, Cert.Compress.Precondition.facts,
    frame_kernel, frame_kernel_ideal, frame_reference, frame_reference_pre,
    frame_packing, frame_packing_ideal, frame_packing_reference,
    frame_projection, frame_projection_ideal, frame_projection_reference,
    frame_router, frame_router_ideal, frame_router_ideal_pre, frame_router_reference, frame_router_reference_pre,
    frame_compress, frame_compress_ideal, frame_compress_ideal_pre, frame_compress_reference, frame_compress_reference_pre,
    trivial, Cert.Experts.algebraic, trivial, Cert.Packing.algebraic, trivial, Cert.Projection.algebraic,
    masked_named, Cert.Router.algebraic, trivial, Cert.Compress.algebraic⟩

end Cert.Proof

end
